-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_cutoff_resolved [hPre_cutoff_resolved : Cert.Pre_cutoff_resolved.Facts] (m : (ℓ : Loc Cert.KernelIdeal.nD Cert.KernelIdeal.τ Cert.KernelIdeal.sig) → Buf (Elt Ideal) ℓ) : Prop :=
  ∀ c : Dev Cert.KernelIdeal.nD,
    (Cert.Pre_cutoff_resolved.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_cutoff_resolved.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cutoff_resolved [hPre_cutoff_resolved : Cert.Pre_cutoff_resolved.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cutoff_resolved.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_cutoff_resolved.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_cutoff_resolved [hKernelIdeal : Cert.KernelIdeal.Facts] [hPre_cutoff_resolved : Cert.Pre_cutoff_resolved.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cutoff_resolved m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_cutoff_resolved [hReferenceIdeal : Cert.ReferenceIdeal.Facts] [hPre_cutoff_resolved : Cert.Pre_cutoff_resolved.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cutoff_resolved m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_cutoff_resolved [hKernelIdeal : Cert.KernelIdeal.Facts] [hReferenceIdeal : Cert.ReferenceIdeal.Facts] [hPre_cutoff_resolved : Cert.Pre_cutoff_resolved.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cutoff_resolved m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_cutoff_resolved : Cert.Pre_cutoff_resolved.Facts),
    quiescent_Kernel (hKernel := hKernel)
    ∧ quiescent_KernelIdeal (hKernelIdeal := hKernelIdeal)
    ∧ quiescent_KernelIdeal_pre_cutoff_resolved (hKernelIdeal := hKernelIdeal) (hPre_cutoff_resolved := hPre_cutoff_resolved)
    ∧ quiescent_ReferenceIdeal (hReferenceIdeal := hReferenceIdeal)
    ∧ quiescent_ReferenceIdeal_pre_cutoff_resolved (hReferenceIdeal := hReferenceIdeal) (hPre_cutoff_resolved := hPre_cutoff_resolved)
    ∧ preserves_Kernel_KernelIdeal
    ∧ algebraic_KernelIdeal_ReferenceIdeal_pre_cutoff_resolved (hKernelIdeal := hKernelIdeal) (hReferenceIdeal := hReferenceIdeal) (hPre_cutoff_resolved := hPre_cutoff_resolved)
-- ==== Pre_cutoff_resolved.lean ====
abbrev S32x1000000 : Shape := ⟨2, ![32, 1000000]⟩
abbrev S32x2048x1024 : Shape := ⟨3, ![32, 2048, 1024]⟩
abbrev S1024x2 : Shape := ⟨2, ![1024, 2]⟩
abbrev S2 : Shape := ⟨1, ![2]⟩
abbrev S_ : Shape := ⟨0, ![]⟩
abbrev S32 : Shape := ⟨1, ![32]⟩
abbrev S32x1 : Shape := ⟨2, ![32, 1]⟩
abbrev S32x1000000x1 : Shape := ⟨3, ![32, 1000000, 1]⟩
abbrev S1 : Shape := ⟨1, ![1]⟩
abbrev S1x1x1 : Shape := ⟨3, ![1, 1, 1]⟩
abbrev S32x999999 : Shape := ⟨2, ![32, 999999]⟩
abbrev S32x1000000x2 : Shape := ⟨3, ![32, 1000000, 2]⟩
abbrev S1x1 : Shape := ⟨2, ![1, 1]⟩

class Facts : Prop where
  bcast_S_S32x1000000 : S_.BroadcastsInDim S32x1000000 (![] : Fin 0 → Fin S32x1000000.rank)
  reducesTo_S32x1000000_S32_d1 : S32x1000000.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S32x1_S32x1000000_0_1 : S32x1.BroadcastsInDim S32x1000000 (![0, 1] : Fin 2 → Fin S32x1000000.rank)
  shapeCasts_S32x1000000_S32x1000000x1 : S32x1000000.ShapeCasts S32x1000000x1
  bcast_S_S32x1000000x1 : S_.BroadcastsInDim S32x1000000x1 (![] : Fin 0 → Fin S32x1000000x1.rank)
  bcast_S1_S1x1x1_2 : S1.BroadcastsInDim S1x1x1 (![2] : Fin 1 → Fin S1x1x1.rank)
  bcast_S1x1x1_S32x1000000x1_0_1_2 : S1x1x1.BroadcastsInDim S32x1000000x1 (![0, 1, 2] : Fin 3 → Fin S32x1000000x1.rank)
  reducesTo_S32x1000000x1_S32x1000000_d2 : S32x1000000x1.ReducesTo [2] S32x1000000
  bcast_S_S_ : S_.BroadcastsInDim S_ (![] : Fin 0 → Fin S_.rank)
  reduceWindows_S32x1000000_S32x1000000_w1s1p0_0_w1000000s1p999999_0 : S32x1000000.ReduceWindows (![1, 1000000] : Fin 2 → Nat) ![1, 1] ![0, 999999] ![0, 0] S32x1000000
  slices_S32x1000000_S32x1_0_0 : S32x1000000.Slices ![0, 0] S32x1
  bcast_S_S32x1 : S_.BroadcastsInDim S32x1 (![] : Fin 0 → Fin S32x1.rank)
  slices_S32x1000000_S32x999999_0_0 : S32x1000000.Slices ![0, 0] S32x999999
  concatenates_S32x1_S32x999999_S32x1000000_d1 : Shape.Concatenates [S32x1, S32x999999] S32x1000000 1
  bcast_S32x1000000_S32x1000000x1_0_1 : S32x1000000.BroadcastsInDim S32x1000000x1 (![0, 1] : Fin 2 → Fin S32x1000000x1.rank)
  concatenates_S32x1000000x1_S32x1000000x1_S32x1000000x2_d2 : Shape.Concatenates [S32x1000000x1, S32x1000000x1] S32x1000000x2 2
  bcast_S_S1 : S_.BroadcastsInDim S1 (![] : Fin 0 → Fin S1.rank)
  concatenates_S1_S1_S2_d0 : Shape.Concatenates [S1, S1] S2 0
  bcast_S_S1x1 : S_.BroadcastsInDim S1x1 (![] : Fin 0 → Fin S1x1.rank)
  slices_S2_S1_0 : S2.Slices ![0] S1
  shapeCasts_S1_S_ : S1.ShapeCasts S_
  slices_S2_S1_1 : S2.Slices ![1] S1
  natLt_32_64 : 32 < 64
  bcast_S1x1_S32x1000000_0_1 : S1x1.BroadcastsInDim S32x1000000 (![0, 1] : Fin 2 → Fin S32x1000000.rank)
  gather_S32x1000000_S32x1000000x1_S32x1000000_n_1_0_0_1_2_11_wf : GatherDims.WF S32x1000000 S32x1000000x1 S32x1000000 [] [1] [0] [1] [0] 2 ![1, 1]
  scatter_S32x1000000_S32x1000000x2_S32x1000000_n_01_01_2_wf : ScatterDims.WF S32x1000000 S32x1000000x2 S32x1000000 [] [0, 1] [0, 1] 2

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S32x1000000_S32x1000000x1_S32x1000000_n_1_0_0_1_2_11 : GatherDims S32x1000000 S32x1000000x1 S32x1000000 where
  offsetDims := []
  collapsedSliceDims := [1]
  operandBatchingDims := [0]
  startIndicesBatchingDims := [0]
  startIndexMap := [1]
  indexVectorDim := 2
  sliceSizes := ![1, 1]
  wf := gather_S32x1000000_S32x1000000x1_S32x1000000_n_1_0_0_1_2_11_wf
def scatter_S32x1000000_S32x1000000x2_S32x1000000_n_01_01_2 : ScatterDims S32x1000000 S32x1000000x2 S32x1000000 where
  updateWindowDims := []
  insertedWindowDims := [0, 1]
  scatterDimsToOperandDims := [0, 1]
  indexVectorDim := 2
  wf := scatter_S32x1000000_S32x1000000x2_S32x1000000_n_01_01_2_wf

def fn_clip {F : FTy → Type} [FloatOps F] (arg0 : FVec F S_ .f32) (arg1 : FVec F S_ .f32) (arg2 : FVec F S_ .f32) : FVec F S_ .f32 :=
  let v0 : FVec F S_ .f32 := maximumf arg1 arg0
  let v1 : FVec F S_ .f32 := minimumf arg2 v0
  v1

def fn_argsort {F : FTy → Type} [FloatOps F] (arg0 : FVec F S32x1000000 .f32) : IVec S32x1000000 32 :=
  let v0 : IVec S32x1000000 32 := iotaInDim S32x1000000 32 1
  let v1_0 : FVec F S32x1000000 .f32 := (fun x y => (Host.sort2 S32x1000000 1 comparator_f32_i32_d1 x y).1) arg0 v0
  let v1_1 : IVec S32x1000000 32 := (fun x y => (Host.sort2 S32x1000000 1 comparator_f32_i32_d1 x y).2) arg0 v0
  v1_1

def fn_take_along_axis {F : FTy → Type} [FloatOps F] (arg0 : FVec F S32x1000000 .f32) (arg1 : IVec S32x1000000 32) : FVec F S32x1000000 .f32 :=
  let c : IVec S_ 32 := constantI S_ 32 0#32
  let v0 : IVec S32x1000000 32 := broadcastInDim S32x1000000 ![] bcast_S_S32x1000000 c
  let v1 : IVec S32x1000000 1 := cmpi .slt arg1 v0
  let c_0 : IVec S_ 32 := constantI S_ 32 1000000#32
  let v2 : IVec S32x1000000 32 := broadcastInDim S32x1000000 ![] bcast_S_S32x1000000 c_0
  let v3 : IVec S32x1000000 32 := addi arg1 v2
  let v4 : IVec S32x1000000 32 := select v1 v3 arg1
  let v5 : IVec S32x1000000x1 32 := shapeCast S32x1000000x1 v4 shapeCasts_S32x1000000_S32x1000000x1
  let c_1 : IVec S1 32 := constantI S1 32 999999#32
  let c_2 : IVec S_ 32 := constantI S_ 32 0#32
  let v6 : IVec S32x1000000x1 32 := broadcastInDim S32x1000000x1 ![] bcast_S_S32x1000000x1 c_2
  let v7 : IVec S32x1000000x1 1 := cmpi .sge v5 v6
  let v8 : IVec S1x1x1 32 := broadcastInDim S1x1x1 ![2] bcast_S1_S1x1x1_2 c_1
  let v9 : IVec S32x1000000x1 32 := broadcastInDim S32x1000000x1 ![0, 1, 2] bcast_S1x1x1_S32x1000000x1_0_1_2 v8
  let v10 : IVec S32x1000000x1 1 := cmpi .sle v5 v9
  let v11 : IVec S32x1000000x1 1 := andi v7 v10
  let c_3 : IVec S_ 1 := constantI S_ 1 1#1
  let v12 : IVec S32x1000000 1 := (fun x v => Host.reduce IntOp.andi x v reducesTo_S32x1000000x1_S32x1000000_d2 h_S_) v11 c_3
  let v13 : FVec F S32x1000000 .f32 := (fun x i => Host.gather gather_S32x1000000_S32x1000000x1_S32x1000000_n_1_0_0_1_2_11 x i) arg0 v5
  let cst : FVec F S_ .f32 := constant S_ .f32 0x7FC00000#32
  let v14 : FVec F S32x1000000 .f32 := broadcastInDim S32x1000000 ![] bcast_S_S32x1000000 cst
  let v15 : FVec F S32x1000000 .f32 := select v12 v13 v14
  v15

def fn_cumsum_0 {F : FTy → Type} [FloatOps F] (arg0 : FVec F S32x1000000 .f32) : FVec F S32x1000000 .f32 :=
  let cst : FVec F S_ .f32 := constant S_ .f32 0x00000000#32
  let v0 : FVec F S_ .f32 := broadcastInDim S_ ![] bcast_S_S_ cst
  let v1 : FVec F S32x1000000 .f32 := (fun x v => Host.reduceWindowAdd ![1, 1000000] ![1, 1] ![0, 999999] ![0, 0] x v reduceWindows_S32x1000000_S32x1000000_w1s1p0_0_w1000000s1p999999_0 h_S_) arg0 v0
  v1

def fn_cumsum {F : FTy → Type} [FloatOps F] (arg0 : FVec F S32x1000000 .f32) : FVec F S32x1000000 .f32 :=
  let v0 : FVec F S32x1000000 .f32 := fn_cumsum_0 (F := F) arg0
  v0

def fn_where {F : FTy → Type} [FloatOps F] (arg0 : IVec S32x1000000 1) (arg1 : FVec F S_ .f32) (arg2 : FVec F S32x1000000 .f32) : FVec F S32x1000000 .f32 :=
  let v0 : FVec F S_ .f32 := id arg1
  let v1 : FVec F S32x1000000 .f32 := broadcastInDim S32x1000000 ![] bcast_S_S32x1000000 v0
  let v2 : FVec F S32x1000000 .f32 := select arg0 v1 arg2
  v2

def fn_threefry2x32_part9 {F : FTy → Type} [FloatOps F] (arg0 : IVec S_ 32) (v163 : IVec S32x1000000 32) (v169 : IVec S32x1000000 32) (v170 : IVec S32x1000000 32) : IVec S32x1000000 32 × IVec S32x1000000 32 :=
  let v171 : IVec S32x1000000 32 := addi v163 v170
  let v172 : IVec S32x1000000 32 := broadcastInDim S32x1000000 ![] bcast_S_S32x1000000 arg0
  let v173 : IVec S32x1000000 32 := addi v169 v172
  let c_44 : IVec S_ 32 := constantI S_ 32 5#32
  let v174 : IVec S32x1000000 32 := broadcastInDim S32x1000000 ![] bcast_S_S32x1000000 c_44
  let v175 : IVec S32x1000000 32 := addi v173 v174
  (v171, v175)

def fn_threefry2x32_part8 {F : FTy → Type} [FloatOps F] (arg0 : IVec S_ 32) (v1 : IVec S_ 32) (v148 : IVec S32x1000000 32) (v149 : IVec S32x1000000 32) (v151 : IVec S32x1000000 32) : IVec S32x1000000 32 × IVec S32x1000000 32 :=
  let c_39 : IVec S_ 32 := constantI S_ 32 17#32
  let v152 : IVec S32x1000000 32 := broadcastInDim S32x1000000 ![] bcast_S_S32x1000000 c_39
  let v153 : IVec S32x1000000 32 := Host.shrui v148 v152
  let v154 : IVec S32x1000000 32 := ori v151 v153
  let v155 : IVec S32x1000000 32 := xori v149 v154
  let v156 : IVec S32x1000000 32 := addi v149 v155
  let c_40 : IVec S_ 32 := constantI S_ 32 26#32
  let v157 : IVec S32x1000000 32 := broadcastInDim S32x1000000 ![] bcast_S_S32x1000000 c_40
  let v158 : IVec S32x1000000 32 := Host.shli v155 v157
  let c_41 : IVec S_ 32 := constantI S_ 32 6#32
  let v159 : IVec S32x1000000 32 := broadcastInDim S32x1000000 ![] bcast_S_S32x1000000 c_41
  let v160 : IVec S32x1000000 32 := Host.shrui v155 v159
  let v161 : IVec S32x1000000 32 := ori v158 v160
  let v162 : IVec S32x1000000 32 := xori v156 v161
  let v163 : IVec S32x1000000 32 := addi v156 v162
  let c_42 : IVec S_ 32 := constantI S_ 32 6#32
  let v164 : IVec S32x1000000 32 := broadcastInDim S32x1000000 ![] bcast_S_S32x1000000 c_42
  let v165 : IVec S32x1000000 32 := Host.shli v162 v164
  let c_43 : IVec S_ 32 := constantI S_ 32 26#32
  let v166 : IVec S32x1000000 32 := broadcastInDim S32x1000000 ![] bcast_S_S32x1000000 c_43
  let v167 : IVec S32x1000000 32 := Host.shrui v162 v166
  let v168 : IVec S32x1000000 32 := ori v165 v167
  let v169 : IVec S32x1000000 32 := xori v163 v168
  let v170 : IVec S32x1000000 32 := broadcastInDim S32x1000000 ![] bcast_S_S32x1000000 v1
  fn_threefry2x32_part9 (F := F) arg0 v163 v169 v170

def fn_threefry2x32_part7 {F : FTy → Type} [FloatOps F] (arg0 : IVec S_ 32) (arg1 : IVec S_ 32) (v1 : IVec S_ 32) (v128 : IVec S32x1000000 32) (v129 : IVec S32x1000000 32) (v131 : IVec S32x1000000 32) (c_34 : IVec S_ 32) : IVec S32x1000000 32 × IVec S32x1000000 32 :=
  let v132 : IVec S32x1000000 32 := broadcastInDim S32x1000000 ![] bcast_S_S32x1000000 c_34
  let v133 : IVec S32x1000000 32 := Host.shrui v128 v132
  let v134 : IVec S32x1000000 32 := ori v131 v133
  let v135 : IVec S32x1000000 32 := xori v129 v134
  let v136 : IVec S32x1000000 32 := broadcastInDim S32x1000000 ![] bcast_S_S32x1000000 arg1
  let v137 : IVec S32x1000000 32 := addi v129 v136
  let v138 : IVec S32x1000000 32 := broadcastInDim S32x1000000 ![] bcast_S_S32x1000000 v1
  let v139 : IVec S32x1000000 32 := addi v135 v138
  let c_35 : IVec S_ 32 := constantI S_ 32 4#32
  let v140 : IVec S32x1000000 32 := broadcastInDim S32x1000000 ![] bcast_S_S32x1000000 c_35
  let v141 : IVec S32x1000000 32 := addi v139 v140
  let v142 : IVec S32x1000000 32 := addi v137 v141
  let c_36 : IVec S_ 32 := constantI S_ 32 13#32
  let v143 : IVec S32x1000000 32 := broadcastInDim S32x1000000 ![] bcast_S_S32x1000000 c_36
  let v144 : IVec S32x1000000 32 := Host.shli v141 v143
  let c_37 : IVec S_ 32 := constantI S_ 32 19#32
  let v145 : IVec S32x1000000 32 := broadcastInDim S32x1000000 ![] bcast_S_S32x1000000 c_37
  let v146 : IVec S32x1000000 32 := Host.shrui v141 v145
  let v147 : IVec S32x1000000 32 := ori v144 v146
  let v148 : IVec S32x1000000 32 := xori v142 v147
  let v149 : IVec S32x1000000 32 := addi v142 v148
  let c_38 : IVec S_ 32 := constantI S_ 32 15#32
  let v150 : IVec S32x1000000 32 := broadcastInDim S32x1000000 ![] bcast_S_S32x1000000 c_38
  let v151 : IVec S32x1000000 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S32x1000000 32) (v113 : IVec S32x1000000 32) : IVec S32x1000000 32 × IVec S32x1000000 32 :=
  let v114 : IVec S32x1000000 32 := xori v108 v113
  let v115 : IVec S32x1000000 32 := addi v108 v114
  let c_29 : IVec S_ 32 := constantI S_ 32 29#32
  let v116 : IVec S32x1000000 32 := broadcastInDim S32x1000000 ![] bcast_S_S32x1000000 c_29
  let v117 : IVec S32x1000000 32 := Host.shli v114 v116
  let c_30 : IVec S_ 32 := constantI S_ 32 3#32
  let v118 : IVec S32x1000000 32 := broadcastInDim S32x1000000 ![] bcast_S_S32x1000000 c_30
  let v119 : IVec S32x1000000 32 := Host.shrui v114 v118
  let v120 : IVec S32x1000000 32 := ori v117 v119
  let v121 : IVec S32x1000000 32 := xori v115 v120
  let v122 : IVec S32x1000000 32 := addi v115 v121
  let c_31 : IVec S_ 32 := constantI S_ 32 16#32
  let v123 : IVec S32x1000000 32 := broadcastInDim S32x1000000 ![] bcast_S_S32x1000000 c_31
  let v124 : IVec S32x1000000 32 := Host.shli v121 v123
  let c_32 : IVec S_ 32 := constantI S_ 32 16#32
  let v125 : IVec S32x1000000 32 := broadcastInDim S32x1000000 ![] bcast_S_S32x1000000 c_32
  let v126 : IVec S32x1000000 32 := Host.shrui v121 v125
  let v127 : IVec S32x1000000 32 := ori v124 v126
  let v128 : IVec S32x1000000 32 := xori v122 v127
  let v129 : IVec S32x1000000 32 := addi v122 v128
  let c_33 : IVec S_ 32 := constantI S_ 32 24#32
  let v130 : IVec S32x1000000 32 := broadcastInDim S32x1000000 ![] bcast_S_S32x1000000 c_33
  let v131 : IVec S32x1000000 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S32x1000000 32) (v94 : IVec S32x1000000 32) : IVec S32x1000000 32 × IVec S32x1000000 32 :=
  let v95 : IVec S32x1000000 32 := addi v88 v94
  let c_24 : IVec S_ 32 := constantI S_ 32 6#32
  let v96 : IVec S32x1000000 32 := broadcastInDim S32x1000000 ![] bcast_S_S32x1000000 c_24
  let v97 : IVec S32x1000000 32 := Host.shli v94 v96
  let c_25 : IVec S_ 32 := constantI S_ 32 26#32
  let v98 : IVec S32x1000000 32 := broadcastInDim S32x1000000 ![] bcast_S_S32x1000000 c_25
  let v99 : IVec S32x1000000 32 := Host.shrui v94 v98
  let v100 : IVec S32x1000000 32 := ori v97 v99
  let v101 : IVec S32x1000000 32 := xori v95 v100
  let v102 : IVec S32x1000000 32 := broadcastInDim S32x1000000 ![] bcast_S_S32x1000000 arg0
  let v103 : IVec S32x1000000 32 := addi v95 v102
  let v104 : IVec S32x1000000 32 := broadcastInDim S32x1000000 ![] bcast_S_S32x1000000 arg1
  let v105 : IVec S32x1000000 32 := addi v101 v104
  let c_26 : IVec S_ 32 := constantI S_ 32 3#32
  let v106 : IVec S32x1000000 32 := broadcastInDim S32x1000000 ![] bcast_S_S32x1000000 c_26
  let v107 : IVec S32x1000000 32 := addi v105 v106
  let v108 : IVec S32x1000000 32 := addi v103 v107
  let c_27 : IVec S_ 32 := constantI S_ 32 17#32
  let v109 : IVec S32x1000000 32 := broadcastInDim S32x1000000 ![] bcast_S_S32x1000000 c_27
  let v110 : IVec S32x1000000 32 := Host.shli v107 v109
  let c_28 : IVec S_ 32 := constantI S_ 32 15#32
  let v111 : IVec S32x1000000 32 := broadcastInDim S32x1000000 ![] bcast_S_S32x1000000 c_28
  let v112 : IVec S32x1000000 32 := Host.shrui v107 v111
  let v113 : IVec S32x1000000 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S32x1000000 32) (v74 : IVec S32x1000000 32) (v75 : IVec S32x1000000 32) : IVec S32x1000000 32 × IVec S32x1000000 32 :=
  let v76 : IVec S32x1000000 32 := Host.shli v73 v75
  let c_19 : IVec S_ 32 := constantI S_ 32 19#32
  let v77 : IVec S32x1000000 32 := broadcastInDim S32x1000000 ![] bcast_S_S32x1000000 c_19
  let v78 : IVec S32x1000000 32 := Host.shrui v73 v77
  let v79 : IVec S32x1000000 32 := ori v76 v78
  let v80 : IVec S32x1000000 32 := xori v74 v79
  let v81 : IVec S32x1000000 32 := addi v74 v80
  let c_20 : IVec S_ 32 := constantI S_ 32 15#32
  let v82 : IVec S32x1000000 32 := broadcastInDim S32x1000000 ![] bcast_S_S32x1000000 c_20
  let v83 : IVec S32x1000000 32 := Host.shli v80 v82
  let c_21 : IVec S_ 32 := constantI S_ 32 17#32
  let v84 : IVec S32x1000000 32 := broadcastInDim S32x1000000 ![] bcast_S_S32x1000000 c_21
  let v85 : IVec S32x1000000 32 := Host.shrui v80 v84
  let v86 : IVec S32x1000000 32 := ori v83 v85
  let v87 : IVec S32x1000000 32 := xori v81 v86
  let v88 : IVec S32x1000000 32 := addi v81 v87
  let c_22 : IVec S_ 32 := constantI S_ 32 26#32
  let v89 : IVec S32x1000000 32 := broadcastInDim S32x1000000 ![] bcast_S_S32x1000000 c_22
  let v90 : IVec S32x1000000 32 := Host.shli v87 v89
  let c_23 : IVec S_ 32 := constantI S_ 32 6#32
  let v91 : IVec S32x1000000 32 := broadcastInDim S32x1000000 ![] bcast_S_S32x1000000 c_23
  let v92 : IVec S32x1000000 32 := Host.shrui v87 v91
  let v93 : IVec S32x1000000 32 := ori v90 v92
  let v94 : IVec S32x1000000 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S32x1000000 32) (v54 : IVec S32x1000000 32) (v56 : IVec S32x1000000 32) : IVec S32x1000000 32 × IVec S32x1000000 32 :=
  let c_14 : IVec S_ 32 := constantI S_ 32 16#32
  let v57 : IVec S32x1000000 32 := broadcastInDim S32x1000000 ![] bcast_S_S32x1000000 c_14
  let v58 : IVec S32x1000000 32 := Host.shrui v53 v57
  let v59 : IVec S32x1000000 32 := ori v56 v58
  let v60 : IVec S32x1000000 32 := xori v54 v59
  let v61 : IVec S32x1000000 32 := addi v54 v60
  let c_15 : IVec S_ 32 := constantI S_ 32 24#32
  let v62 : IVec S32x1000000 32 := broadcastInDim S32x1000000 ![] bcast_S_S32x1000000 c_15
  let v63 : IVec S32x1000000 32 := Host.shli v60 v62
  let c_16 : IVec S_ 32 := constantI S_ 32 8#32
  let v64 : IVec S32x1000000 32 := broadcastInDim S32x1000000 ![] bcast_S_S32x1000000 c_16
  let v65 : IVec S32x1000000 32 := Host.shrui v60 v64
  let v66 : IVec S32x1000000 32 := ori v63 v65
  let v67 : IVec S32x1000000 32 := xori v61 v66
  let v68 : IVec S32x1000000 32 := broadcastInDim S32x1000000 ![] bcast_S_S32x1000000 v1
  let v69 : IVec S32x1000000 32 := addi v61 v68
  let v70 : IVec S32x1000000 32 := broadcastInDim S32x1000000 ![] bcast_S_S32x1000000 arg0
  let v71 : IVec S32x1000000 32 := addi v67 v70
  let c_17 : IVec S_ 32 := constantI S_ 32 2#32
  let v72 : IVec S32x1000000 32 := broadcastInDim S32x1000000 ![] bcast_S_S32x1000000 c_17
  let v73 : IVec S32x1000000 32 := addi v71 v72
  let v74 : IVec S32x1000000 32 := addi v69 v73
  let c_18 : IVec S_ 32 := constantI S_ 32 13#32
  let v75 : IVec S32x1000000 32 := broadcastInDim S32x1000000 ![] bcast_S_S32x1000000 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S32x1000000 32) (v37 : IVec S32x1000000 32) (c_8 : IVec S_ 32) : IVec S32x1000000 32 × IVec S32x1000000 32 :=
  let v38 : IVec S32x1000000 32 := broadcastInDim S32x1000000 ![] bcast_S_S32x1000000 c_8
  let v39 : IVec S32x1000000 32 := addi v37 v38
  let v40 : IVec S32x1000000 32 := addi v35 v39
  let c_9 : IVec S_ 32 := constantI S_ 32 17#32
  let v41 : IVec S32x1000000 32 := broadcastInDim S32x1000000 ![] bcast_S_S32x1000000 c_9
  let v42 : IVec S32x1000000 32 := Host.shli v39 v41
  let c_10 : IVec S_ 32 := constantI S_ 32 15#32
  let v43 : IVec S32x1000000 32 := broadcastInDim S32x1000000 ![] bcast_S_S32x1000000 c_10
  let v44 : IVec S32x1000000 32 := Host.shrui v39 v43
  let v45 : IVec S32x1000000 32 := ori v42 v44
  let v46 : IVec S32x1000000 32 := xori v40 v45
  let v47 : IVec S32x1000000 32 := addi v40 v46
  let c_11 : IVec S_ 32 := constantI S_ 32 29#32
  let v48 : IVec S32x1000000 32 := broadcastInDim S32x1000000 ![] bcast_S_S32x1000000 c_11
  let v49 : IVec S32x1000000 32 := Host.shli v46 v48
  let c_12 : IVec S_ 32 := constantI S_ 32 3#32
  let v50 : IVec S32x1000000 32 := broadcastInDim S32x1000000 ![] bcast_S_S32x1000000 c_12
  let v51 : IVec S32x1000000 32 := Host.shrui v46 v50
  let v52 : IVec S32x1000000 32 := ori v49 v51
  let v53 : IVec S32x1000000 32 := xori v47 v52
  let v54 : IVec S32x1000000 32 := addi v47 v53
  let c_13 : IVec S_ 32 := constantI S_ 32 16#32
  let v55 : IVec S32x1000000 32 := broadcastInDim S32x1000000 ![] bcast_S_S32x1000000 c_13
  let v56 : IVec S32x1000000 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S32x1000000 32) (v18 : IVec S32x1000000 32) : IVec S32x1000000 32 × IVec S32x1000000 32 :=
  let v19 : IVec S32x1000000 32 := xori v13 v18
  let v20 : IVec S32x1000000 32 := addi v13 v19
  let c_4 : IVec S_ 32 := constantI S_ 32 26#32
  let v21 : IVec S32x1000000 32 := broadcastInDim S32x1000000 ![] bcast_S_S32x1000000 c_4
  let v22 : IVec S32x1000000 32 := Host.shli v19 v21
  let c_5 : IVec S_ 32 := constantI S_ 32 6#32
  let v23 : IVec S32x1000000 32 := broadcastInDim S32x1000000 ![] bcast_S_S32x1000000 c_5
  let v24 : IVec S32x1000000 32 := Host.shrui v19 v23
  let v25 : IVec S32x1000000 32 := ori v22 v24
  let v26 : IVec S32x1000000 32 := xori v20 v25
  let v27 : IVec S32x1000000 32 := addi v20 v26
  let c_6 : IVec S_ 32 := constantI S_ 32 6#32
  let v28 : IVec S32x1000000 32 := broadcastInDim S32x1000000 ![] bcast_S_S32x1000000 c_6
  let v29 : IVec S32x1000000 32 := Host.shli v26 v28
  let c_7 : IVec S_ 32 := constantI S_ 32 26#32
  let v30 : IVec S32x1000000 32 := broadcastInDim S32x1000000 ![] bcast_S_S32x1000000 c_7
  let v31 : IVec S32x1000000 32 := Host.shrui v26 v30
  let v32 : IVec S32x1000000 32 := ori v29 v31
  let v33 : IVec S32x1000000 32 := xori v27 v32
  let v34 : IVec S32x1000000 32 := broadcastInDim S32x1000000 ![] bcast_S_S32x1000000 arg1
  let v35 : IVec S32x1000000 32 := addi v27 v34
  let v36 : IVec S32x1000000 32 := broadcastInDim S32x1000000 ![] bcast_S_S32x1000000 v1
  let v37 : IVec S32x1000000 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S32x1000000 32) (arg3 : IVec S32x1000000 32) : IVec S32x1000000 32 × IVec S32x1000000 32 :=
  let v0 : IVec S_ 32 := xori arg0 arg1
  let c : IVec S_ 32 := constantI S_ 32 466688986#32
  let v1 : IVec S_ 32 := xori v0 c
  let v2 : IVec S32x1000000 32 := broadcastInDim S32x1000000 ![] bcast_S_S32x1000000 arg0
  let v3 : IVec S32x1000000 32 := addi arg2 v2
  let v4 : IVec S32x1000000 32 := broadcastInDim S32x1000000 ![] bcast_S_S32x1000000 arg1
  let v5 : IVec S32x1000000 32 := addi arg3 v4
  let v6 : IVec S32x1000000 32 := addi v3 v5
  let c_0 : IVec S_ 32 := constantI S_ 32 13#32
  let v7 : IVec S32x1000000 32 := broadcastInDim S32x1000000 ![] bcast_S_S32x1000000 c_0
  let v8 : IVec S32x1000000 32 := Host.shli v5 v7
  let c_1 : IVec S_ 32 := constantI S_ 32 19#32
  let v9 : IVec S32x1000000 32 := broadcastInDim S32x1000000 ![] bcast_S_S32x1000000 c_1
  let v10 : IVec S32x1000000 32 := Host.shrui v5 v9
  let v11 : IVec S32x1000000 32 := ori v8 v10
  let v12 : IVec S32x1000000 32 := xori v6 v11
  let v13 : IVec S32x1000000 32 := addi v6 v12
  let c_2 : IVec S_ 32 := constantI S_ 32 15#32
  let v14 : IVec S32x1000000 32 := broadcastInDim S32x1000000 ![] bcast_S_S32x1000000 c_2
  let v15 : IVec S32x1000000 32 := Host.shli v12 v14
  let c_3 : IVec S_ 32 := constantI S_ 32 17#32
  let v16 : IVec S32x1000000 32 := broadcastInDim S32x1000000 ![] bcast_S_S32x1000000 c_3
  let v17 : IVec S32x1000000 32 := Host.shrui v12 v16
  let v18 : IVec S32x1000000 32 := ori v15 v17
  fn_threefry2x32_part1 (F := F) arg0 arg1 v1 v13 v18

def fn_uniform_part1 {F : FTy → Type} [FloatOps F] (v1 : FVec F S1x1 .f32) (v2 : FVec F S1x1 .f32) (v19 : IVec S32x1000000 32) : FVec F S32x1000000 .f32 :=
  let c_2 : IVec S_ 32 := constantI S_ 32 9#32
  let v20 : IVec S32x1000000 32 := broadcastInDim S32x1000000 ![] bcast_S_S32x1000000 c_2
  let v21 : IVec S32x1000000 32 := Host.shrui v19 v20
  let c_3 : IVec S_ 32 := constantI S_ 32 1065353216#32
  let v22 : IVec S32x1000000 32 := broadcastInDim S32x1000000 ![] bcast_S_S32x1000000 c_3
  let v23 : IVec S32x1000000 32 := ori v21 v22
  let v24 : FVec F S32x1000000 .f32 := bitcastToFloat .f32 v23
  let cst : FVec F S_ .f32 := constant S_ .f32 0x3F800000#32
  let v25 : FVec F S32x1000000 .f32 := broadcastInDim S32x1000000 ![] bcast_S_S32x1000000 cst
  let v26 : FVec F S32x1000000 .f32 := subf v24 v25
  let v27 : FVec F S1x1 .f32 := subf v2 v1
  let v28 : FVec F S32x1000000 .f32 := broadcastInDim S32x1000000 ![0, 1] bcast_S1x1_S32x1000000_0_1 v27
  let v29 : FVec F S32x1000000 .f32 := mulf v26 v28
  let v30 : FVec F S32x1000000 .f32 := broadcastInDim S32x1000000 ![0, 1] bcast_S1x1_S32x1000000_0_1 v1
  let v31 : FVec F S32x1000000 .f32 := addf v29 v30
  let v32 : FVec F S32x1000000 .f32 := broadcastInDim S32x1000000 ![0, 1] bcast_S1x1_S32x1000000_0_1 v1
  let v33 : FVec F S32x1000000 .f32 := maximumf v32 v31
  v33

def fn_uniform {F : FTy → Type} [FloatOps F] (arg0 : IVec S2 32) (arg1 : FVec F S_ .f32) (arg2 : FVec F S_ .f32) : FVec F S32x1000000 .f32 :=
  let v0 : FVec F S_ .f32 := id arg1
  let v1 : FVec F S1x1 .f32 := broadcastInDim S1x1 ![] bcast_S_S1x1 arg2
  let v2 : FVec F S1x1 .f32 := broadcastInDim S1x1 ![] bcast_S_S1x1 v0
  let v3 : IVec S1 32 := (extractStridedSlice S1 ![0] · slices_S2_S1_0) arg0
  let v4 : IVec S_ 32 := shapeCast S_ v3 shapeCasts_S1_S_
  let v5 : IVec S1 32 := (extractStridedSlice S1 ![1] · slices_S2_S1_1) arg0
  let v6 : IVec S_ 32 := shapeCast S_ v5 shapeCasts_S1_S_
  let v7 : IVec S32x1000000 64 := iotaInDim S32x1000000 64 0
  let v8 : IVec S32x1000000 64 := iotaInDim S32x1000000 64 1
  let c : IVec S_ 64 := constantI S_ 64 1000000#64
  let v9 : IVec S32x1000000 64 := broadcastInDim S32x1000000 ![] bcast_S_S32x1000000 c
  let v10 : IVec S32x1000000 64 := muli v9 v7
  let c_0 : IVec S_ 64 := constantI S_ 64 1#64
  let v11 : IVec S32x1000000 64 := broadcastInDim S32x1000000 ![] bcast_S_S32x1000000 c_0
  let v12 : IVec S32x1000000 64 := muli v11 v8
  let v13 : IVec S32x1000000 64 := addi v10 v12
  let c_1 : IVec S_ 64 := constantI S_ 64 32#64
  let v14 : IVec S32x1000000 64 := broadcastInDim S32x1000000 ![] bcast_S_S32x1000000 c_1
  let v15 : IVec S32x1000000 64 := Host.shrui v13 v14
  let v16 : IVec S32x1000000 32 := (trunci 32 · natLt_32_64) v13
  let v17 : IVec S32x1000000 32 := (trunci 32 · natLt_32_64) v15
  let v18_0 : IVec S32x1000000 32 := (fn_threefry2x32 (F := F) v4 v6 v17 v16).1
  let v18_1 : IVec S32x1000000 32 := (fn_threefry2x32 (F := F) v4 v6 v17 v16).2
  let v19 : IVec S32x1000000 32 := xori v18_0 v18_1
  fn_uniform_part1 (F := F) v1 v2 v19

def fn_gumbel {F : FTy → Type} [FloatOps F] (arg0 : IVec S2 32) : FVec F S32x1000000 .f32 :=
  let cst : FVec F S_ .f32 := constant S_ .f32 0x3F800000#32
  let cst_0 : FVec F S_ .f32 := constant S_ .f32 0x00800000#32
  let v0 : FVec F S32x1000000 .f32 := fn_uniform (F := F) arg0 cst cst_0
  let v1 : FVec F S32x1000000 .f32 := Host.log v0
  let v2 : FVec F S32x1000000 .f32 := Host.negf v1
  let v3 : FVec F S32x1000000 .f32 := Host.log v2
  let v4 : FVec F S32x1000000 .f32 := Host.negf v3
  v4

def fn_part4 {F : FTy → Type} [FloatOps F] (main_v46 : FVec F S32x1 .f32) (main_v61 : FVec F S32x1000000 .f32) (main_v64 : FVec F S32x1 .f32) (main_v69 : IVec S32x1000000 1) (main_v70 : FVec F S32x1 .f32) : IVec S32x1 1 × IVec S32x1000000 1 :=
  let main_v71 : IVec S32x1 1 := cmpf .olt main_v46 main_v70
  let main_v72 : IVec S32x1000000 1 := noti main_v69
  let main_v73 : FVec F S32x1000000 .f32 := broadcastInDim S32x1000000 ![0, 1] bcast_S32x1_S32x1000000_0_1 main_v64
  let main_v74 : IVec S32x1000000 1 := cmpf .olt main_v61 main_v73
  let main_v75 : IVec S32x1000000 1 := ori main_v72 main_v74
  (main_v71, main_v75)

def fn_part3 {F : FTy → Type} [FloatOps F] (main_v4 : FVec F S32x1000000 .f32) (main_v44 : IVec S32x1000000 1) (main_v46 : FVec F S32x1 .f32) (main_v49 : FVec F S32x1000000 .f32) (main_v52 : FVec F S32x1 .f32) (main_c_16 : IVec S_ 32) : IVec S32x1 1 × IVec S32x1000000 1 :=
  let main_c_17 : IVec S_ 32 := constantI S_ 32 32#32
  let main_v53 : IVec S_ 32 := Host.shrui main_c_16 main_c_17
  let main_v54 : IVec S_ 32 := id main_v53
  let main_v55 : IVec S1 32 := broadcastInDim S1 ![] bcast_S_S1 main_v54
  let main_c_18 : IVec S_ 32 := constantI S_ 32 4294967295#32
  let main_v56 : IVec S_ 32 := andi main_c_16 main_c_18
  let main_v57 : IVec S_ 32 := id main_v56
  let main_v58 : IVec S1 32 := broadcastInDim S1 ![] bcast_S_S1 main_v57
  let main_v59 : IVec S2 32 := (fun a b => concatenate S2 0 [⟨S1, a⟩, ⟨S1, b⟩] concatenates_S1_S1_S2_d0) main_v55 main_v58
  let main_v60 : FVec F S32x1000000 .f32 := fn_gumbel (F := F) main_v59
  let main_v61 : FVec F S32x1000000 .f32 := addf main_v4 main_v60
  let main_cst_19 : FVec F S_ .f32 := constant S_ .f32 0xFF800000#32
  let main_v62 : FVec F S32x1000000 .f32 := fn_where (F := F) main_v44 main_cst_19 main_v61
  let main_cst_20 : FVec F S_ .f32 := constant S_ .f32 0xFF800000#32
  let main_v63 : FVec F S32 .f32 := (fun x v => Host.reduce FloatOps.maximumf x v reducesTo_S32x1000000_S32_d1 h_S_) main_v62 main_cst_20
  let main_v64 : FVec F S32x1 .f32 := broadcastInDim S32x1 ![0] bcast_S32_S32x1_0 main_v63
  let main_cst_21 : FVec F S_ .f32 := constant S_ .f32 0x32800000#32
  let main_v65 : FVec F S32x1 .f32 := broadcastInDim S32x1 ![] bcast_S_S32x1 main_cst_21
  let main_v66 : FVec F S32x1 .f32 := subf main_v52 main_v65
  let main_v67 : FVec F S32x1000000 .f32 := broadcastInDim S32x1000000 ![0, 1] bcast_S32x1_S32x1000000_0_1 main_v66
  let main_v68 : IVec S32x1000000 1 := cmpf .ogt main_v49 main_v67
  let main_v69 : IVec S32x1000000 1 := andi main_v44 main_v68
  let main_cst_22 : FVec F S_ .f32 := constant S_ .f32 0x7F800000#32
  let main_v70 : FVec F S32x1 .f32 := broadcastInDim S32x1 ![] bcast_S_S32x1 main_cst_22
  fn_part4 (F := F) main_v46 main_v61 main_v64 main_v69 main_v70

def fn_part2 {F : FTy → Type} [FloatOps F] (main_v4 : FVec F S32x1000000 .f32) (main_v17 : IVec S32x1000000 32) (main_v26 : IVec S32x1000000 1) (main_v29 : IVec S32x1000000 1) (main_v34 : IVec S32x1 32) : IVec S32x1 1 × IVec S32x1000000 1 :=
  let main_c_11 : IVec S_ 32 := constantI S_ 32 0#32
  let main_v35 : IVec S32x1000000 32 := broadcastInDim S32x1000000 ![] bcast_S_S32x1000000 main_c_11
  let main_v36 : IVec S32x1000000 1 := cmpi .slt main_v17 main_v35
  let main_c_12 : IVec S_ 32 := constantI S_ 32 1000000#32
  let main_v37 : IVec S32x1000000 32 := broadcastInDim S32x1000000 ![] bcast_S_S32x1000000 main_c_12
  let main_v38 : IVec S32x1000000 32 := addi main_v17 main_v37
  let main_v39 : IVec S32x1000000 32 := select main_v36 main_v38 main_v17
  let main_v40 : IVec S32x1000000 32 := broadcastInDim S32x1000000 ![0, 1] bcast_S32x1_S32x1000000_0_1 main_v34
  let main_v41 : IVec S32x1000000x1 32 := broadcastInDim S32x1000000x1 ![0, 1] bcast_S32x1000000_S32x1000000x1_0_1 main_v40
  let main_v42 : IVec S32x1000000x1 32 := broadcastInDim S32x1000000x1 ![0, 1] bcast_S32x1000000_S32x1000000x1_0_1 main_v39
  let main_v43 : IVec S32x1000000x2 32 := (fun a b => concatenate S32x1000000x2 2 [⟨S32x1000000x1, a⟩, ⟨S32x1000000x1, b⟩] concatenates_S32x1000000x1_S32x1000000x1_S32x1000000x2_d2) main_v41 main_v42
  let main_v44 : IVec S32x1000000 1 := (fun x i u => Host.scatter scatter_S32x1000000_S32x1000000x2_S32x1000000_n_01_01_2 (fun _ b => b) x i u) main_v29 main_v43 main_v26
  let main_cst_13 : FVec F S_ .f32 := constant S_ .f32 0xFF800000#32
  let main_v45 : FVec F S32 .f32 := (fun x v => Host.reduce FloatOps.maximumf x v reducesTo_S32x1000000_S32_d1 h_S_) main_v4 main_cst_13
  let main_v46 : FVec F S32x1 .f32 := broadcastInDim S32x1 ![0] bcast_S32_S32x1_0 main_v45
  let main_v47 : FVec F S32x1000000 .f32 := broadcastInDim S32x1000000 ![0, 1] bcast_S32x1_S32x1000000_0_1 main_v46
  let main_v48 : FVec F S32x1000000 .f32 := subf main_v4 main_v47
  let main_v49 : FVec F S32x1000000 .f32 := Host.exp main_v48
  let main_cst_14 : FVec F S_ .f32 := constant S_ .f32 0x7F800000#32
  let main_v50 : FVec F S32x1000000 .f32 := fn_where (F := F) main_v44 main_cst_14 main_v49
  let main_cst_15 : FVec F S_ .f32 := constant S_ .f32 0x7F800000#32
  let main_v51 : FVec F S32 .f32 := (fun x v => Host.reduce FloatOps.minimumf x v reducesTo_S32x1000000_S32_d1 h_S_) main_v50 main_cst_15
  let main_v52 : FVec F S32x1 .f32 := broadcastInDim S32x1 ![0] bcast_S32_S32x1_0 main_v51
  let main_c_16 : IVec S_ 32 := constantI S_ 32 42#32
  fn_part3 (F := F) main_v4 main_v44 main_v46 main_v49 main_v52 main_c_16

def fn_part1 {F : FTy → Type} [FloatOps F] (main_v1 : FVec F S_ .f32) (main_v4 : FVec F S32x1000000 .f32) (main_v11 : FVec F S32x1000000 .f32) (main_v14 : FVec F S32x1000000 .f32) : IVec S32x1 1 × IVec S32x1000000 1 :=
  let main_v15 : FVec F S32x1000000 .f32 := Host.divf main_v11 main_v14
  let main_v16 : FVec F S32x1000000 .f32 := Host.negf main_v15
  let main_v17 : IVec S32x1000000 32 := fn_argsort (F := F) main_v16
  let main_v18 : FVec F S32x1000000 .f32 := fn_take_along_axis (F := F) main_v15 main_v17
  let main_v19 : FVec F S32x1000000 .f32 := fn_cumsum (F := F) main_v18
  let main_v20 : FVec F S_ .f32 := id main_v1
  let main_v21 : FVec F S32x1000000 .f32 := broadcastInDim S32x1000000 ![] bcast_S_S32x1000000 main_v20
  let main_v22 : IVec S32x1000000 1 := cmpf .ogt main_v19 main_v21
  let main_v23 : IVec S32x1 1 := (extractStridedSlice S32x1 ![0, 0] · slices_S32x1000000_S32x1_0_0) main_v22
  let main_c : IVec S_ 1 := constantI S_ 1 0#1
  let main_v24 : IVec S32x1 1 := broadcastInDim S32x1 ![] bcast_S_S32x1 main_c
  let main_v25 : IVec S32x999999 1 := (extractStridedSlice S32x999999 ![0, 0] · slices_S32x1000000_S32x999999_0_0) main_v22
  let main_v26 : IVec S32x1000000 1 := (fun a b => concatenate S32x1000000 1 [⟨S32x1, a⟩, ⟨S32x999999, b⟩] concatenates_S32x1_S32x999999_S32x1000000_d1) main_v24 main_v25
  let main_v27 : IVec S32 32 := iotaInDim S32 32 0
  let main_v28 : IVec S32x1 32 := broadcastInDim S32x1 ![0] bcast_S32_S32x1_0 main_v27
  let main_c_8 : IVec S_ 1 := constantI S_ 1 0#1
  let main_v29 : IVec S32x1000000 1 := broadcastInDim S32x1000000 ![] bcast_S_S32x1000000 main_c_8
  let main_c_9 : IVec S_ 32 := constantI S_ 32 0#32
  let main_v30 : IVec S32x1 32 := broadcastInDim S32x1 ![] bcast_S_S32x1 main_c_9
  let main_v31 : IVec S32x1 1 := cmpi .slt main_v28 main_v30
  let main_c_10 : IVec S_ 32 := constantI S_ 32 32#32
  let main_v32 : IVec S32x1 32 := broadcastInDim S32x1 ![] bcast_S_S32x1 main_c_10
  let main_v33 : IVec S32x1 32 := addi main_v28 main_v32
  let main_v34 : IVec S32x1 32 := select main_v31 main_v33 main_v28
  fn_part2 (F := F) main_v4 main_v17 main_v26 main_v29 main_v34

def fn {F : FTy → Type} [FloatOps F] (main_arg0 : FVec F S32x1000000 .f32) (main_arg1 : FVec F S32x2048x1024 .f32) (main_arg2 : FVec F S1024x2 .f32) (main_arg3 : FVec F S2 .f32) : IVec S32x1 1 × IVec S32x1000000 1 :=
  let main_cst : FVec F S_ .f32 := constant S_ .f32 0x3F8CCCCD#32
  let main_cst_0 : FVec F S_ .f32 := constant S_ .f32 0x3F333333#32
  let main_cst_1 : FVec F S_ .f32 := constant S_ .f32 0x3FC00000#32
  let main_v0 : FVec F S_ .f32 := fn_clip (F := F) main_cst main_cst_0 main_cst_1
  let main_cst_2 : FVec F S_ .f32 := constant S_ .f32 0x3F6A3D71#32
  let main_cst_3 : FVec F S_ .f32 := constant S_ .f32 0x3F59999A#32
  let main_cst_4 : FVec F S_ .f32 := constant S_ .f32 0x3F7AE148#32
  let main_v1 : FVec F S_ .f32 := fn_clip (F := F) main_cst_2 main_cst_3 main_cst_4
  let main_v2 : FVec F S_ .f32 := id main_v0
  let main_v3 : FVec F S32x1000000 .f32 := broadcastInDim S32x1000000 ![] bcast_S_S32x1000000 main_v2
  let main_v4 : FVec F S32x1000000 .f32 := Host.divf main_arg0 main_v3
  let main_cst_5 : FVec F S_ .f32 := constant S_ .f32 0xFF800000#32
  let main_v5 : FVec F S32 .f32 := (fun x v => Host.reduce FloatOps.maximumf x v reducesTo_S32x1000000_S32_d1 h_S_) main_v4 main_cst_5
  let main_cst_6 : FVec F S_ .f32 := constant S_ .f32 0xFF800000#32
  let main_v6 : FVec F S32 .f32 := broadcastInDim S32 ![] bcast_S_S32 main_cst_6
  let main_v7 : FVec F S32 .f32 := maximumf main_v6 main_v5
  let main_v8 : FVec F S32x1 .f32 := broadcastInDim S32x1 ![0] bcast_S32_S32x1_0 main_v7
  let main_v9 : FVec F S32x1000000 .f32 := broadcastInDim S32x1000000 ![0, 1] bcast_S32x1_S32x1000000_0_1 main_v8
  let main_v10 : FVec F S32x1000000 .f32 := subf main_v4 main_v9
  let main_v11 : FVec F S32x1000000 .f32 := Host.exp main_v10
  let main_cst_7 : FVec F S_ .f32 := constant S_ .f32 0x00000000#32
  let main_v12 : FVec F S32 .f32 := (fun x v => Host.reduceAdd x v reducesTo_S32x1000000_S32_d1 h_S_) main_v11 main_cst_7
  let main_v13 : FVec F S32x1 .f32 := broadcastInDim S32x1 ![0] bcast_S32_S32x1_0 main_v12
  let main_v14 : FVec F S32x1000000 .f32 := broadcastInDim S32x1000000 ![0, 1] bcast_S32x1_S32x1000000_0_1 main_v13
  fn_part1 (F := F) main_v1 main_v4 main_v11 main_v14
-- ==== Kernel.lean ====
abbrev S32x1000000 : Shape := ⟨2, ![32, 1000000]⟩
abbrev S32x2048x1024 : Shape := ⟨3, ![32, 2048, 1024]⟩
abbrev S1024x2 : Shape := ⟨2, ![1024, 2]⟩
abbrev S2 : Shape := ⟨1, ![2]⟩
abbrev S_ : Shape := ⟨0, ![]⟩
abbrev S32x1048576 : Shape := ⟨2, ![32, 1048576]⟩
abbrev S32x1024x1024 : Shape := ⟨3, ![32, 1024, 1024]⟩
abbrev S32x1x128 : Shape := ⟨3, ![32, 1, 128]⟩
abbrev S32x1x1 : Shape := ⟨3, ![32, 1, 1]⟩
abbrev S32x1 : Shape := ⟨2, ![32, 1]⟩
abbrev S1x1024x1024 : Shape := ⟨3, ![1, 1024, 1024]⟩
abbrev S1x1x128 : Shape := ⟨3, ![1, 1, 128]⟩
abbrev S1 : Shape := ⟨1, ![1]⟩
abbrev S1x1x1 : Shape := ⟨3, ![1, 1, 1]⟩
abbrev S1x128x1024 : Shape := ⟨3, ![1, 128, 1024]⟩

abbrev nBuf : Space → Nat
  | .hbm => 11
  | .vmem => 6
  | .smem => 0
  | _ => 0

abbrev bufTy : (tb : Table) → Fin (tcTables nBuf tb) → BufTy
  | .hbm, ⟨0, _⟩ => ⟨S32x1000000, .f32⟩
  | .hbm, ⟨1, _⟩ => ⟨S32x2048x1024, .f32⟩
  | .hbm, ⟨2, _⟩ => ⟨S1024x2, .f32⟩
  | .hbm, ⟨3, _⟩ => ⟨S2, .f32⟩
  | .hbm, ⟨4, _⟩ => ⟨S_, .f32⟩
  | .hbm, ⟨5, _⟩ => ⟨S32x1048576, .f32⟩
  | .hbm, ⟨6, _⟩ => ⟨S32x1024x1024, .f32⟩
  | .hbm, ⟨7, _⟩ => ⟨S32x1x128, .f32⟩
  | .hbm, ⟨8, _⟩ => ⟨S32x1x1, .f32⟩
  | .hbm, ⟨9, _⟩ => ⟨S32x1, .f32⟩
  | .hbm, ⟨10, _⟩ => ⟨S32x1, .i32⟩
  | .local _ .vmem, ⟨0, _⟩ => ⟨S1x1024x1024, .f32⟩
  | .local _ .vmem, ⟨1, _⟩ => ⟨S1x1024x1024, .f32⟩
  | .local _ .vmem, ⟨2, _⟩ => ⟨S1x1x128, .f32⟩
  | .local _ .vmem, ⟨3, _⟩ => ⟨S1x1x128, .f32⟩
  | .local _ .vmem, ⟨4, _⟩ => ⟨S1x1024x1024, .f32⟩
  | .local _ .vmem, ⟨5, _⟩ => ⟨S1x1024x1024, .f32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c26_i32 : BitVec 32 := 26#32
  let v21 : BitVec 32 := Scalar.addi c0_i32 c26_i32
  let c1_i32 : BitVec 32 := 1#32
  ⟨c0_i32, v21, c1_i32⟩
@[reducible] def k0_t2_loop : Scf.Loop 32 :=
  let c0_i32_15 : BitVec 32 := 0#32
  let c8_i32 : BitVec 32 := 8#32
  let v26 : BitVec 32 := Scalar.addi c0_i32_15 c8_i32
  let c1_i32_16 : BitVec 32 := 1#32
  ⟨c0_i32_15, v26, c1_i32_16⟩
def k0_off1 (k0_t2 : Fin k0_t2_loop.trips) : Fin 3 → Nat :=
  let c0_63 : Index := 0#32
  let c0_i32_15 : BitVec 32 := 0#32
  let c1_i32_16 : BitVec 32 := 1#32
  let arg5 : BitVec 32 := Scf.iv c0_i32_15 c1_i32_16 k0_t2
  let c128_i32_62 : BitVec 32 := 128#32
  let v222 : BitVec 32 := Scalar.muli arg5 c128_i32_62
  let v223 : Index := Scalar.indexCast v222
  let c0_64 : Index := 0#32
  ![0, v223.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S32x1000000 : Shape := ⟨2, ![32, 1000000]⟩
abbrev S32x2048x1024 : Shape := ⟨3, ![32, 2048, 1024]⟩
abbrev S1024x2 : Shape := ⟨2, ![1024, 2]⟩
abbrev S2 : Shape := ⟨1, ![2]⟩
abbrev S_ : Shape := ⟨0, ![]⟩
abbrev S32x1024 : Shape := ⟨2, ![32, 1024]⟩
abbrev S32x2 : Shape := ⟨2, ![32, 2]⟩
abbrev S1x2 : Shape := ⟨2, ![1, 2]⟩
abbrev S32x1 : Shape := ⟨2, ![32, 1]⟩
abbrev S32 : Shape := ⟨1, ![32]⟩
abbrev S32x1000000x1 : Shape := ⟨3, ![32, 1000000, 1]⟩
abbrev S1 : Shape := ⟨1, ![1]⟩
abbrev S1x1x1 : Shape := ⟨3, ![1, 1, 1]⟩
abbrev S32x999999 : Shape := ⟨2, ![32, 999999]⟩
abbrev S32x1000000x2 : Shape := ⟨3, ![32, 1000000, 2]⟩
abbrev S1x1 : Shape := ⟨2, ![1, 1]⟩

abbrev nBuf : Space → Nat
  | .hbm => 392
  | .vmem => 0
  | .smem => 0
  | _ => 0

abbrev hbmTy0_0 (i : Nat) : BufTy := match i % 128 with
  | 0 => ⟨S32x1000000, .f32⟩
  | 1 => ⟨S32x2048x1024, .f32⟩
  | 2 => ⟨S1024x2, .f32⟩
  | 3 => ⟨S2, .f32⟩
  | 4 => ⟨S_, .f32⟩
  | 5 => ⟨S32x1024, .f32⟩
  | 6 => ⟨S_, .f32⟩
  | 7 => ⟨S32x1024, .f32⟩
  | 8 => ⟨S32x1024, .f32⟩
  | 9 => ⟨S32x2, .f32⟩
  | 10 => ⟨S1x2, .f32⟩
  | 11 => ⟨S32x2, .f32⟩
  | 12 => ⟨S32x2, .f32⟩
  | 13 => ⟨S32x1, .f32⟩
  | 14 => ⟨S32, .f32⟩
  | 15 => ⟨S32x1, .f32⟩
  | 16 => ⟨S32, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S32x1000000, .f32⟩
  | 29 => ⟨S32x1000000, .f32⟩
  | 30 => ⟨S_, .f32⟩
  | 31 => ⟨S32, .f32⟩
  | 32 => ⟨S_, .f32⟩
  | 33 => ⟨S32, .f32⟩
  | 34 => ⟨S32, .f32⟩
  | 35 => ⟨S32x1, .f32⟩
  | 36 => ⟨S32x1000000, .f32⟩
  | 37 => ⟨S32x1000000, .f32⟩
  | 38 => ⟨S32x1000000, .f32⟩
  | 39 => ⟨S_, .f32⟩
  | 40 => ⟨S32, .f32⟩
  | 41 => ⟨S32x1, .f32⟩
  | 42 => ⟨S32x1000000, .f32⟩
  | 43 => ⟨S32x1000000, .f32⟩
  | 44 => ⟨S32x1000000, .f32⟩
  | 45 => ⟨S32x1000000, .i32⟩
  | 46 => ⟨S32x1000000, .f32⟩
  | 47 => ⟨S32x1000000, .i32⟩
  | 48 => ⟨S_, .i32⟩
  | 49 => ⟨S32x1000000, .i32⟩
  | 50 => ⟨S32x1000000, .i1⟩
  | 51 => ⟨S_, .i32⟩
  | 52 => ⟨S32x1000000, .i32⟩
  | 53 => ⟨S32x1000000, .i32⟩
  | 54 => ⟨S32x1000000, .i32⟩
  | 55 => ⟨S32x1000000x1, .i32⟩
  | 56 => ⟨S1, .i32⟩
  | 57 => ⟨S_, .i32⟩
  | 58 => ⟨S32x1000000x1, .i32⟩
  | 59 => ⟨S32x1000000x1, .i1⟩
  | 60 => ⟨S1x1x1, .i32⟩
  | 61 => ⟨S32x1000000x1, .i32⟩
  | 62 => ⟨S32x1000000x1, .i1⟩
  | 63 => ⟨S32x1000000x1, .i1⟩
  | 64 => ⟨S_, .i1⟩
  | 65 => ⟨S32x1000000, .i1⟩
  | 66 => ⟨S32x1000000, .f32⟩
  | 67 => ⟨S_, .f32⟩
  | 68 => ⟨S32x1000000, .f32⟩
  | 69 => ⟨S32x1000000, .f32⟩
  | 70 => ⟨S_, .f32⟩
  | 71 => ⟨S_, .f32⟩
  | 72 => ⟨S32x1000000, .f32⟩
  | 73 => ⟨S_, .f32⟩
  | 74 => ⟨S32x1000000, .f32⟩
  | 75 => ⟨S32x1000000, .i1⟩
  | 76 => ⟨S32x1, .i1⟩
  | 77 => ⟨S_, .i1⟩
  | 78 => ⟨S32x1, .i1⟩
  | 79 => ⟨S32x999999, .i1⟩
  | 80 => ⟨S32x1000000, .i1⟩
  | 81 => ⟨S32, .i32⟩
  | 82 => ⟨S32x1, .i32⟩
  | 83 => ⟨S_, .i1⟩
  | 84 => ⟨S32x1000000, .i1⟩
  | 85 => ⟨S_, .i32⟩
  | 86 => ⟨S32x1, .i32⟩
  | 87 => ⟨S32x1, .i1⟩
  | 88 => ⟨S_, .i32⟩
  | 89 => ⟨S32x1, .i32⟩
  | 90 => ⟨S32x1, .i32⟩
  | 91 => ⟨S32x1, .i32⟩
  | 92 => ⟨S_, .i32⟩
  | 93 => ⟨S32x1000000, .i32⟩
  | 94 => ⟨S32x1000000, .i1⟩
  | 95 => ⟨S_, .i32⟩
  | 96 => ⟨S32x1000000, .i32⟩
  | 97 => ⟨S32x1000000, .i32⟩
  | 98 => ⟨S32x1000000, .i32⟩
  | 99 => ⟨S32x1000000, .i32⟩
  | 100 => ⟨S32x1000000x1, .i32⟩
  | 101 => ⟨S32x1000000x1, .i32⟩
  | 102 => ⟨S32x1000000x2, .i32⟩
  | 103 => ⟨S32x1000000, .i1⟩
  | 104 => ⟨S_, .f32⟩
  | 105 => ⟨S_, .f32⟩
  | 106 => ⟨S32x1000000, .f32⟩
  | 107 => ⟨S32x1000000, .f32⟩
  | 108 => ⟨S_, .i32⟩
  | 109 => ⟨S_, .i32⟩
  | 110 => ⟨S_, .i32⟩
  | 111 => ⟨S_, .i32⟩
  | 112 => ⟨S1, .i32⟩
  | 113 => ⟨S_, .i32⟩
  | 114 => ⟨S_, .i32⟩
  | 115 => ⟨S_, .i32⟩
  | 116 => ⟨S1, .i32⟩
  | 117 => ⟨S2, .i32⟩
  | 118 => ⟨S_, .f32⟩
  | 119 => ⟨S_, .f32⟩
  | 120 => ⟨S_, .f32⟩
  | 121 => ⟨S1x1, .f32⟩
  | 122 => ⟨S1x1, .f32⟩
  | 123 => ⟨S1, .i32⟩
  | 124 => ⟨S_, .i32⟩
  | 125 => ⟨S1, .i32⟩
  | 126 => ⟨S_, .i32⟩
  | 127 => ⟨S32x1000000, .i64⟩
  | _ => ⟨S32x1000000, .f32⟩

abbrev hbmTy0_1 (i : Nat) : BufTy := match i % 128 with
  | 0 => ⟨S32x1000000, .i64⟩
  | 1 => ⟨S_, .i64⟩
  | 2 => ⟨S32x1000000, .i64⟩
  | 3 => ⟨S32x1000000, .i64⟩
  | 4 => ⟨S_, .i64⟩
  | 5 => ⟨S32x1000000, .i64⟩
  | 6 => ⟨S32x1000000, .i64⟩
  | 7 => ⟨S32x1000000, .i64⟩
  | 8 => ⟨S_, .i64⟩
  | 9 => ⟨S32x1000000, .i64⟩
  | 10 => ⟨S32x1000000, .i64⟩
  | 11 => ⟨S32x1000000, .i32⟩
  | 12 => ⟨S32x1000000, .i32⟩
  | 13 => ⟨S_, .i32⟩
  | 14 => ⟨S_, .i32⟩
  | 15 => ⟨S_, .i32⟩
  | 16 => ⟨S32x1000000, .i32⟩
  | 17 => ⟨S32x1000000, .i32⟩
  | 18 => ⟨S32x1000000, .i32⟩
  | 19 => ⟨S32x1000000, .i32⟩
  | 20 => ⟨S32x1000000, .i32⟩
  | 21 => ⟨S_, .i32⟩
  | 22 => ⟨S32x1000000, .i32⟩
  | 23 => ⟨S32x1000000, .i32⟩
  | 24 => ⟨S_, .i32⟩
  | 25 => ⟨S32x1000000, .i32⟩
  | 26 => ⟨S32x1000000, .i32⟩
  | 27 => ⟨S32x1000000, .i32⟩
  | 28 => ⟨S32x1000000, .i32⟩
  | 29 => ⟨S32x1000000, .i32⟩
  | 30 => ⟨S_, .i32⟩
  | 31 => ⟨S32x1000000, .i32⟩
  | 32 => ⟨S32x1000000, .i32⟩
  | 33 => ⟨S_, .i32⟩
  | 34 => ⟨S32x1000000, .i32⟩
  | 35 => ⟨S32x1000000, .i32⟩
  | 36 => ⟨S32x1000000, .i32⟩
  | 37 => ⟨S32x1000000, .i32⟩
  | 38 => ⟨S32x1000000, .i32⟩
  | 39 => ⟨S_, .i32⟩
  | 40 => ⟨S32x1000000, .i32⟩
  | 41 => ⟨S32x1000000, .i32⟩
  | 42 => ⟨S_, .i32⟩
  | 43 => ⟨S32x1000000, .i32⟩
  | 44 => ⟨S32x1000000, .i32⟩
  | 45 => ⟨S32x1000000, .i32⟩
  | 46 => ⟨S32x1000000, .i32⟩
  | 47 => ⟨S32x1000000, .i32⟩
  | 48 => ⟨S_, .i32⟩
  | 49 => ⟨S32x1000000, .i32⟩
  | 50 => ⟨S32x1000000, .i32⟩
  | 51 => ⟨S_, .i32⟩
  | 52 => ⟨S32x1000000, .i32⟩
  | 53 => ⟨S32x1000000, .i32⟩
  | 54 => ⟨S32x1000000, .i32⟩
  | 55 => ⟨S32x1000000, .i32⟩
  | 56 => ⟨S32x1000000, .i32⟩
  | 57 => ⟨S32x1000000, .i32⟩
  | 58 => ⟨S32x1000000, .i32⟩
  | 59 => ⟨S32x1000000, .i32⟩
  | 60 => ⟨S_, .i32⟩
  | 61 => ⟨S32x1000000, .i32⟩
  | 62 => ⟨S32x1000000, .i32⟩
  | 63 => ⟨S32x1000000, .i32⟩
  | 64 => ⟨S_, .i32⟩
  | 65 => ⟨S32x1000000, .i32⟩
  | 66 => ⟨S32x1000000, .i32⟩
  | 67 => ⟨S_, .i32⟩
  | 68 => ⟨S32x1000000, .i32⟩
  | 69 => ⟨S32x1000000, .i32⟩
  | 70 => ⟨S32x1000000, .i32⟩
  | 71 => ⟨S32x1000000, .i32⟩
  | 72 => ⟨S32x1000000, .i32⟩
  | 73 => ⟨S_, .i32⟩
  | 74 => ⟨S32x1000000, .i32⟩
  | 75 => ⟨S32x1000000, .i32⟩
  | 76 => ⟨S_, .i32⟩
  | 77 => ⟨S32x1000000, .i32⟩
  | 78 => ⟨S32x1000000, .i32⟩
  | 79 => ⟨S32x1000000, .i32⟩
  | 80 => ⟨S32x1000000, .i32⟩
  | 81 => ⟨S32x1000000, .i32⟩
  | 82 => ⟨S_, .i32⟩
  | 83 => ⟨S32x1000000, .i32⟩
  | 84 => ⟨S32x1000000, .i32⟩
  | 85 => ⟨S_, .i32⟩
  | 86 => ⟨S32x1000000, .i32⟩
  | 87 => ⟨S32x1000000, .i32⟩
  | 88 => ⟨S32x1000000, .i32⟩
  | 89 => ⟨S32x1000000, .i32⟩
  | 90 => ⟨S32x1000000, .i32⟩
  | 91 => ⟨S_, .i32⟩
  | 92 => ⟨S32x1000000, .i32⟩
  | 93 => ⟨S32x1000000, .i32⟩
  | 94 => ⟨S_, .i32⟩
  | 95 => ⟨S32x1000000, .i32⟩
  | 96 => ⟨S32x1000000, .i32⟩
  | 97 => ⟨S32x1000000, .i32⟩
  | 98 => ⟨S32x1000000, .i32⟩
  | 99 => ⟨S32x1000000, .i32⟩
  | 100 => ⟨S32x1000000, .i32⟩
  | 101 => ⟨S32x1000000, .i32⟩
  | 102 => ⟨S32x1000000, .i32⟩
  | 103 => ⟨S_, .i32⟩
  | 104 => ⟨S32x1000000, .i32⟩
  | 105 => ⟨S32x1000000, .i32⟩
  | 106 => ⟨S32x1000000, .i32⟩
  | 107 => ⟨S_, .i32⟩
  | 108 => ⟨S32x1000000, .i32⟩
  | 109 => ⟨S32x1000000, .i32⟩
  | 110 => ⟨S_, .i32⟩
  | 111 => ⟨S32x1000000, .i32⟩
  | 112 => ⟨S32x1000000, .i32⟩
  | 113 => ⟨S32x1000000, .i32⟩
  | 114 => ⟨S32x1000000, .i32⟩
  | 115 => ⟨S32x1000000, .i32⟩
  | 116 => ⟨S_, .i32⟩
  | 117 => ⟨S32x1000000, .i32⟩
  | 118 => ⟨S32x1000000, .i32⟩
  | 119 => ⟨S_, .i32⟩
  | 120 => ⟨S32x1000000, .i32⟩
  | 121 => ⟨S32x1000000, .i32⟩
  | 122 => ⟨S32x1000000, .i32⟩
  | 123 => ⟨S32x1000000, .i32⟩
  | 124 => ⟨S32x1000000, .i32⟩
  | 125 => ⟨S_, .i32⟩
  | 126 => ⟨S32x1000000, .i32⟩
  | 127 => ⟨S32x1000000, .i32⟩
  | _ => ⟨S32x1000000, .f32⟩

abbrev hbmTy0_2 (i : Nat) : BufTy := match i % 128 with
  | 0 => ⟨S_, .i32⟩
  | 1 => ⟨S32x1000000, .i32⟩
  | 2 => ⟨S32x1000000, .i32⟩
  | 3 => ⟨S32x1000000, .i32⟩
  | 4 => ⟨S32x1000000, .i32⟩
  | 5 => ⟨S32x1000000, .i32⟩
  | 6 => ⟨S_, .i32⟩
  | 7 => ⟨S32x1000000, .i32⟩
  | 8 => ⟨S32x1000000, .i32⟩
  | 9 => ⟨S_, .i32⟩
  | 10 => ⟨S32x1000000, .i32⟩
  | 11 => ⟨S32x1000000, .i32⟩
  | 12 => ⟨S32x1000000, .i32⟩
  | 13 => ⟨S32x1000000, .i32⟩
  | 14 => ⟨S32x1000000, .i32⟩
  | 15 => ⟨S32x1000000, .i32⟩
  | 16 => ⟨S32x1000000, .i32⟩
  | 17 => ⟨S32x1000000, .i32⟩
  | 18 => ⟨S_, .i32⟩
  | 19 => ⟨S32x1000000, .i32⟩
  | 20 => ⟨S32x1000000, .i32⟩
  | 21 => ⟨S32x1000000, .i32⟩
  | 22 => ⟨S_, .i32⟩
  | 23 => ⟨S32x1000000, .i32⟩
  | 24 => ⟨S32x1000000, .i32⟩
  | 25 => ⟨S_, .i32⟩
  | 26 => ⟨S32x1000000, .i32⟩
  | 27 => ⟨S32x1000000, .i32⟩
  | 28 => ⟨S32x1000000, .i32⟩
  | 29 => ⟨S32x1000000, .i32⟩
  | 30 => ⟨S32x1000000, .i32⟩
  | 31 => ⟨S_, .i32⟩
  | 32 => ⟨S32x1000000, .i32⟩
  | 33 => ⟨S32x1000000, .i32⟩
  | 34 => ⟨S_, .i32⟩
  | 35 => ⟨S32x1000000, .i32⟩
  | 36 => ⟨S32x1000000, .i32⟩
  | 37 => ⟨S32x1000000, .i32⟩
  | 38 => ⟨S32x1000000, .i32⟩
  | 39 => ⟨S32x1000000, .i32⟩
  | 40 => ⟨S_, .i32⟩
  | 41 => ⟨S32x1000000, .i32⟩
  | 42 => ⟨S32x1000000, .i32⟩
  | 43 => ⟨S_, .i32⟩
  | 44 => ⟨S32x1000000, .i32⟩
  | 45 => ⟨S32x1000000, .i32⟩
  | 46 => ⟨S32x1000000, .i32⟩
  | 47 => ⟨S32x1000000, .i32⟩
  | 48 => ⟨S32x1000000, .i32⟩
  | 49 => ⟨S_, .i32⟩
  | 50 => ⟨S32x1000000, .i32⟩
  | 51 => ⟨S32x1000000, .i32⟩
  | 52 => ⟨S_, .i32⟩
  | 53 => ⟨S32x1000000, .i32⟩
  | 54 => ⟨S32x1000000, .i32⟩
  | 55 => ⟨S32x1000000, .i32⟩
  | 56 => ⟨S32x1000000, .i32⟩
  | 57 => ⟨S32x1000000, .i32⟩
  | 58 => ⟨S32x1000000, .i32⟩
  | 59 => ⟨S32x1000000, .i32⟩
  | 60 => ⟨S32x1000000, .i32⟩
  | 61 => ⟨S_, .i32⟩
  | 62 => ⟨S32x1000000, .i32⟩
  | 63 => ⟨S32x1000000, .i32⟩
  | 64 => ⟨S32x1000000, .i32⟩
  | 65 => ⟨S_, .i32⟩
  | 66 => ⟨S32x1000000, .i32⟩
  | 67 => ⟨S32x1000000, .i32⟩
  | 68 => ⟨S_, .i32⟩
  | 69 => ⟨S32x1000000, .i32⟩
  | 70 => ⟨S32x1000000, .i32⟩
  | 71 => ⟨S32x1000000, .i32⟩
  | 72 => ⟨S32x1000000, .i32⟩
  | 73 => ⟨S32x1000000, .i32⟩
  | 74 => ⟨S_, .i32⟩
  | 75 => ⟨S32x1000000, .i32⟩
  | 76 => ⟨S32x1000000, .i32⟩
  | 77 => ⟨S_, .i32⟩
  | 78 => ⟨S32x1000000, .i32⟩
  | 79 => ⟨S32x1000000, .i32⟩
  | 80 => ⟨S32x1000000, .i32⟩
  | 81 => ⟨S32x1000000, .i32⟩
  | 82 => ⟨S32x1000000, .i32⟩
  | 83 => ⟨S_, .i32⟩
  | 84 => ⟨S32x1000000, .i32⟩
  | 85 => ⟨S32x1000000, .i32⟩
  | 86 => ⟨S_, .i32⟩
  | 87 => ⟨S32x1000000, .i32⟩
  | 88 => ⟨S32x1000000, .i32⟩
  | 89 => ⟨S32x1000000, .i32⟩
  | 90 => ⟨S32x1000000, .i32⟩
  | 91 => ⟨S32x1000000, .i32⟩
  | 92 => ⟨S_, .i32⟩
  | 93 => ⟨S32x1000000, .i32⟩
  | 94 => ⟨S32x1000000, .i32⟩
  | 95 => ⟨S_, .i32⟩
  | 96 => ⟨S32x1000000, .i32⟩
  | 97 => ⟨S32x1000000, .i32⟩
  | 98 => ⟨S32x1000000, .i32⟩
  | 99 => ⟨S32x1000000, .i32⟩
  | 100 => ⟨S32x1000000, .i32⟩
  | 101 => ⟨S32x1000000, .i32⟩
  | 102 => ⟨S32x1000000, .i32⟩
  | 103 => ⟨S32x1000000, .i32⟩
  | 104 => ⟨S_, .i32⟩
  | 105 => ⟨S32x1000000, .i32⟩
  | 106 => ⟨S32x1000000, .i32⟩
  | 107 => ⟨S32x1000000, .i32⟩
  | 108 => ⟨S_, .i32⟩
  | 109 => ⟨S32x1000000, .i32⟩
  | 110 => ⟨S32x1000000, .i32⟩
  | 111 => ⟨S_, .i32⟩
  | 112 => ⟨S32x1000000, .i32⟩
  | 113 => ⟨S32x1000000, .i32⟩
  | 114 => ⟨S32x1000000, .f32⟩
  | 115 => ⟨S_, .f32⟩
  | 116 => ⟨S32x1000000, .f32⟩
  | 117 => ⟨S32x1000000, .f32⟩
  | 118 => ⟨S1x1, .f32⟩
  | 119 => ⟨S32x1000000, .f32⟩
  | 120 => ⟨S32x1000000, .f32⟩
  | 121 => ⟨S32x1000000, .f32⟩
  | 122 => ⟨S32x1000000, .f32⟩
  | 123 => ⟨S32x1000000, .f32⟩
  | 124 => ⟨S32x1000000, .f32⟩
  | 125 => ⟨S32x1000000, .f32⟩
  | 126 => ⟨S32x1000000, .f32⟩
  | 127 => ⟨S32x1000000, .f32⟩
  | _ => ⟨S32x1000000, .f32⟩

abbrev hbmTy0_3 (i : Nat) : BufTy := match i % 128 with
  | 0 => ⟨S32x1000000, .f32⟩
  | 1 => ⟨S32x1000000, .f32⟩
  | 2 => ⟨S32x1000000, .i32⟩
  | 3 => ⟨S_, .f32⟩
  | 4 => ⟨S_, .i32⟩
  | 5 => ⟨S32, .f32⟩
  | 6 => ⟨S32, .i32⟩
  | 7 => ⟨S32x1, .i32⟩
  | _ => ⟨S32x1000000, .f32⟩

abbrev hbmTy (i : Nat) : BufTy := match i / 128 with
  | 0 => hbmTy0_0 i
  | 1 => hbmTy0_1 i
  | 2 => hbmTy0_2 i
  | 3 => hbmTy0_3 i
  | _ => ⟨S32x1000000, .f32⟩

abbrev bufTy : (tb : Table) → Fin (tcTables nBuf tb) → BufTy
  | .hbm, ⟨i, _⟩ => hbmTy i
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_cst_2 : Ref sig .tc := ⟨.hbm, 18, rfl⟩
abbrev main_cst_3 : Ref sig .tc := ⟨.hbm, 19, rfl⟩
abbrev main_call0_v0 : Ref sig .tc := ⟨.hbm, 20, rfl⟩
abbrev main_v11 : Ref sig .tc := ⟨.hbm, 21, rfl⟩
abbrev main_cst_4 : Ref sig .tc := ⟨.hbm, 22, rfl⟩
abbrev main_cst_5 : Ref sig .tc := ⟨.hbm, 23, rfl⟩
abbrev main_cst_6 : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_7 : Ref sig .tc := ⟨.hbm, 30, rfl⟩
abbrev main_v16 : Ref sig .tc := ⟨.hbm, 31, rfl⟩
abbrev main_cst_8 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_9 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call2_v0 : Ref sig .tc := ⟨.hbm, 45, rfl⟩
abbrev main_call2_v1_0 : Ref sig .tc := ⟨.hbm, 46, rfl⟩
abbrev main_v28 : Ref sig .tc := ⟨.hbm, 47, rfl⟩
abbrev main_call3_c : Ref sig .tc := ⟨.hbm, 48, rfl⟩
abbrev main_call3_v0 : Ref sig .tc := ⟨.hbm, 49, rfl⟩
abbrev main_call3_v1 : Ref sig .tc := ⟨.hbm, 50, rfl⟩
abbrev main_call3_c_0 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_call3_v5 : Ref sig .tc := ⟨.hbm, 55, rfl⟩
abbrev main_call3_c_1 : Ref sig .tc := ⟨.hbm, 56, rfl⟩
abbrev main_call3_c_2 : Ref sig .tc := ⟨.hbm, 57, rfl⟩
abbrev main_call3_v6 : Ref sig .tc := ⟨.hbm, 58, rfl⟩
abbrev main_call3_v7 : Ref sig .tc := ⟨.hbm, 59, rfl⟩
abbrev main_call3_v8 : Ref sig .tc := ⟨.hbm, 60, rfl⟩
abbrev main_call3_v9 : Ref sig .tc := ⟨.hbm, 61, rfl⟩
abbrev main_call3_v10 : Ref sig .tc := ⟨.hbm, 62, rfl⟩
abbrev main_call3_v11 : Ref sig .tc := ⟨.hbm, 63, rfl⟩
abbrev main_call3_c_3 : Ref sig .tc := ⟨.hbm, 64, rfl⟩
abbrev main_call3_v12 : Ref sig .tc := ⟨.hbm, 65, rfl⟩
abbrev main_call3_v13 : Ref sig .tc := ⟨.hbm, 66, rfl⟩
abbrev main_call3_cst : Ref sig .tc := ⟨.hbm, 67, rfl⟩
abbrev main_call3_v14 : Ref sig .tc := ⟨.hbm, 68, rfl⟩
abbrev main_v29 : Ref sig .tc := ⟨.hbm, 69, rfl⟩
abbrev main_call4_call0_cst : Ref sig .tc := ⟨.hbm, 70, rfl⟩
abbrev main_call4_call0_v0 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_c : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_c_10 : Ref sig .tc := ⟨.hbm, 83, rfl⟩
abbrev main_v40 : Ref sig .tc := ⟨.hbm, 84, rfl⟩
abbrev main_c_11 : Ref sig .tc := ⟨.hbm, 85, rfl⟩
abbrev main_v41 : Ref sig .tc := ⟨.hbm, 86, rfl⟩
abbrev main_v42 : Ref sig .tc := ⟨.hbm, 87, rfl⟩
abbrev main_c_12 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_c_13 : Ref sig .tc := ⟨.hbm, 92, rfl⟩
abbrev main_v46 : Ref sig .tc := ⟨.hbm, 93, rfl⟩
abbrev main_v47 : Ref sig .tc := ⟨.hbm, 94, rfl⟩
abbrev main_c_14 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_15 : Ref sig .tc := ⟨.hbm, 104, rfl⟩
abbrev main_call5_v0 : Ref sig .tc := ⟨.hbm, 105, rfl⟩
abbrev main_call5_v1 : Ref sig .tc := ⟨.hbm, 106, rfl⟩
abbrev main_v56 : Ref sig .tc := ⟨.hbm, 107, rfl⟩
abbrev main_c_16 : Ref sig .tc := ⟨.hbm, 108, rfl⟩
abbrev main_c_17 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_c_18 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_call6_cst : Ref sig .tc := ⟨.hbm, 118, rfl⟩
abbrev main_call6_cst_0 : Ref sig .tc := ⟨.hbm, 119, rfl⟩
abbrev main_call6_call0_v0 : Ref sig .tc := ⟨.hbm, 120, rfl⟩
abbrev main_call6_call0_v1 : Ref sig .tc := ⟨.hbm, 121, rfl⟩
abbrev main_call6_call0_v2 : Ref sig .tc := ⟨.hbm, 122, rfl⟩
abbrev main_call6_call0_v3 : Ref sig .tc := ⟨.hbm, 123, rfl⟩
abbrev main_call6_call0_v4 : Ref sig .tc := ⟨.hbm, 124, rfl⟩
abbrev main_call6_call0_v5 : Ref sig .tc := ⟨.hbm, 125, rfl⟩
abbrev main_call6_call0_v6 : Ref sig .tc := ⟨.hbm, 126, rfl⟩
abbrev main_call6_call0_v7 : Ref sig .tc := ⟨.hbm, 127, rfl⟩
abbrev main_call6_call0_v8 : Ref sig .tc := ⟨.hbm, 128, rfl⟩
abbrev main_call6_call0_c : Ref sig .tc := ⟨.hbm, 129, rfl⟩
abbrev main_call6_call0_v9 : Ref sig .tc := ⟨.hbm, 130, rfl⟩
abbrev main_call6_call0_v10 : Ref sig .tc := ⟨.hbm, 131, rfl⟩
abbrev main_call6_call0_c_0 : Ref sig .tc := ⟨.hbm, 132, rfl⟩
abbrev main_call6_call0_v11 : Ref sig .tc := ⟨.hbm, 133, rfl⟩
abbrev main_call6_call0_v12 : Ref sig .tc := ⟨.hbm, 134, rfl⟩
abbrev main_call6_call0_v13 : Ref sig .tc := ⟨.hbm, 135, rfl⟩
abbrev main_call6_call0_c_1 : Ref sig .tc := ⟨.hbm, 136, rfl⟩
abbrev main_call6_call0_v14 : Ref sig .tc := ⟨.hbm, 137, rfl⟩
abbrev main_call6_call0_v15 : Ref sig .tc := ⟨.hbm, 138, rfl⟩
abbrev main_call6_call0_v16 : Ref sig .tc := ⟨.hbm, 139, rfl⟩
abbrev main_call6_call0_v17 : Ref sig .tc := ⟨.hbm, 140, rfl⟩
abbrev main_call6_call0_call0_v0 : Ref sig .tc := ⟨.hbm, 141, rfl⟩
abbrev main_call6_call0_call0_c : Ref sig .tc := ⟨.hbm, 142, rfl⟩
abbrev main_call6_call0_call0_v1 : Ref sig .tc := ⟨.hbm, 143, rfl⟩
abbrev main_call6_call0_call0_v2 : Ref sig .tc := ⟨.hbm, 144, rfl⟩
abbrev main_call6_call0_call0_v3 : Ref sig .tc := ⟨.hbm, 145, rfl⟩
abbrev main_call6_call0_call0_v4 : Ref sig .tc := ⟨.hbm, 146, rfl⟩
abbrev main_call6_call0_call0_v5 : Ref sig .tc := ⟨.hbm, 147, rfl⟩
abbrev main_call6_call0_call0_v6 : Ref sig .tc := ⟨.hbm, 148, rfl⟩
abbrev main_call6_call0_call0_c_0 : Ref sig .tc := ⟨.hbm, 149, rfl⟩
abbrev main_call6_call0_call0_v7 : Ref sig .tc := ⟨.hbm, 150, rfl⟩
abbrev main_call6_call0_call0_v8 : Ref sig .tc := ⟨.hbm, 151, rfl⟩
abbrev main_call6_call0_call0_c_1 : Ref sig .tc := ⟨.hbm, 152, rfl⟩
abbrev main_call6_call0_call0_v9 : Ref sig .tc := ⟨.hbm, 153, rfl⟩
abbrev main_call6_call0_call0_v10 : Ref sig .tc := ⟨.hbm, 154, rfl⟩
abbrev main_call6_call0_call0_v11 : Ref sig .tc := ⟨.hbm, 155, rfl⟩
abbrev main_call6_call0_call0_v12 : Ref sig .tc := ⟨.hbm, 156, rfl⟩
abbrev main_call6_call0_call0_v13 : Ref sig .tc := ⟨.hbm, 157, rfl⟩
abbrev main_call6_call0_call0_c_2 : Ref sig .tc := ⟨.hbm, 158, rfl⟩
abbrev main_call6_call0_call0_v14 : Ref sig .tc := ⟨.hbm, 159, rfl⟩
abbrev main_call6_call0_call0_v15 : Ref sig .tc := ⟨.hbm, 160, rfl⟩
abbrev main_call6_call0_call0_c_3 : Ref sig .tc := ⟨.hbm, 161, rfl⟩
abbrev main_call6_call0_call0_v16 : Ref sig .tc := ⟨.hbm, 162, rfl⟩
abbrev main_call6_call0_call0_v17 : Ref sig .tc := ⟨.hbm, 163, rfl⟩
abbrev main_call6_call0_call0_v18 : Ref sig .tc := ⟨.hbm, 164, rfl⟩
abbrev main_call6_call0_call0_v19 : Ref sig .tc := ⟨.hbm, 165, rfl⟩
abbrev main_call6_call0_call0_v20 : Ref sig .tc := ⟨.hbm, 166, rfl⟩
abbrev main_call6_call0_call0_c_4 : Ref sig .tc := ⟨.hbm, 167, rfl⟩
abbrev main_call6_call0_call0_v21 : Ref sig .tc := ⟨.hbm, 168, rfl⟩
abbrev main_call6_call0_call0_v22 : Ref sig .tc := ⟨.hbm, 169, rfl⟩
abbrev main_call6_call0_call0_c_5 : Ref sig .tc := ⟨.hbm, 170, rfl⟩
abbrev main_call6_call0_call0_v23 : Ref sig .tc := ⟨.hbm, 171, rfl⟩
abbrev main_call6_call0_call0_v24 : Ref sig .tc := ⟨.hbm, 172, rfl⟩
abbrev main_call6_call0_call0_v25 : Ref sig .tc := ⟨.hbm, 173, rfl⟩
abbrev main_call6_call0_call0_v26 : Ref sig .tc := ⟨.hbm, 174, rfl⟩
abbrev main_call6_call0_call0_v27 : Ref sig .tc := ⟨.hbm, 175, rfl⟩
abbrev main_call6_call0_call0_c_6 : Ref sig .tc := ⟨.hbm, 176, rfl⟩
abbrev main_call6_call0_call0_v28 : Ref sig .tc := ⟨.hbm, 177, rfl⟩
abbrev main_call6_call0_call0_v29 : Ref sig .tc := ⟨.hbm, 178, rfl⟩
abbrev main_call6_call0_call0_c_7 : Ref sig .tc := ⟨.hbm, 179, rfl⟩
abbrev main_call6_call0_call0_v30 : Ref sig .tc := ⟨.hbm, 180, rfl⟩
abbrev main_call6_call0_call0_v31 : Ref sig .tc := ⟨.hbm, 181, rfl⟩
abbrev main_call6_call0_call0_v32 : Ref sig .tc := ⟨.hbm, 182, rfl⟩
abbrev main_call6_call0_call0_v33 : Ref sig .tc := ⟨.hbm, 183, rfl⟩
abbrev main_call6_call0_call0_v34 : Ref sig .tc := ⟨.hbm, 184, rfl⟩
abbrev main_call6_call0_call0_v35 : Ref sig .tc := ⟨.hbm, 185, rfl⟩
abbrev main_call6_call0_call0_v36 : Ref sig .tc := ⟨.hbm, 186, rfl⟩
abbrev main_call6_call0_call0_v37 : Ref sig .tc := ⟨.hbm, 187, rfl⟩
abbrev main_call6_call0_call0_c_8 : Ref sig .tc := ⟨.hbm, 188, rfl⟩
abbrev main_call6_call0_call0_v38 : Ref sig .tc := ⟨.hbm, 189, rfl⟩
abbrev main_call6_call0_call0_v39 : Ref sig .tc := ⟨.hbm, 190, rfl⟩
abbrev main_call6_call0_call0_v40 : Ref sig .tc := ⟨.hbm, 191, rfl⟩
abbrev main_call6_call0_call0_c_9 : Ref sig .tc := ⟨.hbm, 192, rfl⟩
abbrev main_call6_call0_call0_v41 : Ref sig .tc := ⟨.hbm, 193, rfl⟩
abbrev main_call6_call0_call0_v42 : Ref sig .tc := ⟨.hbm, 194, rfl⟩
abbrev main_call6_call0_call0_c_10 : Ref sig .tc := ⟨.hbm, 195, rfl⟩
abbrev main_call6_call0_call0_v43 : Ref sig .tc := ⟨.hbm, 196, rfl⟩
abbrev main_call6_call0_call0_v44 : Ref sig .tc := ⟨.hbm, 197, rfl⟩
abbrev main_call6_call0_call0_v45 : Ref sig .tc := ⟨.hbm, 198, rfl⟩
abbrev main_call6_call0_call0_v46 : Ref sig .tc := ⟨.hbm, 199, rfl⟩
abbrev main_call6_call0_call0_v47 : Ref sig .tc := ⟨.hbm, 200, rfl⟩
abbrev main_call6_call0_call0_c_11 : Ref sig .tc := ⟨.hbm, 201, rfl⟩
abbrev main_call6_call0_call0_v48 : Ref sig .tc := ⟨.hbm, 202, rfl⟩
abbrev main_call6_call0_call0_v49 : Ref sig .tc := ⟨.hbm, 203, rfl⟩
abbrev main_call6_call0_call0_c_12 : Ref sig .tc := ⟨.hbm, 204, rfl⟩
abbrev main_call6_call0_call0_v50 : Ref sig .tc := ⟨.hbm, 205, rfl⟩
abbrev main_call6_call0_call0_v51 : Ref sig .tc := ⟨.hbm, 206, rfl⟩
abbrev main_call6_call0_call0_v52 : Ref sig .tc := ⟨.hbm, 207, rfl⟩
abbrev main_call6_call0_call0_v53 : Ref sig .tc := ⟨.hbm, 208, rfl⟩
abbrev main_call6_call0_call0_v54 : Ref sig .tc := ⟨.hbm, 209, rfl⟩
abbrev main_call6_call0_call0_c_13 : Ref sig .tc := ⟨.hbm, 210, rfl⟩
abbrev main_call6_call0_call0_v55 : Ref sig .tc := ⟨.hbm, 211, rfl⟩
abbrev main_call6_call0_call0_v56 : Ref sig .tc := ⟨.hbm, 212, rfl⟩
abbrev main_call6_call0_call0_c_14 : Ref sig .tc := ⟨.hbm, 213, rfl⟩
abbrev main_call6_call0_call0_v57 : Ref sig .tc := ⟨.hbm, 214, rfl⟩
abbrev main_call6_call0_call0_v58 : Ref sig .tc := ⟨.hbm, 215, rfl⟩
abbrev main_call6_call0_call0_v59 : Ref sig .tc := ⟨.hbm, 216, rfl⟩
abbrev main_call6_call0_call0_v60 : Ref sig .tc := ⟨.hbm, 217, rfl⟩
abbrev main_call6_call0_call0_v61 : Ref sig .tc := ⟨.hbm, 218, rfl⟩
abbrev main_call6_call0_call0_c_15 : Ref sig .tc := ⟨.hbm, 219, rfl⟩
abbrev main_call6_call0_call0_v62 : Ref sig .tc := ⟨.hbm, 220, rfl⟩
abbrev main_call6_call0_call0_v63 : Ref sig .tc := ⟨.hbm, 221, rfl⟩
abbrev main_call6_call0_call0_c_16 : Ref sig .tc := ⟨.hbm, 222, rfl⟩
abbrev main_call6_call0_call0_v64 : Ref sig .tc := ⟨.hbm, 223, rfl⟩
abbrev main_call6_call0_call0_v65 : Ref sig .tc := ⟨.hbm, 224, rfl⟩
abbrev main_call6_call0_call0_v66 : Ref sig .tc := ⟨.hbm, 225, rfl⟩
abbrev main_call6_call0_call0_v67 : Ref sig .tc := ⟨.hbm, 226, rfl⟩
abbrev main_call6_call0_call0_v68 : Ref sig .tc := ⟨.hbm, 227, rfl⟩
abbrev main_call6_call0_call0_v69 : Ref sig .tc := ⟨.hbm, 228, rfl⟩
abbrev main_call6_call0_call0_v70 : Ref sig .tc := ⟨.hbm, 229, rfl⟩
abbrev main_call6_call0_call0_v71 : Ref sig .tc := ⟨.hbm, 230, rfl⟩
abbrev main_call6_call0_call0_c_17 : Ref sig .tc := ⟨.hbm, 231, rfl⟩
abbrev main_call6_call0_call0_v72 : Ref sig .tc := ⟨.hbm, 232, rfl⟩
abbrev main_call6_call0_call0_v73 : Ref sig .tc := ⟨.hbm, 233, rfl⟩
abbrev main_call6_call0_call0_v74 : Ref sig .tc := ⟨.hbm, 234, rfl⟩
abbrev main_call6_call0_call0_c_18 : Ref sig .tc := ⟨.hbm, 235, rfl⟩
abbrev main_call6_call0_call0_v75 : Ref sig .tc := ⟨.hbm, 236, rfl⟩
abbrev main_call6_call0_call0_v76 : Ref sig .tc := ⟨.hbm, 237, rfl⟩
abbrev main_call6_call0_call0_c_19 : Ref sig .tc := ⟨.hbm, 238, rfl⟩
abbrev main_call6_call0_call0_v77 : Ref sig .tc := ⟨.hbm, 239, rfl⟩
abbrev main_call6_call0_call0_v78 : Ref sig .tc := ⟨.hbm, 240, rfl⟩
abbrev main_call6_call0_call0_v79 : Ref sig .tc := ⟨.hbm, 241, rfl⟩
abbrev main_call6_call0_call0_v80 : Ref sig .tc := ⟨.hbm, 242, rfl⟩
abbrev main_call6_call0_call0_v81 : Ref sig .tc := ⟨.hbm, 243, rfl⟩
abbrev main_call6_call0_call0_c_20 : Ref sig .tc := ⟨.hbm, 244, rfl⟩
abbrev main_call6_call0_call0_v82 : Ref sig .tc := ⟨.hbm, 245, rfl⟩
abbrev main_call6_call0_call0_v83 : Ref sig .tc := ⟨.hbm, 246, rfl⟩
abbrev main_call6_call0_call0_c_21 : Ref sig .tc := ⟨.hbm, 247, rfl⟩
abbrev main_call6_call0_call0_v84 : Ref sig .tc := ⟨.hbm, 248, rfl⟩
abbrev main_call6_call0_call0_v85 : Ref sig .tc := ⟨.hbm, 249, rfl⟩
abbrev main_call6_call0_call0_v86 : Ref sig .tc := ⟨.hbm, 250, rfl⟩
abbrev main_call6_call0_call0_v87 : Ref sig .tc := ⟨.hbm, 251, rfl⟩
abbrev main_call6_call0_call0_v88 : Ref sig .tc := ⟨.hbm, 252, rfl⟩
abbrev main_call6_call0_call0_c_22 : Ref sig .tc := ⟨.hbm, 253, rfl⟩
abbrev main_call6_call0_call0_v89 : Ref sig .tc := ⟨.hbm, 254, rfl⟩
abbrev main_call6_call0_call0_v90 : Ref sig .tc := ⟨.hbm, 255, rfl⟩
abbrev main_call6_call0_call0_c_23 : Ref sig .tc := ⟨.hbm, 256, rfl⟩
abbrev main_call6_call0_call0_v91 : Ref sig .tc := ⟨.hbm, 257, rfl⟩
abbrev main_call6_call0_call0_v92 : Ref sig .tc := ⟨.hbm, 258, rfl⟩
abbrev main_call6_call0_call0_v93 : Ref sig .tc := ⟨.hbm, 259, rfl⟩
abbrev main_call6_call0_call0_v94 : Ref sig .tc := ⟨.hbm, 260, rfl⟩
abbrev main_call6_call0_call0_v95 : Ref sig .tc := ⟨.hbm, 261, rfl⟩
abbrev main_call6_call0_call0_c_24 : Ref sig .tc := ⟨.hbm, 262, rfl⟩
abbrev main_call6_call0_call0_v96 : Ref sig .tc := ⟨.hbm, 263, rfl⟩
abbrev main_call6_call0_call0_v97 : Ref sig .tc := ⟨.hbm, 264, rfl⟩
abbrev main_call6_call0_call0_c_25 : Ref sig .tc := ⟨.hbm, 265, rfl⟩
abbrev main_call6_call0_call0_v98 : Ref sig .tc := ⟨.hbm, 266, rfl⟩
abbrev main_call6_call0_call0_v99 : Ref sig .tc := ⟨.hbm, 267, rfl⟩
abbrev main_call6_call0_call0_v100 : Ref sig .tc := ⟨.hbm, 268, rfl⟩
abbrev main_call6_call0_call0_v101 : Ref sig .tc := ⟨.hbm, 269, rfl⟩
abbrev main_call6_call0_call0_v102 : Ref sig .tc := ⟨.hbm, 270, rfl⟩
abbrev main_call6_call0_call0_v103 : Ref sig .tc := ⟨.hbm, 271, rfl⟩
abbrev main_call6_call0_call0_v104 : Ref sig .tc := ⟨.hbm, 272, rfl⟩
abbrev main_call6_call0_call0_v105 : Ref sig .tc := ⟨.hbm, 273, rfl⟩
abbrev main_call6_call0_call0_c_26 : Ref sig .tc := ⟨.hbm, 274, rfl⟩
abbrev main_call6_call0_call0_v106 : Ref sig .tc := ⟨.hbm, 275, rfl⟩
abbrev main_call6_call0_call0_v107 : Ref sig .tc := ⟨.hbm, 276, rfl⟩
abbrev main_call6_call0_call0_v108 : Ref sig .tc := ⟨.hbm, 277, rfl⟩
abbrev main_call6_call0_call0_c_27 : Ref sig .tc := ⟨.hbm, 278, rfl⟩
abbrev main_call6_call0_call0_v109 : Ref sig .tc := ⟨.hbm, 279, rfl⟩
abbrev main_call6_call0_call0_v110 : Ref sig .tc := ⟨.hbm, 280, rfl⟩
abbrev main_call6_call0_call0_c_28 : Ref sig .tc := ⟨.hbm, 281, rfl⟩
abbrev main_call6_call0_call0_v111 : Ref sig .tc := ⟨.hbm, 282, rfl⟩
abbrev main_call6_call0_call0_v112 : Ref sig .tc := ⟨.hbm, 283, rfl⟩
abbrev main_call6_call0_call0_v113 : Ref sig .tc := ⟨.hbm, 284, rfl⟩
abbrev main_call6_call0_call0_v114 : Ref sig .tc := ⟨.hbm, 285, rfl⟩
abbrev main_call6_call0_call0_v115 : Ref sig .tc := ⟨.hbm, 286, rfl⟩
abbrev main_call6_call0_call0_c_29 : Ref sig .tc := ⟨.hbm, 287, rfl⟩
abbrev main_call6_call0_call0_v116 : Ref sig .tc := ⟨.hbm, 288, rfl⟩
abbrev main_call6_call0_call0_v117 : Ref sig .tc := ⟨.hbm, 289, rfl⟩
abbrev main_call6_call0_call0_c_30 : Ref sig .tc := ⟨.hbm, 290, rfl⟩
abbrev main_call6_call0_call0_v118 : Ref sig .tc := ⟨.hbm, 291, rfl⟩
abbrev main_call6_call0_call0_v119 : Ref sig .tc := ⟨.hbm, 292, rfl⟩
abbrev main_call6_call0_call0_v120 : Ref sig .tc := ⟨.hbm, 293, rfl⟩
abbrev main_call6_call0_call0_v121 : Ref sig .tc := ⟨.hbm, 294, rfl⟩
abbrev main_call6_call0_call0_v122 : Ref sig .tc := ⟨.hbm, 295, rfl⟩
abbrev main_call6_call0_call0_c_31 : Ref sig .tc := ⟨.hbm, 296, rfl⟩
abbrev main_call6_call0_call0_v123 : Ref sig .tc := ⟨.hbm, 297, rfl⟩
abbrev main_call6_call0_call0_v124 : Ref sig .tc := ⟨.hbm, 298, rfl⟩
abbrev main_call6_call0_call0_c_32 : Ref sig .tc := ⟨.hbm, 299, rfl⟩
abbrev main_call6_call0_call0_v125 : Ref sig .tc := ⟨.hbm, 300, rfl⟩
abbrev main_call6_call0_call0_v126 : Ref sig .tc := ⟨.hbm, 301, rfl⟩
abbrev main_call6_call0_call0_v127 : Ref sig .tc := ⟨.hbm, 302, rfl⟩
abbrev main_call6_call0_call0_v128 : Ref sig .tc := ⟨.hbm, 303, rfl⟩
abbrev main_call6_call0_call0_v129 : Ref sig .tc := ⟨.hbm, 304, rfl⟩
abbrev main_call6_call0_call0_c_33 : Ref sig .tc := ⟨.hbm, 305, rfl⟩
abbrev main_call6_call0_call0_v130 : Ref sig .tc := ⟨.hbm, 306, rfl⟩
abbrev main_call6_call0_call0_v131 : Ref sig .tc := ⟨.hbm, 307, rfl⟩
abbrev main_call6_call0_call0_c_34 : Ref sig .tc := ⟨.hbm, 308, rfl⟩
abbrev main_call6_call0_call0_v132 : Ref sig .tc := ⟨.hbm, 309, rfl⟩
abbrev main_call6_call0_call0_v133 : Ref sig .tc := ⟨.hbm, 310, rfl⟩
abbrev main_call6_call0_call0_v134 : Ref sig .tc := ⟨.hbm, 311, rfl⟩
abbrev main_call6_call0_call0_v135 : Ref sig .tc := ⟨.hbm, 312, rfl⟩
abbrev main_call6_call0_call0_v136 : Ref sig .tc := ⟨.hbm, 313, rfl⟩
abbrev main_call6_call0_call0_v137 : Ref sig .tc := ⟨.hbm, 314, rfl⟩
abbrev main_call6_call0_call0_v138 : Ref sig .tc := ⟨.hbm, 315, rfl⟩
abbrev main_call6_call0_call0_v139 : Ref sig .tc := ⟨.hbm, 316, rfl⟩
abbrev main_call6_call0_call0_c_35 : Ref sig .tc := ⟨.hbm, 317, rfl⟩
abbrev main_call6_call0_call0_v140 : Ref sig .tc := ⟨.hbm, 318, rfl⟩
abbrev main_call6_call0_call0_v141 : Ref sig .tc := ⟨.hbm, 319, rfl⟩
abbrev main_call6_call0_call0_v142 : Ref sig .tc := ⟨.hbm, 320, rfl⟩
abbrev main_call6_call0_call0_c_36 : Ref sig .tc := ⟨.hbm, 321, rfl⟩
abbrev main_call6_call0_call0_v143 : Ref sig .tc := ⟨.hbm, 322, rfl⟩
abbrev main_call6_call0_call0_v144 : Ref sig .tc := ⟨.hbm, 323, rfl⟩
abbrev main_call6_call0_call0_c_37 : Ref sig .tc := ⟨.hbm, 324, rfl⟩
abbrev main_call6_call0_call0_v145 : Ref sig .tc := ⟨.hbm, 325, rfl⟩
abbrev main_call6_call0_call0_v146 : Ref sig .tc := ⟨.hbm, 326, rfl⟩
abbrev main_call6_call0_call0_v147 : Ref sig .tc := ⟨.hbm, 327, rfl⟩
abbrev main_call6_call0_call0_v148 : Ref sig .tc := ⟨.hbm, 328, rfl⟩
abbrev main_call6_call0_call0_v149 : Ref sig .tc := ⟨.hbm, 329, rfl⟩
abbrev main_call6_call0_call0_c_38 : Ref sig .tc := ⟨.hbm, 330, rfl⟩
abbrev main_call6_call0_call0_v150 : Ref sig .tc := ⟨.hbm, 331, rfl⟩
abbrev main_call6_call0_call0_v151 : Ref sig .tc := ⟨.hbm, 332, rfl⟩
abbrev main_call6_call0_call0_c_39 : Ref sig .tc := ⟨.hbm, 333, rfl⟩
abbrev main_call6_call0_call0_v152 : Ref sig .tc := ⟨.hbm, 334, rfl⟩
abbrev main_call6_call0_call0_v153 : Ref sig .tc := ⟨.hbm, 335, rfl⟩
abbrev main_call6_call0_call0_v154 : Ref sig .tc := ⟨.hbm, 336, rfl⟩
abbrev main_call6_call0_call0_v155 : Ref sig .tc := ⟨.hbm, 337, rfl⟩
abbrev main_call6_call0_call0_v156 : Ref sig .tc := ⟨.hbm, 338, rfl⟩
abbrev main_call6_call0_call0_c_40 : Ref sig .tc := ⟨.hbm, 339, rfl⟩
abbrev main_call6_call0_call0_v157 : Ref sig .tc := ⟨.hbm, 340, rfl⟩
abbrev main_call6_call0_call0_v158 : Ref sig .tc := ⟨.hbm, 341, rfl⟩
abbrev main_call6_call0_call0_c_41 : Ref sig .tc := ⟨.hbm, 342, rfl⟩
abbrev main_call6_call0_call0_v159 : Ref sig .tc := ⟨.hbm, 343, rfl⟩
abbrev main_call6_call0_call0_v160 : Ref sig .tc := ⟨.hbm, 344, rfl⟩
abbrev main_call6_call0_call0_v161 : Ref sig .tc := ⟨.hbm, 345, rfl⟩
abbrev main_call6_call0_call0_v162 : Ref sig .tc := ⟨.hbm, 346, rfl⟩
abbrev main_call6_call0_call0_v163 : Ref sig .tc := ⟨.hbm, 347, rfl⟩
abbrev main_call6_call0_call0_c_42 : Ref sig .tc := ⟨.hbm, 348, rfl⟩
abbrev main_call6_call0_call0_v164 : Ref sig .tc := ⟨.hbm, 349, rfl⟩
abbrev main_call6_call0_call0_v165 : Ref sig .tc := ⟨.hbm, 350, rfl⟩
abbrev main_call6_call0_call0_c_43 : Ref sig .tc := ⟨.hbm, 351, rfl⟩
abbrev main_call6_call0_call0_v166 : Ref sig .tc := ⟨.hbm, 352, rfl⟩
abbrev main_call6_call0_call0_v167 : Ref sig .tc := ⟨.hbm, 353, rfl⟩
abbrev main_call6_call0_call0_v168 : Ref sig .tc := ⟨.hbm, 354, rfl⟩
abbrev main_call6_call0_call0_v169 : Ref sig .tc := ⟨.hbm, 355, rfl⟩
abbrev main_call6_call0_call0_v170 : Ref sig .tc := ⟨.hbm, 356, rfl⟩
abbrev main_call6_call0_v18_0 : Ref sig .tc := ⟨.hbm, 357, rfl⟩
abbrev main_call6_call0_call0_v172 : Ref sig .tc := ⟨.hbm, 358, rfl⟩
abbrev main_call6_call0_call0_v173 : Ref sig .tc := ⟨.hbm, 359, rfl⟩
abbrev main_call6_call0_call0_c_44 : Ref sig .tc := ⟨.hbm, 360, rfl⟩
abbrev main_call6_call0_call0_v174 : Ref sig .tc := ⟨.hbm, 361, rfl⟩
abbrev main_call6_call0_v18_1 : Ref sig .tc := ⟨.hbm, 362, rfl⟩
abbrev main_call6_call0_v19 : Ref sig .tc := ⟨.hbm, 363, rfl⟩
abbrev main_call6_call0_c_2 : Ref sig .tc := ⟨.hbm, 364, rfl⟩
abbrev main_call6_call0_v20 : Ref sig .tc := ⟨.hbm, 365, rfl⟩
abbrev main_call6_call0_v21 : Ref sig .tc := ⟨.hbm, 366, rfl⟩
abbrev main_call6_call0_c_3 : Ref sig .tc := ⟨.hbm, 367, rfl⟩
abbrev main_call6_call0_v22 : Ref sig .tc := ⟨.hbm, 368, rfl⟩
abbrev main_call6_call0_v23 : Ref sig .tc := ⟨.hbm, 369, rfl⟩
abbrev main_call6_call0_v24 : Ref sig .tc := ⟨.hbm, 370, rfl⟩
abbrev main_call6_call0_cst : Ref sig .tc := ⟨.hbm, 371, rfl⟩
abbrev main_call6_call0_v25 : Ref sig .tc := ⟨.hbm, 372, rfl⟩
abbrev main_call6_call0_v26 : Ref sig .tc := ⟨.hbm, 373, rfl⟩
abbrev main_call6_call0_v27 : Ref sig .tc := ⟨.hbm, 374, rfl⟩
abbrev main_call6_call0_v28 : Ref sig .tc := ⟨.hbm, 375, rfl⟩
abbrev main_call6_call0_v29 : Ref sig .tc := ⟨.hbm, 376, rfl⟩
abbrev main_call6_call0_v30 : Ref sig .tc := ⟨.hbm, 377, rfl⟩
abbrev main_call6_call0_v31 : Ref sig .tc := ⟨.hbm, 378, rfl⟩
abbrev main_call6_call0_v32 : Ref sig .tc := ⟨.hbm, 379, rfl⟩
abbrev main_call6_v0 : Ref sig .tc := ⟨.hbm, 380, rfl⟩
abbrev main_call6_v1 : Ref sig .tc := ⟨.hbm, 381, rfl⟩
abbrev main_call6_v2 : Ref sig .tc := ⟨.hbm, 382, rfl⟩
abbrev main_call6_v3 : Ref sig .tc := ⟨.hbm, 383, rfl⟩
abbrev main_v64 : Ref sig .tc := ⟨.hbm, 384, rfl⟩
abbrev main_v65 : Ref sig .tc := ⟨.hbm, 385, rfl⟩
abbrev main_call7_v0 : Ref sig .tc := ⟨.hbm, 386, rfl⟩
abbrev main_call7_cst : Ref sig .tc := ⟨.hbm, 387, rfl⟩
abbrev main_call7_c : Ref sig .tc := ⟨.hbm, 388, rfl⟩
abbrev main_call7_v1_0 : Ref sig .tc := ⟨.hbm, 389, rfl⟩
abbrev main_v66 : Ref sig .tc := ⟨.hbm, 390, rfl⟩
abbrev main_v67 : Ref sig .tc := ⟨.hbm, 391, rfl⟩

abbrev nD : Nat := 1
abbrev τ : Topo := Topo.v7x

variable {F : FTy → Type} [FloatOps F]
-- ==== Proof.RefRun.lean ====
module

public import proofs.«01_k».proof.Defs
public import proofs.«01_k».proof.Proof.Gen.ReferenceIdeal
public import Idealize.ShloMosaic.Lib.Claim
public import Idealize.ShloMosaic.Lib.StableHlo.RunHlo
public import Idealize.ShloMosaic.Lib.StableHlo.RunRead

@[expose] public section

noncomputable section

namespace Cert.ReferenceIdeal.Hand

open Idealize.ShloMosaic Idealize.SL.Sem Cert.ReferenceIdeal StableHlo

instance : Cert.ReferenceIdeal.Facts := Cert.ReferenceIdeal.Gen.facts

section lines
variable {nD : Nat} {τ : Topo} {sig : RefSig} {Val : EltTy → Type} {Λ : Labels}

/-- Two straight lines one after the other are one straight line. -/
theorem isSeq_append {p k : Prog (TpuEff nD τ sig Val Λ .tc) PUnit} {a b : List (HloOp τ sig Val)}
    (hp : IsSeq p a) (hk : IsSeq k b) : IsSeq (p >>= fun _ => k) (a ++ b) := by
  unfold IsSeq at *
  rw [hp, hk, seq_append]

/-- One operation is a straight line. -/
theorem isSeq_single {op : HloOp τ sig Val} :
    IsSeq (nD := nD) (Λ := Λ) (hlo rfl op fun _ => .ret (⟨⟩ : PUnit)) [op] := by
  unfold IsSeq; rfl

/-- A straight line with its operations. -/
def mkLine {D : Type} {p : D → Prog (TpuEff nD τ sig Val Λ .tc) PUnit} {ops : List (HloOp τ sig Val)}
    (h : ∀ d, IsSeq (p d) ops) : {ops : List (HloOp τ sig Val) // ∀ d, IsSeq (p d) ops} := ⟨ops, h⟩

end lines

set_option maxHeartbeats 4000000 in
set_option maxRecDepth 20000 in
/-- The operations of the reference, in order. -/
def line : {ops : List (HloOp τ sig (Elt Ideal)) // ∀ d, IsSeq (main (F := Ideal) d) ops} :=
  by
    apply mkLine
    case h =>
      intro d
      unfold main main_part0 main_part1
      repeat (first
        | exact IsSeq.nil
        | apply IsSeq.cons
        | apply isSeq_append
        | exact isSeq_single
        | unfold fn_clip.body | unfold fn_argsort.body | unfold fn_take_along_axis.body
        | unfold fn_cumsum.body | unfold fn_cumsum_0.body | unfold fn_where.body | unfold fn_gumbel.body | unfold fn_uniform.body
        | unfold fn_threefry2x32.body | unfold fn_threefry2x32.body_part0 | unfold fn_threefry2x32.body_part1
        | unfold fn_threefry2x32.body_part2 | unfold fn_threefry2x32.body_part3 | unfold fn_argmax.body)

set_option maxHeartbeats 4000000 in
set_option maxRecDepth 20000 in
theorem line_bufs : line.1.Forall fun op => op.bufs ⊆ tcRefs τ sig := by
  simp [line, mkLine]

set_option maxHeartbeats 4000000 in
set_option maxRecDepth 20000 in
theorem line_fresh : ∀ op ∈ line.1, op.fresh = ∅ := by
  have h : line.1.Forall fun op => op.fresh = ∅ := forall_fresh_of_map rfl
  exact List.forall_iff_forall_mem.mp h

/-- What device `d` holds when the reference has ended. -/
def M (m : (ℓ : Loc nD τ sig) → Buf (Elt Ideal) ℓ) (d : Dev nD) : Valuation τ sig (Elt Ideal) :=
  after line.1 (launchContents m d)

/-- The reference ends with every buffer holding `M`. -/
theorem run (m : (ℓ : Loc nD τ sig) → Buf (Elt Ideal) ℓ) (g : Dev nD → PrngReg) :
    θ_run (defs (F := Ideal)) (onTc (τ := τ) (main (F := Ideal))) ⟨m, fun _ => 0, g⟩ fun r =>
      ∀ (d : Dev nD) (b : Ref sig .tc), r.2.mem ((d.tc : Thread nD τ).loc b) = M m d (Proc.devRef .tc b) :=
  run_hlo _ _ line.2 (by decide) (by decide) line_bufs line_fresh m g

/-! ## One equation per operation

Operation `i` of the line writes buffer `i + 4` (the four before it are the arguments) and reads only buffers below, so what the
line leaves in the buffer it writes is its function of what the line leaves in the buffers it reads. -/

/-- The buffer that operation `i` writes. -/
def wr (i : Fin 388) : Ref sig .tc := ⟨.hbm, ⟨i.val + 4, by have h : sig.nNear .tc .hbm = 392 := rfl; omega⟩, rfl⟩

set_option maxHeartbeats 4000000 in
set_option maxRecDepth 20000 in
theorem line_writes : line.1.map HloOp.writes = (List.ofFn wr).map fun w => {Proc.devRef (τ := τ) .tc w} := rfl

/-- `x` is a buffer that no operation from the `i`-th on writes. -/
def bef (i : ℕ) (x : Ref sig .tc) : Bool := x.space = .hbm && x.idx.val < i + 4

theorem not_mem_drop {i : ℕ} {x : Ref sig .tc} (h : bef i x = true) : x ∉ (List.ofFn wr).drop i := by
  intro hx
  obtain ⟨j, hj, e⟩ := List.mem_iff_getElem.mp hx
  simp only [List.getElem_drop, List.getElem_ofFn] at e
  simp only [bef, Bool.and_eq_true, decide_eq_true_eq] at h
  have h2 : x.idx.val = i + j + 4 := by rw [← e]; rfl
  omega

variable (m : (ℓ : Loc nD τ sig) → Buf (Elt Ideal) ℓ) (d : Dev nD)

/-- What the line holds after its first `i` operations. -/
def U (i : ℕ) : Valuation τ sig (Elt Ideal) := upto line.1 (launchContents m d) i

theorem after_app {Val : EltTy → Type} (l₁ l₂ : List (HloOp τ sig Val)) (V : Valuation τ sig Val) :
    after (l₁ ++ l₂) V = after l₂ (after l₁ V) := by
  induction l₁ generalizing V with
  | nil => rfl
  | cons op l ih => exact ih _

theorem U_eq {i : ℕ} {x : Ref sig .tc} (h : bef i x = true) :
    U m d i (Proc.devRef .tc x) = M m d (Proc.devRef .tc x) := by
  have e : M m d = after (line.1.drop i) (U m d i) := by
    unfold M U upto
    rw [← after_app, List.take_append_drop]
  rw [e]
  have hw : (line.1.drop i).map HloOp.writes = ((List.ofFn wr).drop i).map fun w => {Proc.devRef (τ := τ) .tc w} := by
    rw [List.map_drop, line_writes, List.map_drop]
  exact (after_unwritten _ hw (not_mem_drop h) _).symm

theorem M_op {i : ℕ} {op : HloOp τ sig (Elt Ideal)} (h : line.1[i]? = some op) {y : Ref sig .tc} (hy : bef (i + 1) y = true) :
    M m d (Proc.devRef .tc y) = op.result (U m d i) (Proc.devRef .tc y) := by
  rw [← U_eq m d hy]
  have e : line.1.take (i + 1) = line.1.take i ++ [op] := by
    rw [List.take_add_one, h]; rfl
  unfold U upto
  rw [e, after_app]; rfl

theorem M_nullary {i : ℕ} {y : Ref sig .tc} {v : y.ty.Contents (Elt Ideal)} {hy}
    (h : line.1[i]? = some (nullary y v hy)) (by' : bef (i + 1) y = true) : M m d (Proc.devRef .tc y) = v := by
  rw [M_op m d h by', nullary_result']

theorem M_unary {i : ℕ} {x y : Ref sig .tc} {f : x.ty.Contents (Elt Ideal) → y.ty.Contents (Elt Ideal)} {hx hy}
    (h : line.1[i]? = some (unary x y f hx hy)) (by' : bef (i + 1) y = true) (bx : bef i x = true) :
    M m d (Proc.devRef .tc y) = f (M m d (Proc.devRef .tc x)) := by
  rw [M_op m d h by', unary_result', U_eq m d bx]

theorem M_binary {i : ℕ} {a b y : Ref sig .tc} {f : a.ty.Contents (Elt Ideal) → b.ty.Contents (Elt Ideal) → y.ty.Contents (Elt Ideal)}
    {ha hb hy} (h : line.1[i]? = some (binary a b y f ha hb hy)) (by' : bef (i + 1) y = true) (ba : bef i a = true)
    (bb : bef i b = true) : M m d (Proc.devRef .tc y) = f (M m d (Proc.devRef .tc a)) (M m d (Proc.devRef .tc b)) := by
  rw [M_op m d h by', binary_result', U_eq m d ba, U_eq m d bb]

theorem M_ternary {i : ℕ} {a b c y : Ref sig .tc}
    {f : a.ty.Contents (Elt Ideal) → b.ty.Contents (Elt Ideal) → c.ty.Contents (Elt Ideal) → y.ty.Contents (Elt Ideal)}
    {ha hb hc hy} (h : line.1[i]? = some (ternary a b c y f ha hb hc hy)) (by' : bef (i + 1) y = true) (ba : bef i a = true)
    (bb : bef i b = true) (bc : bef i c = true) :
    M m d (Proc.devRef .tc y) = f (M m d (Proc.devRef .tc a)) (M m d (Proc.devRef .tc b)) (M m d (Proc.devRef .tc c)) := by
  rw [M_op m d h by', ternary_result', U_eq m d ba, U_eq m d bb, U_eq m d bc]

theorem M_quaternary {i : ℕ} {a b c e y : Ref sig .tc}
    {f : a.ty.Contents (Elt Ideal) → b.ty.Contents (Elt Ideal) → c.ty.Contents (Elt Ideal) → e.ty.Contents (Elt Ideal) →
      y.ty.Contents (Elt Ideal)}
    {ha hb hc he hy} (h : line.1[i]? = some (quaternary a b c e y f ha hb hc he hy)) (by' : bef (i + 1) y = true)
    (ba : bef i a = true) (bb : bef i b = true) (bc : bef i c = true) (be : bef i e = true) :
    M m d (Proc.devRef .tc y) = f (M m d (Proc.devRef .tc a)) (M m d (Proc.devRef .tc b)) (M m d (Proc.devRef .tc c))
      (M m d (Proc.devRef .tc e)) := by
  rw [M_op m d h by', quaternary_result', U_eq m d ba, U_eq m d bb, U_eq m d bc, U_eq m d be]

theorem M_reshape {i : ℕ} {x y : Ref sig .tc} {he hn hx hy}
    (h : line.1[i]? = some (reshape x y he hn hx hy)) (by' : bef (i + 1) y = true) (bx : bef i x = true) :
    M m d (Proc.devRef .tc y) = fun k => he ▸ shapeCast y.ty.shape (M m d (Proc.devRef .tc x)) hn k := by
  rw [M_op m d h by', reshape_result', U_eq m d bx]

/-- No operation writes an argument. -/
theorem M_arg {x : Ref sig .tc} (h : bef 0 x = true) : M m d (Proc.devRef .tc x) = m (d, Proc.devRef .tc x) := by
  rw [← U_eq m d h]; rfl

end Cert.ReferenceIdeal.Hand
-- ==== Proof.Spec.lean ====
/-
The reference's mathematics as one composition of the functions that the precondition's module prints: what a row's softmax,
its sorted order, the removed entries, the Gumbel noise and the sampled index are, as functions of the logits alone.
-/
module

public import proofs.«01_k».proof.Defs
public import proofs.«01_k».proof.Proof.Gen.Pre_cutoff_resolved
public import proofs.«01_k».proof.Proof.Gen.ReferenceIdeal

@[expose] public section

noncomputable section

namespace Cert.Hand

open Idealize.ShloMosaic Idealize.SL.Sem Cert.Pre_cutoff_resolved Cert.Pre_cutoff_resolved.Facts

instance : Cert.Pre_cutoff_resolved.Facts := Cert.Pre_cutoff_resolved.Gen.facts
instance : Cert.ReferenceIdeal.Facts := Cert.ReferenceIdeal.Gen.facts

/-- A table of 32 rows of a million reals. -/
abbrev Tab := FVec Ideal S32x1000000 .f32

/-- The temperature, clipped to its range. -/
def temp : FVec Ideal S_ .f32 :=
  fn_clip (F := Ideal) (constant S_ .f32 0x3F8CCCCD#32) (constant S_ .f32 0x3F333333#32) (constant S_ .f32 0x3FC00000#32)

/-- The probability to be covered, clipped to its range. -/
def topp : FVec Ideal S_ .f32 :=
  fn_clip (F := Ideal) (constant S_ .f32 0x3F6A3D71#32) (constant S_ .f32 0x3F59999A#32) (constant S_ .f32 0x3F7AE148#32)

/-- The logits over the temperature. -/
def sc (A : Tab) : Tab := Host.divf A (broadcastInDim S32x1000000 ![] bcast_S_S32x1000000 (id temp))

/-- A row's largest entry. -/
def rowMax (s : Tab) : FVec Ideal S32 .f32 :=
  Host.reduce FloatOps.maximumf s (constant S_ .f32 0xFF800000#32) reducesTo_S32x1000000_S32_d1 h_S_

/-- The exponentials of a row below its maximum, as the softmax takes them. -/
def ex (s : Tab) : Tab :=
  Host.exp (subf s (broadcastInDim S32x1000000 ![0, 1] bcast_S32x1_S32x1000000_0_1 (broadcastInDim S32x1 ![0] bcast_S32_S32x1_0
    (maximumf (broadcastInDim S32 ![] bcast_S_S32 (constant S_ .f32 0xFF800000#32)) (rowMax s)))))

/-- The softmax of a row. -/
def probs (s : Tab) : Tab :=
  Host.divf (ex s) (broadcastInDim S32x1000000 ![0, 1] bcast_S32x1_S32x1000000_0_1 (broadcastInDim S32x1 ![0] bcast_S32_S32x1_0
    (Host.reduceAdd (ex s) (constant S_ .f32 0x00000000#32) reducesTo_S32x1000000_S32_d1 h_S_)))

/-- The columns of a row by falling probability. -/
def ord (p : Tab) : IVec S32x1000000 32 := fn_argsort (F := Ideal) (Host.negf p)

/-- Where the running sum of the sorted probabilities is past the bound. -/
def over (p : Tab) : IVec S32x1000000 1 :=
  cmpf .ogt (fn_cumsum (F := Ideal) (fn_take_along_axis (F := Ideal) p (ord p)))
    (broadcastInDim S32x1000000 ![] bcast_S_S32x1000000 (id topp))

/-- The removed sorted positions: `over` one position later. -/
def late (p : Tab) : IVec S32x1000000 1 :=
  concatenate S32x1000000 1 [⟨S32x1, broadcastInDim S32x1 ![] bcast_S_S32x1 (constantI S_ 1 0#1)⟩,
    ⟨S32x999999, extractStridedSlice S32x999999 ![0, 0] (over p) slices_S32x1000000_S32x999999_0_0⟩]
    concatenates_S32x1_S32x999999_S32x1000000_d1

/-- The row numbers, as a column. -/
def rows : IVec S32x1 32 := broadcastInDim S32x1 ![0] bcast_S32_S32x1_0 (iotaInDim S32 32 0)

/-- The row numbers, a negative one counted from the end. -/
def rowsW : IVec S32x1 32 :=
  select (cmpi .slt rows (broadcastInDim S32x1 ![] bcast_S_S32x1 (constantI S_ 32 0#32)))
    (addi rows (broadcastInDim S32x1 ![] bcast_S_S32x1 (constantI S_ 32 32#32))) rows

/-- The sorted columns, a negative one counted from the end. -/
def ordW (o : IVec S32x1000000 32) : IVec S32x1000000 32 :=
  select (cmpi .slt o (broadcastInDim S32x1000000 ![] bcast_S_S32x1000000 (constantI S_ 32 0#32)))
    (addi o (broadcastInDim S32x1000000 ![] bcast_S_S32x1000000 (constantI S_ 32 1000000#32))) o

/-- The entry that each sorted position stands for. -/
def where2 (o : IVec S32x1000000 32) : IVec S32x1000000x2 32 :=
  concatenate S32x1000000x2 2
    [⟨S32x1000000x1, broadcastInDim S32x1000000x1 ![0, 1] bcast_S32x1000000_S32x1000000x1_0_1
        (broadcastInDim S32x1000000 ![0, 1] bcast_S32x1_S32x1000000_0_1 rowsW)⟩,
      ⟨S32x1000000x1, broadcastInDim S32x1000000x1 ![0, 1] bcast_S32x1000000_S32x1000000x1_0_1 (ordW o)⟩]
    concatenates_S32x1000000x1_S32x1000000x1_S32x1000000x2_d2

/-- The removed entries. -/
def mask (p : Tab) : IVec S32x1000000 1 :=
  Host.scatter scatter_S32x1000000_S32x1000000x2_S32x1000000_n_01_01_2 (fun _ b => b)
    (broadcastInDim S32x1000000 ![] bcast_S_S32x1000000 (constantI S_ 1 0#1)) (where2 (ord p)) (late p)

/-- The key of the seed 42. -/
def key : IVec S2 32 :=
  concatenate S2 0 [⟨S1, broadcastInDim S1 ![] bcast_S_S1 (id (Host.shrui (constantI S_ 32 42#32) (constantI S_ 32 32#32)))⟩,
    ⟨S1, broadcastInDim S1 ![] bcast_S_S1 (id (andi (constantI S_ 32 42#32) (constantI S_ 32 4294967295#32)))⟩]
    concatenates_S1_S1_S2_d0

/-- The Gumbel noise of the seed 42. -/
def gum : Tab := fn_gumbel (F := Ideal) key

/-- The entries the reference takes the largest of: noise plus logit, a removed entry at minus infinity. -/
def noisy (s : Tab) : Tab :=
  addf gum (fn_where (F := Ideal) (mask (probs s)) (constant S_ .f32 0xFF800000#32) s)

/-- The sampled column of every row. -/
def pick (v : Tab) : IVec S32x1 32 :=
  broadcastInDim S32x1 ![0] bcast_S32_S32x1_0 fun j =>
    (Host.argReduce Cert.ReferenceIdeal.reducer_argmax_f32_i32 v (iotaInDim S32x1000000 32 1) (constant S_ .f32 0xFF800000#32)
      (constantI S_ 32 0#32) reducesTo_S32x1000000_S32_d1 h_S_ j).2

end Cert.Hand
-- ==== Proof.RefSoft.lean ====
/-
The reference's softmax, order, running sum and mask, as the functions of Spec.lean of what the line leaves.
-/
module

public import proofs.«01_k».proof.Proof.RefRun
public import proofs.«01_k».proof.Proof.Spec

@[expose] public section

noncomputable section

namespace Cert.ReferenceIdeal.Hand

open Idealize.ShloMosaic Idealize.SL.Sem Cert.ReferenceIdeal Cert.ReferenceIdeal.Facts₀ Cert.ReferenceIdeal.Facts StableHlo

variable (m : (ℓ : Loc nD τ sig) → Buf (Elt Ideal) ℓ) (d : Dev nD)

set_option maxHeartbeats 4000000 in
theorem M_sc : Cert.Hand.sc (M m d (Proc.devRef .tc main_arg0)) = (M m d (Proc.devRef .tc main_v15)) := by
  rw [M_binary m d (i := 25) (y := main_v15) rfl rfl rfl rfl,
    M_unary m d (i := 24) (y := main_v14) rfl rfl rfl,
    M_unary m d (i := 23) (y := main_v13) rfl rfl rfl,
    M_binary m d (i := 17) (y := main_v11) rfl rfl rfl rfl,
    M_binary m d (i := 16) (y := main_call0_v0) rfl rfl rfl rfl,
    M_nullary m d (i := 15) (y := main_cst_3) rfl rfl,
    M_nullary m d (i := 14) (y := main_cst_2) rfl rfl,
    M_nullary m d (i := 13) (y := main_cst_1) rfl rfl]
  generalize M m d (Proc.devRef .tc main_arg0) = a0
  unfold Cert.Hand.sc Cert.Hand.temp Cert.Pre_cutoff_resolved.fn_clip
  dsimp only
  simp -implicitDefEqProofs only [StableHlo.TRef.toBuf, StableHlo.TRef.ofBuf, cast_cast, cast_eq]

set_option maxHeartbeats 4000000 in
theorem M_ex : Cert.Hand.ex (M m d (Proc.devRef .tc main_v15)) = (M m d (Proc.devRef .tc main_v22)) := by
  rw [M_unary m d (i := 34) (y := main_v22) rfl rfl rfl,
    M_binary m d (i := 33) (y := main_v21) rfl rfl rfl rfl,
    M_unary m d (i := 32) (y := main_v20) rfl rfl rfl,
    M_unary m d (i := 31) (y := main_v19) rfl rfl rfl,
    M_binary m d (i := 30) (y := main_v18) rfl rfl rfl rfl,
    M_unary m d (i := 29) (y := main_v17) rfl rfl rfl,
    M_nullary m d (i := 28) (y := main_cst_8) rfl rfl,
    M_binary m d (i := 27) (y := main_v16) rfl rfl rfl rfl,
    M_nullary m d (i := 26) (y := main_cst_7) rfl rfl]
  generalize M m d (Proc.devRef .tc main_v15) = a0
  unfold Cert.Hand.ex Cert.Hand.rowMax
  dsimp only

set_option maxHeartbeats 4000000 in
theorem M_probs : Cert.Hand.probs (M m d (Proc.devRef .tc main_v15)) = (M m d (Proc.devRef .tc main_v26)) := by
  rw [M_binary m d (i := 39) (y := main_v26) rfl rfl rfl rfl,
    M_unary m d (i := 38) (y := main_v25) rfl rfl rfl,
    M_unary m d (i := 37) (y := main_v24) rfl rfl rfl,
    M_binary m d (i := 36) (y := main_v23) rfl rfl rfl rfl,
    M_nullary m d (i := 35) (y := main_cst_9) rfl rfl,
    ← M_ex]
  generalize M m d (Proc.devRef .tc main_v15) = a0
  unfold Cert.Hand.probs
  dsimp only

set_option maxHeartbeats 4000000 in
theorem M_ord : Cert.Hand.ord (M m d (Proc.devRef .tc main_v26)) = (M m d (Proc.devRef .tc main_v28)) := by
  rw [M_binary m d (i := 43) (y := main_v28) rfl rfl rfl rfl,
    M_nullary m d (i := 41) (y := main_call2_v0) rfl rfl,
    M_unary m d (i := 40) (y := main_v27) rfl rfl rfl]
  generalize M m d (Proc.devRef .tc main_v26) = a0
  unfold Cert.Hand.ord Cert.Pre_cutoff_resolved.fn_argsort
  dsimp only
  simp -implicitDefEqProofs only [StableHlo.TRef.toBuf, StableHlo.TRef.ofBuf, cast_cast, cast_eq]
  rfl

set_option maxHeartbeats 4000000 in
theorem M_sorted : Cert.Pre_cutoff_resolved.fn_take_along_axis (F := Ideal) (M m d (Proc.devRef .tc main_v26)) (M m d (Proc.devRef .tc main_v28)) = (M m d (Proc.devRef .tc main_v29)) := by
  rw [M_ternary m d (i := 65) (y := main_v29) rfl rfl rfl rfl rfl,
    M_unary m d (i := 64) (y := main_call3_v14) rfl rfl rfl,
    M_nullary m d (i := 63) (y := main_call3_cst) rfl rfl,
    M_binary m d (i := 62) (y := main_call3_v13) rfl rfl rfl rfl,
    M_binary m d (i := 61) (y := main_call3_v12) rfl rfl rfl rfl,
    M_nullary m d (i := 60) (y := main_call3_c_3) rfl rfl,
    M_binary m d (i := 59) (y := main_call3_v11) rfl rfl rfl rfl,
    M_binary m d (i := 58) (y := main_call3_v10) rfl rfl rfl rfl,
    M_unary m d (i := 57) (y := main_call3_v9) rfl rfl rfl,
    M_unary m d (i := 56) (y := main_call3_v8) rfl rfl rfl,
    M_binary m d (i := 55) (y := main_call3_v7) rfl rfl rfl rfl,
    M_unary m d (i := 54) (y := main_call3_v6) rfl rfl rfl,
    M_nullary m d (i := 53) (y := main_call3_c_2) rfl rfl,
    M_nullary m d (i := 52) (y := main_call3_c_1) rfl rfl,
    M_reshape m d (i := 51) (y := main_call3_v5) rfl rfl rfl,
    M_ternary m d (i := 50) (y := main_call3_v4) rfl rfl rfl rfl rfl,
    M_binary m d (i := 49) (y := main_call3_v3) rfl rfl rfl rfl,
    M_unary m d (i := 48) (y := main_call3_v2) rfl rfl rfl,
    M_nullary m d (i := 47) (y := main_call3_c_0) rfl rfl,
    M_binary m d (i := 46) (y := main_call3_v1) rfl rfl rfl rfl,
    M_unary m d (i := 45) (y := main_call3_v0) rfl rfl rfl,
    M_nullary m d (i := 44) (y := main_call3_c) rfl rfl]
  generalize M m d (Proc.devRef .tc main_v26) = a0
  generalize M m d (Proc.devRef .tc main_v28) = a1
  unfold Cert.Pre_cutoff_resolved.fn_take_along_axis
  dsimp only
  simp -implicitDefEqProofs only [StableHlo.TRef.toBuf, StableHlo.TRef.ofBuf, cast_cast, cast_eq]
  congr 1

set_option maxHeartbeats 4000000 in
theorem M_cum : Cert.Pre_cutoff_resolved.fn_cumsum (F := Ideal) (M m d (Proc.devRef .tc main_v29)) = (M m d (Proc.devRef .tc main_v30)) := by
  rw [M_binary m d (i := 68) (y := main_v30) rfl rfl rfl rfl,
    M_unary m d (i := 67) (y := main_call4_call0_v0) rfl rfl rfl,
    M_nullary m d (i := 66) (y := main_call4_call0_cst) rfl rfl]
  generalize M m d (Proc.devRef .tc main_v29) = a0
  unfold Cert.Pre_cutoff_resolved.fn_cumsum Cert.Pre_cutoff_resolved.fn_cumsum_0
  dsimp only
  simp -implicitDefEqProofs only [StableHlo.TRef.toBuf, StableHlo.TRef.ofBuf, cast_cast, cast_eq]

end Cert.ReferenceIdeal.Hand
-- ==== Proof.GumSpec.lean ====
/-
The reference's noise in named pieces: the two key words, the counters, the bounds of the uniform draw.
-/
module

public import proofs.«01_k».proof.Proof.Spec

@[expose] public section

noncomputable section

namespace Cert.Hand

open Idealize.ShloMosaic Idealize.SL.Sem Cert.Pre_cutoff_resolved Cert.Pre_cutoff_resolved.Facts

/-- The key's first word. -/
def kw0 (k : IVec S2 32) : IVec S_ 32 := shapeCast S_ (extractStridedSlice S1 ![0] k slices_S2_S1_0) shapeCasts_S1_S_
/-- The key's second word. -/
def kw1 (k : IVec S2 32) : IVec S_ 32 := shapeCast S_ (extractStridedSlice S1 ![1] k slices_S2_S1_1) shapeCasts_S1_S_
/-- Every entry's counter: its place in the flattened table. -/
def ctr : IVec S32x1000000 64 :=
  addi (muli (broadcastInDim S32x1000000 ![] bcast_S_S32x1000000 (constantI S_ 64 1000000#64)) (iotaInDim S32x1000000 64 0))
    (muli (broadcastInDim S32x1000000 ![] bcast_S_S32x1000000 (constantI S_ 64 1#64)) (iotaInDim S32x1000000 64 1))
/-- The counters' low words. -/
def ctrLo : IVec S32x1000000 32 := trunci 32 ctr natLt_32_64
/-- The counters' high words. -/
def ctrHi : IVec S32x1000000 32 :=
  trunci 32 (Host.shrui ctr (broadcastInDim S32x1000000 ![] bcast_S_S32x1000000 (constantI S_ 64 32#64))) natLt_32_64
/-- The lower bound of the uniform draw. -/
def uLo : FVec Ideal S1x1 .f32 := broadcastInDim S1x1 ![] bcast_S_S1x1 (constant S_ .f32 0x00800000#32)
/-- The upper bound of the uniform draw. -/
def uHi : FVec Ideal S1x1 .f32 := broadcastInDim S1x1 ![] bcast_S_S1x1 (id (constant S_ .f32 0x3F800000#32))

/-- The uniform draw of a key. -/
theorem uni_eq (k : IVec S2 32) : fn_uniform (F := Ideal) k (constant S_ .f32 0x3F800000#32) (constant S_ .f32 0x00800000#32)
    = fn_uniform_part1 (F := Ideal) uLo uHi (xori (fn_threefry2x32 (F := Ideal) (kw0 k) (kw1 k) ctrHi ctrLo).1
        (fn_threefry2x32 (F := Ideal) (kw0 k) (kw1 k) ctrHi ctrLo).2) := by
  unfold fn_uniform uLo uHi kw0 kw1 ctrHi ctrLo ctr
  with_reducible rfl

/-- The noise from the uniform draw. -/
theorem gum_eq : gum = Host.negf (Host.log (Host.negf (Host.log (fn_uniform (F := Ideal) key (constant S_ .f32 0x3F800000#32)
    (constant S_ .f32 0x00800000#32))))) := by
  unfold gum fn_gumbel
  with_reducible rfl

end Cert.Hand
-- ==== Proof.RefMask.lean ====
/-
The reference's removed entries, its noisy table and its result, as the functions of Spec.lean of what the line leaves.
-/
module

public import proofs.«01_k».proof.Proof.RefRun
public import proofs.«01_k».proof.Proof.Spec

@[expose] public section

noncomputable section

namespace Cert.ReferenceIdeal.Hand

open Idealize.ShloMosaic Idealize.SL.Sem Cert.ReferenceIdeal Cert.ReferenceIdeal.Facts₀ Cert.ReferenceIdeal.Facts StableHlo

variable (m : (ℓ : Loc nD τ sig) → Buf (Elt Ideal) ℓ) (d : Dev nD)

set_option maxHeartbeats 4000000 in
theorem M_late0 : concatenate S32x1000000 1 [⟨S32x1, broadcastInDim S32x1 ![] bcast_S_S32x1 (constantI S_ 1 0#1)⟩, ⟨S32x999999, extractStridedSlice S32x999999 ![0, 0] (cmpf .ogt (M m d (Proc.devRef .tc main_v30)) (broadcastInDim S32x1000000 ![] bcast_S_S32x1000000 (id Cert.Hand.topp))) slices_S32x1000000_S32x999999_0_0⟩] concatenates_S32x1_S32x999999_S32x1000000_d1 = (M m d (Proc.devRef .tc main_v37)) := by
  rw [M_binary m d (i := 76) (y := main_v37) rfl rfl rfl rfl,
    M_unary m d (i := 75) (y := main_v36) rfl rfl rfl,
    M_unary m d (i := 74) (y := main_v35) rfl rfl rfl,
    M_nullary m d (i := 73) (y := main_c) rfl rfl,
    M_binary m d (i := 71) (y := main_v33) rfl rfl rfl rfl,
    M_unary m d (i := 70) (y := main_v32) rfl rfl rfl,
    M_unary m d (i := 69) (y := main_v31) rfl rfl rfl,
    M_binary m d (i := 22) (y := main_v12) rfl rfl rfl rfl,
    M_binary m d (i := 21) (y := main_call1_v0) rfl rfl rfl rfl,
    M_nullary m d (i := 20) (y := main_cst_6) rfl rfl,
    M_nullary m d (i := 19) (y := main_cst_5) rfl rfl,
    M_nullary m d (i := 18) (y := main_cst_4) rfl rfl]
  rfl

set_option maxHeartbeats 4000000 in
theorem M_where2 : Cert.Hand.where2 (M m d (Proc.devRef .tc main_v28)) = (M m d (Proc.devRef .tc main_v54)) := by
  rw [M_binary m d (i := 98) (y := main_v54) rfl rfl rfl rfl,
    M_unary m d (i := 97) (y := main_v53) rfl rfl rfl,
    M_unary m d (i := 96) (y := main_v52) rfl rfl rfl,
    M_unary m d (i := 95) (y := main_v51) rfl rfl rfl,
    M_ternary m d (i := 94) (y := main_v50) rfl rfl rfl rfl rfl,
    M_binary m d (i := 93) (y := main_v49) rfl rfl rfl rfl,
    M_unary m d (i := 92) (y := main_v48) rfl rfl rfl,
    M_nullary m d (i := 91) (y := main_c_14) rfl rfl,
    M_binary m d (i := 90) (y := main_v47) rfl rfl rfl rfl,
    M_unary m d (i := 89) (y := main_v46) rfl rfl rfl,
    M_nullary m d (i := 88) (y := main_c_13) rfl rfl,
    M_ternary m d (i := 87) (y := main_v45) rfl rfl rfl rfl rfl,
    M_binary m d (i := 86) (y := main_v44) rfl rfl rfl rfl,
    M_unary m d (i := 85) (y := main_v43) rfl rfl rfl,
    M_nullary m d (i := 84) (y := main_c_12) rfl rfl,
    M_binary m d (i := 83) (y := main_v42) rfl rfl rfl rfl,
    M_unary m d (i := 82) (y := main_v41) rfl rfl rfl,
    M_nullary m d (i := 81) (y := main_c_11) rfl rfl,
    M_unary m d (i := 78) (y := main_v39) rfl rfl rfl,
    M_nullary m d (i := 77) (y := main_v38) rfl rfl]
  generalize M m d (Proc.devRef .tc main_v28) = a0
  unfold Cert.Hand.where2 Cert.Hand.rowsW Cert.Hand.ordW Cert.Hand.rows
  congr 1

set_option maxHeartbeats 4000000 in
theorem M_mask0 : Host.scatter scatter_S32x1000000_S32x1000000x2_S32x1000000_n_01_01_2 (fun _ b => b) (broadcastInDim S32x1000000 ![] bcast_S_S32x1000000 (constantI S_ 1 0#1)) (M m d (Proc.devRef .tc main_v54)) (M m d (Proc.devRef .tc main_v37)) = (M m d (Proc.devRef .tc main_v55)) := by
  rw [M_ternary m d (i := 99) (y := main_v55) rfl rfl rfl rfl rfl,
    M_unary m d (i := 80) (y := main_v40) rfl rfl rfl,
    M_nullary m d (i := 79) (y := main_c_10) rfl rfl]

set_option maxHeartbeats 4000000 in
theorem M_masked : Cert.Pre_cutoff_resolved.fn_where (F := Ideal) (M m d (Proc.devRef .tc main_v55)) (constant S_ .f32 0xFF800000#32) (M m d (Proc.devRef .tc main_v15)) = (M m d (Proc.devRef .tc main_v56)) := by
  rw [M_ternary m d (i := 103) (y := main_v56) rfl rfl rfl rfl rfl,
    M_unary m d (i := 102) (y := main_call5_v1) rfl rfl rfl,
    M_unary m d (i := 101) (y := main_call5_v0) rfl rfl rfl,
    M_nullary m d (i := 100) (y := main_cst_15) rfl rfl]
  generalize M m d (Proc.devRef .tc main_v55) = a0
  generalize M m d (Proc.devRef .tc main_v15) = a1
  unfold Cert.Pre_cutoff_resolved.fn_where
  dsimp only
  simp -implicitDefEqProofs only [StableHlo.TRef.toBuf, StableHlo.TRef.ofBuf, cast_cast, cast_eq]

set_option maxHeartbeats 4000000 in
theorem M_key : Cert.Hand.key = (M m d (Proc.devRef .tc main_v63)) := by
  rw [M_binary m d (i := 113) (y := main_v63) rfl rfl rfl rfl,
    M_unary m d (i := 112) (y := main_v62) rfl rfl rfl,
    M_unary m d (i := 111) (y := main_v61) rfl rfl rfl,
    M_binary m d (i := 110) (y := main_v60) rfl rfl rfl rfl,
    M_nullary m d (i := 109) (y := main_c_18) rfl rfl,
    M_unary m d (i := 108) (y := main_v59) rfl rfl rfl,
    M_unary m d (i := 107) (y := main_v58) rfl rfl rfl,
    M_binary m d (i := 106) (y := main_v57) rfl rfl rfl rfl,
    M_nullary m d (i := 105) (y := main_c_17) rfl rfl,
    M_nullary m d (i := 104) (y := main_c_16) rfl rfl]
  rfl

set_option maxHeartbeats 4000000 in
theorem M_noisy0 : (addf (F := Ideal) (s := S32x1000000) (φ := .f32) (M m d (Proc.devRef .tc main_v64)) (M m d (Proc.devRef .tc main_v56))) = (M m d (Proc.devRef .tc main_v65)) := by
  rw [M_binary m d (i := 381) (y := main_v65) rfl rfl rfl rfl]

set_option maxHeartbeats 4000000 in
theorem M_pick : Cert.Hand.pick (M m d (Proc.devRef .tc main_v65)) = (M m d (Proc.devRef .tc main_v67)) := by
  rw [M_unary m d (i := 387) (y := main_v67) rfl rfl rfl,
    M_quaternary m d (i := 386) (y := main_v66) rfl rfl rfl rfl rfl rfl,
    M_nullary m d (i := 384) (y := main_call7_c) rfl rfl,
    M_nullary m d (i := 383) (y := main_call7_cst) rfl rfl,
    M_nullary m d (i := 382) (y := main_call7_v0) rfl rfl]
  generalize M m d (Proc.devRef .tc main_v65) = a0
  rfl

end Cert.ReferenceIdeal.Hand
-- ==== Proof.RefKey.lean ====
/-
The pieces of the reference's noise, as its lines leave them: the key's words, the counters and the bounds.
-/
module

public import proofs.«01_k».proof.Proof.RefRun
public import proofs.«01_k».proof.Proof.GumSpec

@[expose] public section

noncomputable section

namespace Cert.ReferenceIdeal.Hand

open Idealize.ShloMosaic Idealize.SL.Sem Cert.ReferenceIdeal Cert.ReferenceIdeal.Facts₀ Cert.ReferenceIdeal.Facts StableHlo

variable (m : (ℓ : Loc nD τ sig) → Buf (Elt Ideal) ℓ) (d : Dev nD)

/-- The key's words, the counters and the bounds, as the lines leave them. -/
theorem M_kw0 : Cert.Hand.kw0 (M m d (Proc.devRef .tc main_v63)) = (M m d (Proc.devRef .tc main_call6_call0_v4)) := by
  rw [M_reshape m d (i := 120) (y := main_call6_call0_v4) rfl rfl rfl,
    M_unary m d (i := 119) (y := main_call6_call0_v3) rfl rfl rfl]
  generalize M m d (Proc.devRef .tc main_v63) = a
  rfl

theorem M_kw1 : Cert.Hand.kw1 (M m d (Proc.devRef .tc main_v63)) = (M m d (Proc.devRef .tc main_call6_call0_v6)) := by
  rw [M_reshape m d (i := 122) (y := main_call6_call0_v6) rfl rfl rfl,
    M_unary m d (i := 121) (y := main_call6_call0_v5) rfl rfl rfl]
  generalize M m d (Proc.devRef .tc main_v63) = a
  rfl

theorem M_ctr : Cert.Hand.ctr = (M m d (Proc.devRef .tc main_call6_call0_v13)) := by
  rw [M_binary m d (i := 131) (y := main_call6_call0_v13) rfl rfl rfl rfl,
    M_binary m d (i := 130) (y := main_call6_call0_v12) rfl rfl rfl rfl,
    M_unary m d (i := 129) (y := main_call6_call0_v11) rfl rfl rfl,
    M_nullary m d (i := 128) (y := main_call6_call0_c_0) rfl rfl,
    M_binary m d (i := 127) (y := main_call6_call0_v10) rfl rfl rfl rfl,
    M_unary m d (i := 126) (y := main_call6_call0_v9) rfl rfl rfl,
    M_nullary m d (i := 125) (y := main_call6_call0_c) rfl rfl,
    M_nullary m d (i := 124) (y := main_call6_call0_v8) rfl rfl,
    M_nullary m d (i := 123) (y := main_call6_call0_v7) rfl rfl]
  rfl

theorem M_ctrLo : Cert.Hand.ctrLo = (M m d (Proc.devRef .tc main_call6_call0_v16)) := by
  rw [M_unary m d (i := 135) (y := main_call6_call0_v16) rfl rfl rfl,
    ← M_ctr m d]
  rfl

theorem M_ctrHi : Cert.Hand.ctrHi = (M m d (Proc.devRef .tc main_call6_call0_v17)) := by
  rw [M_unary m d (i := 136) (y := main_call6_call0_v17) rfl rfl rfl,
    M_binary m d (i := 134) (y := main_call6_call0_v15) rfl rfl rfl rfl,
    M_unary m d (i := 133) (y := main_call6_call0_v14) rfl rfl rfl,
    M_nullary m d (i := 132) (y := main_call6_call0_c_1) rfl rfl,
    ← M_ctr m d]
  rfl

theorem M_uLo : Cert.Hand.uLo = (M m d (Proc.devRef .tc main_call6_call0_v1)) := by
  rw [M_unary m d (i := 117) (y := main_call6_call0_v1) rfl rfl rfl,
    M_nullary m d (i := 115) (y := main_call6_cst_0) rfl rfl]
  rfl

theorem M_uHi : Cert.Hand.uHi = (M m d (Proc.devRef .tc main_call6_call0_v2)) := by
  rw [M_unary m d (i := 118) (y := main_call6_call0_v2) rfl rfl rfl,
    M_unary m d (i := 116) (y := main_call6_call0_v0) rfl rfl rfl,
    M_nullary m d (i := 114) (y := main_call6_cst) rfl rfl]
  rfl

end Cert.ReferenceIdeal.Hand
-- ==== Proof.RefBits0.lean ====
/-
Part of the reference's random bits: each window of the generator's rounds, as the function of Spec.lean's module of what the line leaves.
-/
module

public import proofs.«01_k».proof.Proof.RefRun
public import proofs.«01_k».proof.Proof.Spec

@[expose] public section

noncomputable section

namespace Cert.ReferenceIdeal.Hand

open Idealize.ShloMosaic Idealize.SL.Sem Cert.ReferenceIdeal Cert.ReferenceIdeal.Facts₀ Cert.ReferenceIdeal.Facts StableHlo

variable (m : (ℓ : Loc nD τ sig) → Buf (Elt Ideal) ℓ) (d : Dev nD)

set_option maxHeartbeats 4000000 in
theorem tf0 : Cert.Pre_cutoff_resolved.fn_threefry2x32 (F := Ideal) (M m d (Proc.devRef .tc main_call6_call0_v4)) (M m d (Proc.devRef .tc main_call6_call0_v6)) (M m d (Proc.devRef .tc main_call6_call0_v17)) (M m d (Proc.devRef .tc main_call6_call0_v16)) = Cert.Pre_cutoff_resolved.fn_threefry2x32_part1 (F := Ideal) (M m d (Proc.devRef .tc main_call6_call0_v4)) (M m d (Proc.devRef .tc main_call6_call0_v6)) (M m d (Proc.devRef .tc main_call6_call0_call0_v1)) (M m d (Proc.devRef .tc main_call6_call0_call0_v13)) (M m d (Proc.devRef .tc main_call6_call0_call0_v18)) := by
  unfold Cert.Pre_cutoff_resolved.fn_threefry2x32
  rw [M_binary m d (i := 160) (y := main_call6_call0_call0_v18) rfl rfl rfl rfl,
    M_binary m d (i := 159) (y := main_call6_call0_call0_v17) rfl rfl rfl rfl,
    M_unary m d (i := 158) (y := main_call6_call0_call0_v16) rfl rfl rfl,
    M_nullary m d (i := 157) (y := main_call6_call0_call0_c_3) rfl rfl,
    M_binary m d (i := 156) (y := main_call6_call0_call0_v15) rfl rfl rfl rfl,
    M_unary m d (i := 155) (y := main_call6_call0_call0_v14) rfl rfl rfl,
    M_nullary m d (i := 154) (y := main_call6_call0_call0_c_2) rfl rfl,
    M_binary m d (i := 153) (y := main_call6_call0_call0_v13) rfl rfl rfl rfl,
    M_binary m d (i := 152) (y := main_call6_call0_call0_v12) rfl rfl rfl rfl,
    M_binary m d (i := 151) (y := main_call6_call0_call0_v11) rfl rfl rfl rfl,
    M_binary m d (i := 150) (y := main_call6_call0_call0_v10) rfl rfl rfl rfl,
    M_unary m d (i := 149) (y := main_call6_call0_call0_v9) rfl rfl rfl,
    M_nullary m d (i := 148) (y := main_call6_call0_call0_c_1) rfl rfl,
    M_binary m d (i := 147) (y := main_call6_call0_call0_v8) rfl rfl rfl rfl,
    M_unary m d (i := 146) (y := main_call6_call0_call0_v7) rfl rfl rfl,
    M_nullary m d (i := 145) (y := main_call6_call0_call0_c_0) rfl rfl,
    M_binary m d (i := 144) (y := main_call6_call0_call0_v6) rfl rfl rfl rfl,
    M_binary m d (i := 143) (y := main_call6_call0_call0_v5) rfl rfl rfl rfl,
    M_unary m d (i := 142) (y := main_call6_call0_call0_v4) rfl rfl rfl,
    M_binary m d (i := 141) (y := main_call6_call0_call0_v3) rfl rfl rfl rfl,
    M_unary m d (i := 140) (y := main_call6_call0_call0_v2) rfl rfl rfl,
    M_binary m d (i := 139) (y := main_call6_call0_call0_v1) rfl rfl rfl rfl,
    M_nullary m d (i := 138) (y := main_call6_call0_call0_c) rfl rfl,
    M_binary m d (i := 137) (y := main_call6_call0_call0_v0) rfl rfl rfl rfl]
  dsimp only
  simp -implicitDefEqProofs only [StableHlo.TRef.toBuf, StableHlo.TRef.ofBuf, cast_cast, cast_eq]

set_option maxHeartbeats 4000000 in
theorem tf1 : Cert.Pre_cutoff_resolved.fn_threefry2x32_part1 (F := Ideal) (M m d (Proc.devRef .tc main_call6_call0_v4)) (M m d (Proc.devRef .tc main_call6_call0_v6)) (M m d (Proc.devRef .tc main_call6_call0_call0_v1)) (M m d (Proc.devRef .tc main_call6_call0_call0_v13)) (M m d (Proc.devRef .tc main_call6_call0_call0_v18)) = Cert.Pre_cutoff_resolved.fn_threefry2x32_part2 (F := Ideal) (M m d (Proc.devRef .tc main_call6_call0_v4)) (M m d (Proc.devRef .tc main_call6_call0_v6)) (M m d (Proc.devRef .tc main_call6_call0_call0_v1)) (M m d (Proc.devRef .tc main_call6_call0_call0_v35)) (M m d (Proc.devRef .tc main_call6_call0_call0_v37)) (M m d (Proc.devRef .tc main_call6_call0_call0_c_8)) := by
  unfold Cert.Pre_cutoff_resolved.fn_threefry2x32_part1
  rw [M_nullary m d (i := 184) (y := main_call6_call0_call0_c_8) rfl rfl,
    M_binary m d (i := 183) (y := main_call6_call0_call0_v37) rfl rfl rfl rfl,
    M_unary m d (i := 182) (y := main_call6_call0_call0_v36) rfl rfl rfl,
    M_binary m d (i := 181) (y := main_call6_call0_call0_v35) rfl rfl rfl rfl,
    M_unary m d (i := 180) (y := main_call6_call0_call0_v34) rfl rfl rfl,
    M_binary m d (i := 179) (y := main_call6_call0_call0_v33) rfl rfl rfl rfl,
    M_binary m d (i := 178) (y := main_call6_call0_call0_v32) rfl rfl rfl rfl,
    M_binary m d (i := 177) (y := main_call6_call0_call0_v31) rfl rfl rfl rfl,
    M_unary m d (i := 176) (y := main_call6_call0_call0_v30) rfl rfl rfl,
    M_nullary m d (i := 175) (y := main_call6_call0_call0_c_7) rfl rfl,
    M_binary m d (i := 174) (y := main_call6_call0_call0_v29) rfl rfl rfl rfl,
    M_unary m d (i := 173) (y := main_call6_call0_call0_v28) rfl rfl rfl,
    M_nullary m d (i := 172) (y := main_call6_call0_call0_c_6) rfl rfl,
    M_binary m d (i := 171) (y := main_call6_call0_call0_v27) rfl rfl rfl rfl,
    M_binary m d (i := 170) (y := main_call6_call0_call0_v26) rfl rfl rfl rfl,
    M_binary m d (i := 169) (y := main_call6_call0_call0_v25) rfl rfl rfl rfl,
    M_binary m d (i := 168) (y := main_call6_call0_call0_v24) rfl rfl rfl rfl,
    M_unary m d (i := 167) (y := main_call6_call0_call0_v23) rfl rfl rfl,
    M_nullary m d (i := 166) (y := main_call6_call0_call0_c_5) rfl rfl,
    M_binary m d (i := 165) (y := main_call6_call0_call0_v22) rfl rfl rfl rfl,
    M_unary m d (i := 164) (y := main_call6_call0_call0_v21) rfl rfl rfl,
    M_nullary m d (i := 163) (y := main_call6_call0_call0_c_4) rfl rfl,
    M_binary m d (i := 162) (y := main_call6_call0_call0_v20) rfl rfl rfl rfl,
    M_binary m d (i := 161) (y := main_call6_call0_call0_v19) rfl rfl rfl rfl]
  dsimp only
  simp -implicitDefEqProofs only [StableHlo.TRef.toBuf, StableHlo.TRef.ofBuf, cast_cast, cast_eq]

set_option maxHeartbeats 4000000 in
theorem tf2 : Cert.Pre_cutoff_resolved.fn_threefry2x32_part2 (F := Ideal) (M m d (Proc.devRef .tc main_call6_call0_v4)) (M m d (Proc.devRef .tc main_call6_call0_v6)) (M m d (Proc.devRef .tc main_call6_call0_call0_v1)) (M m d (Proc.devRef .tc main_call6_call0_call0_v35)) (M m d (Proc.devRef .tc main_call6_call0_call0_v37)) (M m d (Proc.devRef .tc main_call6_call0_call0_c_8)) = Cert.Pre_cutoff_resolved.fn_threefry2x32_part3 (F := Ideal) (M m d (Proc.devRef .tc main_call6_call0_v4)) (M m d (Proc.devRef .tc main_call6_call0_v6)) (M m d (Proc.devRef .tc main_call6_call0_call0_v1)) (M m d (Proc.devRef .tc main_call6_call0_call0_v53)) (M m d (Proc.devRef .tc main_call6_call0_call0_v54)) (M m d (Proc.devRef .tc main_call6_call0_call0_v56)) := by
  unfold Cert.Pre_cutoff_resolved.fn_threefry2x32_part2
  rw [M_binary m d (i := 208) (y := main_call6_call0_call0_v56) rfl rfl rfl rfl,
    M_unary m d (i := 207) (y := main_call6_call0_call0_v55) rfl rfl rfl,
    M_nullary m d (i := 206) (y := main_call6_call0_call0_c_13) rfl rfl,
    M_binary m d (i := 205) (y := main_call6_call0_call0_v54) rfl rfl rfl rfl,
    M_binary m d (i := 204) (y := main_call6_call0_call0_v53) rfl rfl rfl rfl,
    M_binary m d (i := 203) (y := main_call6_call0_call0_v52) rfl rfl rfl rfl,
    M_binary m d (i := 202) (y := main_call6_call0_call0_v51) rfl rfl rfl rfl,
    M_unary m d (i := 201) (y := main_call6_call0_call0_v50) rfl rfl rfl,
    M_nullary m d (i := 200) (y := main_call6_call0_call0_c_12) rfl rfl,
    M_binary m d (i := 199) (y := main_call6_call0_call0_v49) rfl rfl rfl rfl,
    M_unary m d (i := 198) (y := main_call6_call0_call0_v48) rfl rfl rfl,
    M_nullary m d (i := 197) (y := main_call6_call0_call0_c_11) rfl rfl,
    M_binary m d (i := 196) (y := main_call6_call0_call0_v47) rfl rfl rfl rfl,
    M_binary m d (i := 195) (y := main_call6_call0_call0_v46) rfl rfl rfl rfl,
    M_binary m d (i := 194) (y := main_call6_call0_call0_v45) rfl rfl rfl rfl,
    M_binary m d (i := 193) (y := main_call6_call0_call0_v44) rfl rfl rfl rfl,
    M_unary m d (i := 192) (y := main_call6_call0_call0_v43) rfl rfl rfl,
    M_nullary m d (i := 191) (y := main_call6_call0_call0_c_10) rfl rfl,
    M_binary m d (i := 190) (y := main_call6_call0_call0_v42) rfl rfl rfl rfl,
    M_unary m d (i := 189) (y := main_call6_call0_call0_v41) rfl rfl rfl,
    M_nullary m d (i := 188) (y := main_call6_call0_call0_c_9) rfl rfl,
    M_binary m d (i := 187) (y := main_call6_call0_call0_v40) rfl rfl rfl rfl,
    M_binary m d (i := 186) (y := main_call6_call0_call0_v39) rfl rfl rfl rfl,
    M_unary m d (i := 185) (y := main_call6_call0_call0_v38) rfl rfl rfl]
  dsimp only
  simp -implicitDefEqProofs only [StableHlo.TRef.toBuf, StableHlo.TRef.ofBuf, cast_cast, cast_eq]

set_option maxHeartbeats 4000000 in
theorem tf3 : Cert.Pre_cutoff_resolved.fn_threefry2x32_part3 (F := Ideal) (M m d (Proc.devRef .tc main_call6_call0_v4)) (M m d (Proc.devRef .tc main_call6_call0_v6)) (M m d (Proc.devRef .tc main_call6_call0_call0_v1)) (M m d (Proc.devRef .tc main_call6_call0_call0_v53)) (M m d (Proc.devRef .tc main_call6_call0_call0_v54)) (M m d (Proc.devRef .tc main_call6_call0_call0_v56)) = Cert.Pre_cutoff_resolved.fn_threefry2x32_part4 (F := Ideal) (M m d (Proc.devRef .tc main_call6_call0_v4)) (M m d (Proc.devRef .tc main_call6_call0_v6)) (M m d (Proc.devRef .tc main_call6_call0_call0_v1)) (M m d (Proc.devRef .tc main_call6_call0_call0_v73)) (M m d (Proc.devRef .tc main_call6_call0_call0_v74)) (M m d (Proc.devRef .tc main_call6_call0_call0_v75)) := by
  unfold Cert.Pre_cutoff_resolved.fn_threefry2x32_part3
  rw [M_unary m d (i := 232) (y := main_call6_call0_call0_v75) rfl rfl rfl,
    M_nullary m d (i := 231) (y := main_call6_call0_call0_c_18) rfl rfl,
    M_binary m d (i := 230) (y := main_call6_call0_call0_v74) rfl rfl rfl rfl,
    M_binary m d (i := 229) (y := main_call6_call0_call0_v73) rfl rfl rfl rfl,
    M_unary m d (i := 228) (y := main_call6_call0_call0_v72) rfl rfl rfl,
    M_nullary m d (i := 227) (y := main_call6_call0_call0_c_17) rfl rfl,
    M_binary m d (i := 226) (y := main_call6_call0_call0_v71) rfl rfl rfl rfl,
    M_unary m d (i := 225) (y := main_call6_call0_call0_v70) rfl rfl rfl,
    M_binary m d (i := 224) (y := main_call6_call0_call0_v69) rfl rfl rfl rfl,
    M_unary m d (i := 223) (y := main_call6_call0_call0_v68) rfl rfl rfl,
    M_binary m d (i := 222) (y := main_call6_call0_call0_v67) rfl rfl rfl rfl,
    M_binary m d (i := 221) (y := main_call6_call0_call0_v66) rfl rfl rfl rfl,
    M_binary m d (i := 220) (y := main_call6_call0_call0_v65) rfl rfl rfl rfl,
    M_unary m d (i := 219) (y := main_call6_call0_call0_v64) rfl rfl rfl,
    M_nullary m d (i := 218) (y := main_call6_call0_call0_c_16) rfl rfl,
    M_binary m d (i := 217) (y := main_call6_call0_call0_v63) rfl rfl rfl rfl,
    M_unary m d (i := 216) (y := main_call6_call0_call0_v62) rfl rfl rfl,
    M_nullary m d (i := 215) (y := main_call6_call0_call0_c_15) rfl rfl,
    M_binary m d (i := 214) (y := main_call6_call0_call0_v61) rfl rfl rfl rfl,
    M_binary m d (i := 213) (y := main_call6_call0_call0_v60) rfl rfl rfl rfl,
    M_binary m d (i := 212) (y := main_call6_call0_call0_v59) rfl rfl rfl rfl,
    M_binary m d (i := 211) (y := main_call6_call0_call0_v58) rfl rfl rfl rfl,
    M_unary m d (i := 210) (y := main_call6_call0_call0_v57) rfl rfl rfl,
    M_nullary m d (i := 209) (y := main_call6_call0_call0_c_14) rfl rfl]
  dsimp only
  simp -implicitDefEqProofs only [StableHlo.TRef.toBuf, StableHlo.TRef.ofBuf, cast_cast, cast_eq]

end Cert.ReferenceIdeal.Hand
-- ==== Proof.RefBits1.lean ====
/-
Part of the reference's random bits: each window of the generator's rounds, as the function of Spec.lean's module of what the line leaves.
-/
module

public import proofs.«01_k».proof.Proof.RefRun
public import proofs.«01_k».proof.Proof.Spec

@[expose] public section

noncomputable section

namespace Cert.ReferenceIdeal.Hand

open Idealize.ShloMosaic Idealize.SL.Sem Cert.ReferenceIdeal Cert.ReferenceIdeal.Facts₀ Cert.ReferenceIdeal.Facts StableHlo

variable (m : (ℓ : Loc nD τ sig) → Buf (Elt Ideal) ℓ) (d : Dev nD)

set_option maxHeartbeats 4000000 in
theorem tf4 : Cert.Pre_cutoff_resolved.fn_threefry2x32_part4 (F := Ideal) (M m d (Proc.devRef .tc main_call6_call0_v4)) (M m d (Proc.devRef .tc main_call6_call0_v6)) (M m d (Proc.devRef .tc main_call6_call0_call0_v1)) (M m d (Proc.devRef .tc main_call6_call0_call0_v73)) (M m d (Proc.devRef .tc main_call6_call0_call0_v74)) (M m d (Proc.devRef .tc main_call6_call0_call0_v75)) = Cert.Pre_cutoff_resolved.fn_threefry2x32_part5 (F := Ideal) (M m d (Proc.devRef .tc main_call6_call0_v4)) (M m d (Proc.devRef .tc main_call6_call0_v6)) (M m d (Proc.devRef .tc main_call6_call0_call0_v1)) (M m d (Proc.devRef .tc main_call6_call0_call0_v88)) (M m d (Proc.devRef .tc main_call6_call0_call0_v94)) := by
  unfold Cert.Pre_cutoff_resolved.fn_threefry2x32_part4
  rw [M_binary m d (i := 256) (y := main_call6_call0_call0_v94) rfl rfl rfl rfl,
    M_binary m d (i := 255) (y := main_call6_call0_call0_v93) rfl rfl rfl rfl,
    M_binary m d (i := 254) (y := main_call6_call0_call0_v92) rfl rfl rfl rfl,
    M_unary m d (i := 253) (y := main_call6_call0_call0_v91) rfl rfl rfl,
    M_nullary m d (i := 252) (y := main_call6_call0_call0_c_23) rfl rfl,
    M_binary m d (i := 251) (y := main_call6_call0_call0_v90) rfl rfl rfl rfl,
    M_unary m d (i := 250) (y := main_call6_call0_call0_v89) rfl rfl rfl,
    M_nullary m d (i := 249) (y := main_call6_call0_call0_c_22) rfl rfl,
    M_binary m d (i := 248) (y := main_call6_call0_call0_v88) rfl rfl rfl rfl,
    M_binary m d (i := 247) (y := main_call6_call0_call0_v87) rfl rfl rfl rfl,
    M_binary m d (i := 246) (y := main_call6_call0_call0_v86) rfl rfl rfl rfl,
    M_binary m d (i := 245) (y := main_call6_call0_call0_v85) rfl rfl rfl rfl,
    M_unary m d (i := 244) (y := main_call6_call0_call0_v84) rfl rfl rfl,
    M_nullary m d (i := 243) (y := main_call6_call0_call0_c_21) rfl rfl,
    M_binary m d (i := 242) (y := main_call6_call0_call0_v83) rfl rfl rfl rfl,
    M_unary m d (i := 241) (y := main_call6_call0_call0_v82) rfl rfl rfl,
    M_nullary m d (i := 240) (y := main_call6_call0_call0_c_20) rfl rfl,
    M_binary m d (i := 239) (y := main_call6_call0_call0_v81) rfl rfl rfl rfl,
    M_binary m d (i := 238) (y := main_call6_call0_call0_v80) rfl rfl rfl rfl,
    M_binary m d (i := 237) (y := main_call6_call0_call0_v79) rfl rfl rfl rfl,
    M_binary m d (i := 236) (y := main_call6_call0_call0_v78) rfl rfl rfl rfl,
    M_unary m d (i := 235) (y := main_call6_call0_call0_v77) rfl rfl rfl,
    M_nullary m d (i := 234) (y := main_call6_call0_call0_c_19) rfl rfl,
    M_binary m d (i := 233) (y := main_call6_call0_call0_v76) rfl rfl rfl rfl]
  dsimp only
  simp -implicitDefEqProofs only [StableHlo.TRef.toBuf, StableHlo.TRef.ofBuf, cast_cast, cast_eq]

set_option maxHeartbeats 4000000 in
theorem tf5 : Cert.Pre_cutoff_resolved.fn_threefry2x32_part5 (F := Ideal) (M m d (Proc.devRef .tc main_call6_call0_v4)) (M m d (Proc.devRef .tc main_call6_call0_v6)) (M m d (Proc.devRef .tc main_call6_call0_call0_v1)) (M m d (Proc.devRef .tc main_call6_call0_call0_v88)) (M m d (Proc.devRef .tc main_call6_call0_call0_v94)) = Cert.Pre_cutoff_resolved.fn_threefry2x32_part6 (F := Ideal) (M m d (Proc.devRef .tc main_call6_call0_v4)) (M m d (Proc.devRef .tc main_call6_call0_v6)) (M m d (Proc.devRef .tc main_call6_call0_call0_v1)) (M m d (Proc.devRef .tc main_call6_call0_call0_v108)) (M m d (Proc.devRef .tc main_call6_call0_call0_v113)) := by
  unfold Cert.Pre_cutoff_resolved.fn_threefry2x32_part5
  rw [M_binary m d (i := 280) (y := main_call6_call0_call0_v113) rfl rfl rfl rfl,
    M_binary m d (i := 279) (y := main_call6_call0_call0_v112) rfl rfl rfl rfl,
    M_unary m d (i := 278) (y := main_call6_call0_call0_v111) rfl rfl rfl,
    M_nullary m d (i := 277) (y := main_call6_call0_call0_c_28) rfl rfl,
    M_binary m d (i := 276) (y := main_call6_call0_call0_v110) rfl rfl rfl rfl,
    M_unary m d (i := 275) (y := main_call6_call0_call0_v109) rfl rfl rfl,
    M_nullary m d (i := 274) (y := main_call6_call0_call0_c_27) rfl rfl,
    M_binary m d (i := 273) (y := main_call6_call0_call0_v108) rfl rfl rfl rfl,
    M_binary m d (i := 272) (y := main_call6_call0_call0_v107) rfl rfl rfl rfl,
    M_unary m d (i := 271) (y := main_call6_call0_call0_v106) rfl rfl rfl,
    M_nullary m d (i := 270) (y := main_call6_call0_call0_c_26) rfl rfl,
    M_binary m d (i := 269) (y := main_call6_call0_call0_v105) rfl rfl rfl rfl,
    M_unary m d (i := 268) (y := main_call6_call0_call0_v104) rfl rfl rfl,
    M_binary m d (i := 267) (y := main_call6_call0_call0_v103) rfl rfl rfl rfl,
    M_unary m d (i := 266) (y := main_call6_call0_call0_v102) rfl rfl rfl,
    M_binary m d (i := 265) (y := main_call6_call0_call0_v101) rfl rfl rfl rfl,
    M_binary m d (i := 264) (y := main_call6_call0_call0_v100) rfl rfl rfl rfl,
    M_binary m d (i := 263) (y := main_call6_call0_call0_v99) rfl rfl rfl rfl,
    M_unary m d (i := 262) (y := main_call6_call0_call0_v98) rfl rfl rfl,
    M_nullary m d (i := 261) (y := main_call6_call0_call0_c_25) rfl rfl,
    M_binary m d (i := 260) (y := main_call6_call0_call0_v97) rfl rfl rfl rfl,
    M_unary m d (i := 259) (y := main_call6_call0_call0_v96) rfl rfl rfl,
    M_nullary m d (i := 258) (y := main_call6_call0_call0_c_24) rfl rfl,
    M_binary m d (i := 257) (y := main_call6_call0_call0_v95) rfl rfl rfl rfl]
  dsimp only
  simp -implicitDefEqProofs only [StableHlo.TRef.toBuf, StableHlo.TRef.ofBuf, cast_cast, cast_eq]

set_option maxHeartbeats 4000000 in
theorem tf6 : Cert.Pre_cutoff_resolved.fn_threefry2x32_part6 (F := Ideal) (M m d (Proc.devRef .tc main_call6_call0_v4)) (M m d (Proc.devRef .tc main_call6_call0_v6)) (M m d (Proc.devRef .tc main_call6_call0_call0_v1)) (M m d (Proc.devRef .tc main_call6_call0_call0_v108)) (M m d (Proc.devRef .tc main_call6_call0_call0_v113)) = Cert.Pre_cutoff_resolved.fn_threefry2x32_part7 (F := Ideal) (M m d (Proc.devRef .tc main_call6_call0_v4)) (M m d (Proc.devRef .tc main_call6_call0_v6)) (M m d (Proc.devRef .tc main_call6_call0_call0_v1)) (M m d (Proc.devRef .tc main_call6_call0_call0_v128)) (M m d (Proc.devRef .tc main_call6_call0_call0_v129)) (M m d (Proc.devRef .tc main_call6_call0_call0_v131)) (M m d (Proc.devRef .tc main_call6_call0_call0_c_34)) := by
  unfold Cert.Pre_cutoff_resolved.fn_threefry2x32_part6
  rw [M_nullary m d (i := 304) (y := main_call6_call0_call0_c_34) rfl rfl,
    M_binary m d (i := 303) (y := main_call6_call0_call0_v131) rfl rfl rfl rfl,
    M_unary m d (i := 302) (y := main_call6_call0_call0_v130) rfl rfl rfl,
    M_nullary m d (i := 301) (y := main_call6_call0_call0_c_33) rfl rfl,
    M_binary m d (i := 300) (y := main_call6_call0_call0_v129) rfl rfl rfl rfl,
    M_binary m d (i := 299) (y := main_call6_call0_call0_v128) rfl rfl rfl rfl,
    M_binary m d (i := 298) (y := main_call6_call0_call0_v127) rfl rfl rfl rfl,
    M_binary m d (i := 297) (y := main_call6_call0_call0_v126) rfl rfl rfl rfl,
    M_unary m d (i := 296) (y := main_call6_call0_call0_v125) rfl rfl rfl,
    M_nullary m d (i := 295) (y := main_call6_call0_call0_c_32) rfl rfl,
    M_binary m d (i := 294) (y := main_call6_call0_call0_v124) rfl rfl rfl rfl,
    M_unary m d (i := 293) (y := main_call6_call0_call0_v123) rfl rfl rfl,
    M_nullary m d (i := 292) (y := main_call6_call0_call0_c_31) rfl rfl,
    M_binary m d (i := 291) (y := main_call6_call0_call0_v122) rfl rfl rfl rfl,
    M_binary m d (i := 290) (y := main_call6_call0_call0_v121) rfl rfl rfl rfl,
    M_binary m d (i := 289) (y := main_call6_call0_call0_v120) rfl rfl rfl rfl,
    M_binary m d (i := 288) (y := main_call6_call0_call0_v119) rfl rfl rfl rfl,
    M_unary m d (i := 287) (y := main_call6_call0_call0_v118) rfl rfl rfl,
    M_nullary m d (i := 286) (y := main_call6_call0_call0_c_30) rfl rfl,
    M_binary m d (i := 285) (y := main_call6_call0_call0_v117) rfl rfl rfl rfl,
    M_unary m d (i := 284) (y := main_call6_call0_call0_v116) rfl rfl rfl,
    M_nullary m d (i := 283) (y := main_call6_call0_call0_c_29) rfl rfl,
    M_binary m d (i := 282) (y := main_call6_call0_call0_v115) rfl rfl rfl rfl,
    M_binary m d (i := 281) (y := main_call6_call0_call0_v114) rfl rfl rfl rfl]
  dsimp only
  simp -implicitDefEqProofs only [StableHlo.TRef.toBuf, StableHlo.TRef.ofBuf, cast_cast, cast_eq]

set_option maxHeartbeats 4000000 in
theorem tf7 : Cert.Pre_cutoff_resolved.fn_threefry2x32_part7 (F := Ideal) (M m d (Proc.devRef .tc main_call6_call0_v4)) (M m d (Proc.devRef .tc main_call6_call0_v6)) (M m d (Proc.devRef .tc main_call6_call0_call0_v1)) (M m d (Proc.devRef .tc main_call6_call0_call0_v128)) (M m d (Proc.devRef .tc main_call6_call0_call0_v129)) (M m d (Proc.devRef .tc main_call6_call0_call0_v131)) (M m d (Proc.devRef .tc main_call6_call0_call0_c_34)) = Cert.Pre_cutoff_resolved.fn_threefry2x32_part8 (F := Ideal) (M m d (Proc.devRef .tc main_call6_call0_v4)) (M m d (Proc.devRef .tc main_call6_call0_call0_v1)) (M m d (Proc.devRef .tc main_call6_call0_call0_v148)) (M m d (Proc.devRef .tc main_call6_call0_call0_v149)) (M m d (Proc.devRef .tc main_call6_call0_call0_v151)) := by
  unfold Cert.Pre_cutoff_resolved.fn_threefry2x32_part7
  rw [M_binary m d (i := 328) (y := main_call6_call0_call0_v151) rfl rfl rfl rfl,
    M_unary m d (i := 327) (y := main_call6_call0_call0_v150) rfl rfl rfl,
    M_nullary m d (i := 326) (y := main_call6_call0_call0_c_38) rfl rfl,
    M_binary m d (i := 325) (y := main_call6_call0_call0_v149) rfl rfl rfl rfl,
    M_binary m d (i := 324) (y := main_call6_call0_call0_v148) rfl rfl rfl rfl,
    M_binary m d (i := 323) (y := main_call6_call0_call0_v147) rfl rfl rfl rfl,
    M_binary m d (i := 322) (y := main_call6_call0_call0_v146) rfl rfl rfl rfl,
    M_unary m d (i := 321) (y := main_call6_call0_call0_v145) rfl rfl rfl,
    M_nullary m d (i := 320) (y := main_call6_call0_call0_c_37) rfl rfl,
    M_binary m d (i := 319) (y := main_call6_call0_call0_v144) rfl rfl rfl rfl,
    M_unary m d (i := 318) (y := main_call6_call0_call0_v143) rfl rfl rfl,
    M_nullary m d (i := 317) (y := main_call6_call0_call0_c_36) rfl rfl,
    M_binary m d (i := 316) (y := main_call6_call0_call0_v142) rfl rfl rfl rfl,
    M_binary m d (i := 315) (y := main_call6_call0_call0_v141) rfl rfl rfl rfl,
    M_unary m d (i := 314) (y := main_call6_call0_call0_v140) rfl rfl rfl,
    M_nullary m d (i := 313) (y := main_call6_call0_call0_c_35) rfl rfl,
    M_binary m d (i := 312) (y := main_call6_call0_call0_v139) rfl rfl rfl rfl,
    M_unary m d (i := 311) (y := main_call6_call0_call0_v138) rfl rfl rfl,
    M_binary m d (i := 310) (y := main_call6_call0_call0_v137) rfl rfl rfl rfl,
    M_unary m d (i := 309) (y := main_call6_call0_call0_v136) rfl rfl rfl,
    M_binary m d (i := 308) (y := main_call6_call0_call0_v135) rfl rfl rfl rfl,
    M_binary m d (i := 307) (y := main_call6_call0_call0_v134) rfl rfl rfl rfl,
    M_binary m d (i := 306) (y := main_call6_call0_call0_v133) rfl rfl rfl rfl,
    M_unary m d (i := 305) (y := main_call6_call0_call0_v132) rfl rfl rfl]
  dsimp only
  simp -implicitDefEqProofs only [StableHlo.TRef.toBuf, StableHlo.TRef.ofBuf, cast_cast, cast_eq]

end Cert.ReferenceIdeal.Hand
-- ==== Proof.RefBits2.lean ====
/-
Part of the reference's random bits: each window of the generator's rounds, as the function of Spec.lean's module of what the line leaves.
-/
module

public import proofs.«01_k».proof.Proof.RefRun
public import proofs.«01_k».proof.Proof.Spec

@[expose] public section

noncomputable section

namespace Cert.ReferenceIdeal.Hand

open Idealize.ShloMosaic Idealize.SL.Sem Cert.ReferenceIdeal Cert.ReferenceIdeal.Facts₀ Cert.ReferenceIdeal.Facts StableHlo

variable (m : (ℓ : Loc nD τ sig) → Buf (Elt Ideal) ℓ) (d : Dev nD)

set_option maxHeartbeats 4000000 in
theorem tf8 : Cert.Pre_cutoff_resolved.fn_threefry2x32_part8 (F := Ideal) (M m d (Proc.devRef .tc main_call6_call0_v4)) (M m d (Proc.devRef .tc main_call6_call0_call0_v1)) (M m d (Proc.devRef .tc main_call6_call0_call0_v148)) (M m d (Proc.devRef .tc main_call6_call0_call0_v149)) (M m d (Proc.devRef .tc main_call6_call0_call0_v151)) = Cert.Pre_cutoff_resolved.fn_threefry2x32_part9 (F := Ideal) (M m d (Proc.devRef .tc main_call6_call0_v4)) (M m d (Proc.devRef .tc main_call6_call0_call0_v163)) (M m d (Proc.devRef .tc main_call6_call0_call0_v169)) (M m d (Proc.devRef .tc main_call6_call0_call0_v170)) := by
  unfold Cert.Pre_cutoff_resolved.fn_threefry2x32_part8
  rw [M_unary m d (i := 352) (y := main_call6_call0_call0_v170) rfl rfl rfl,
    M_binary m d (i := 351) (y := main_call6_call0_call0_v169) rfl rfl rfl rfl,
    M_binary m d (i := 350) (y := main_call6_call0_call0_v168) rfl rfl rfl rfl,
    M_binary m d (i := 349) (y := main_call6_call0_call0_v167) rfl rfl rfl rfl,
    M_unary m d (i := 348) (y := main_call6_call0_call0_v166) rfl rfl rfl,
    M_nullary m d (i := 347) (y := main_call6_call0_call0_c_43) rfl rfl,
    M_binary m d (i := 346) (y := main_call6_call0_call0_v165) rfl rfl rfl rfl,
    M_unary m d (i := 345) (y := main_call6_call0_call0_v164) rfl rfl rfl,
    M_nullary m d (i := 344) (y := main_call6_call0_call0_c_42) rfl rfl,
    M_binary m d (i := 343) (y := main_call6_call0_call0_v163) rfl rfl rfl rfl,
    M_binary m d (i := 342) (y := main_call6_call0_call0_v162) rfl rfl rfl rfl,
    M_binary m d (i := 341) (y := main_call6_call0_call0_v161) rfl rfl rfl rfl,
    M_binary m d (i := 340) (y := main_call6_call0_call0_v160) rfl rfl rfl rfl,
    M_unary m d (i := 339) (y := main_call6_call0_call0_v159) rfl rfl rfl,
    M_nullary m d (i := 338) (y := main_call6_call0_call0_c_41) rfl rfl,
    M_binary m d (i := 337) (y := main_call6_call0_call0_v158) rfl rfl rfl rfl,
    M_unary m d (i := 336) (y := main_call6_call0_call0_v157) rfl rfl rfl,
    M_nullary m d (i := 335) (y := main_call6_call0_call0_c_40) rfl rfl,
    M_binary m d (i := 334) (y := main_call6_call0_call0_v156) rfl rfl rfl rfl,
    M_binary m d (i := 333) (y := main_call6_call0_call0_v155) rfl rfl rfl rfl,
    M_binary m d (i := 332) (y := main_call6_call0_call0_v154) rfl rfl rfl rfl,
    M_binary m d (i := 331) (y := main_call6_call0_call0_v153) rfl rfl rfl rfl,
    M_unary m d (i := 330) (y := main_call6_call0_call0_v152) rfl rfl rfl,
    M_nullary m d (i := 329) (y := main_call6_call0_call0_c_39) rfl rfl]
  dsimp only
  simp -implicitDefEqProofs only [StableHlo.TRef.toBuf, StableHlo.TRef.ofBuf, cast_cast, cast_eq]

set_option maxHeartbeats 4000000 in
theorem tf9 : Cert.Pre_cutoff_resolved.fn_threefry2x32_part9 (F := Ideal) (M m d (Proc.devRef .tc main_call6_call0_v4)) (M m d (Proc.devRef .tc main_call6_call0_call0_v163)) (M m d (Proc.devRef .tc main_call6_call0_call0_v169)) (M m d (Proc.devRef .tc main_call6_call0_call0_v170)) = ((M m d (Proc.devRef .tc main_call6_call0_v18_0)), (M m d (Proc.devRef .tc main_call6_call0_v18_1))) := by
  unfold Cert.Pre_cutoff_resolved.fn_threefry2x32_part9
  rw [M_binary m d (i := 358) (y := main_call6_call0_v18_1) rfl rfl rfl rfl,
    M_unary m d (i := 357) (y := main_call6_call0_call0_v174) rfl rfl rfl,
    M_nullary m d (i := 356) (y := main_call6_call0_call0_c_44) rfl rfl,
    M_binary m d (i := 355) (y := main_call6_call0_call0_v173) rfl rfl rfl rfl,
    M_unary m d (i := 354) (y := main_call6_call0_call0_v172) rfl rfl rfl,
    M_binary m d (i := 353) (y := main_call6_call0_v18_0) rfl rfl rfl rfl]
  dsimp only
  simp -implicitDefEqProofs only [StableHlo.TRef.toBuf, StableHlo.TRef.ofBuf, cast_cast, cast_eq]

set_option maxHeartbeats 4000000 in
theorem M_v19 : xori (M m d (Proc.devRef .tc main_call6_call0_v18_0)) (M m d (Proc.devRef .tc main_call6_call0_v18_1)) = (M m d (Proc.devRef .tc main_call6_call0_v19)) := by
  rw [M_binary m d (i := 359) (y := main_call6_call0_v19) rfl rfl rfl rfl]
  dsimp only
  simp -implicitDefEqProofs only [StableHlo.TRef.toBuf, StableHlo.TRef.ofBuf, cast_cast, cast_eq]

end Cert.ReferenceIdeal.Hand
-- ==== Proof.RefGum.lean ====
/-
The reference's Gumbel noise, as the function of Spec.lean of what the line leaves.
-/
module

public import proofs.«01_k».proof.Proof.RefRun
public import proofs.«01_k».proof.Proof.GumSpec
public import proofs.«01_k».proof.Proof.RefMask
public import proofs.«01_k».proof.Proof.RefKey
public import proofs.«01_k».proof.Proof.RefBits0
public import proofs.«01_k».proof.Proof.RefBits1
public import proofs.«01_k».proof.Proof.RefBits2

@[expose] public section

noncomputable section

namespace Cert.ReferenceIdeal.Hand

open Idealize.ShloMosaic Idealize.SL.Sem Cert.ReferenceIdeal Cert.ReferenceIdeal.Facts₀ Cert.ReferenceIdeal.Facts StableHlo

variable (m : (ℓ : Loc nD τ sig) → Buf (Elt Ideal) ℓ) (d : Dev nD)

/-- The generator's two words, as its lines leave them. -/
theorem tf : Cert.Pre_cutoff_resolved.fn_threefry2x32 (F := Ideal) (M m d (Proc.devRef .tc main_call6_call0_v4)) (M m d (Proc.devRef .tc main_call6_call0_v6)) (M m d (Proc.devRef .tc main_call6_call0_v17)) (M m d (Proc.devRef .tc main_call6_call0_v16)) = ((M m d (Proc.devRef .tc main_call6_call0_v18_0)), (M m d (Proc.devRef .tc main_call6_call0_v18_1))) :=
  (tf0 m d).trans <| (tf1 m d).trans <| (tf2 m d).trans <| (tf3 m d).trans <| (tf4 m d).trans <| (tf5 m d).trans <| (tf6 m d).trans <| (tf7 m d).trans <| (tf8 m d).trans <| tf9 m d

set_option maxHeartbeats 4000000 in
/-- The uniform draw's last lines. -/
theorem M_uni1 : Cert.Pre_cutoff_resolved.fn_uniform_part1 (F := Ideal) (M m d (Proc.devRef .tc main_call6_call0_v1)) (M m d (Proc.devRef .tc main_call6_call0_v2)) (M m d (Proc.devRef .tc main_call6_call0_v19)) = (M m d (Proc.devRef .tc main_call6_v0)) := by
  rw [M_binary m d (i := 376) (y := main_call6_v0) rfl rfl rfl rfl,
    M_unary m d (i := 375) (y := main_call6_call0_v32) rfl rfl rfl,
    M_binary m d (i := 374) (y := main_call6_call0_v31) rfl rfl rfl rfl,
    M_unary m d (i := 373) (y := main_call6_call0_v30) rfl rfl rfl,
    M_binary m d (i := 372) (y := main_call6_call0_v29) rfl rfl rfl rfl,
    M_unary m d (i := 371) (y := main_call6_call0_v28) rfl rfl rfl,
    M_binary m d (i := 370) (y := main_call6_call0_v27) rfl rfl rfl rfl,
    M_binary m d (i := 369) (y := main_call6_call0_v26) rfl rfl rfl rfl,
    M_unary m d (i := 368) (y := main_call6_call0_v25) rfl rfl rfl,
    M_nullary m d (i := 367) (y := main_call6_call0_cst) rfl rfl,
    M_unary m d (i := 366) (y := main_call6_call0_v24) rfl rfl rfl,
    M_binary m d (i := 365) (y := main_call6_call0_v23) rfl rfl rfl rfl,
    M_unary m d (i := 364) (y := main_call6_call0_v22) rfl rfl rfl,
    M_nullary m d (i := 363) (y := main_call6_call0_c_3) rfl rfl,
    M_binary m d (i := 362) (y := main_call6_call0_v21) rfl rfl rfl rfl,
    M_unary m d (i := 361) (y := main_call6_call0_v20) rfl rfl rfl,
    M_nullary m d (i := 360) (y := main_call6_call0_c_2) rfl rfl]
  unfold Cert.Pre_cutoff_resolved.fn_uniform_part1
  dsimp only
  generalize M m d (Proc.devRef .tc main_call6_call0_v1) = a
  generalize M m d (Proc.devRef .tc main_call6_call0_v2) = b
  generalize M m d (Proc.devRef .tc main_call6_call0_v19) = c
  simp -implicitDefEqProofs only [StableHlo.TRef.toBuf, StableHlo.TRef.ofBuf, cast_cast, cast_eq]

/-- The uniform draw, as the lines leave it. -/
theorem M_uni : Cert.Pre_cutoff_resolved.fn_uniform (F := Ideal) (M m d (Proc.devRef .tc main_v63)) (constant Cert.Pre_cutoff_resolved.S_ .f32 0x3F800000#32) (constant Cert.Pre_cutoff_resolved.S_ .f32 0x00800000#32) = (M m d (Proc.devRef .tc main_call6_v0)) := by
  have h := tf m d
  have h0 := congrArg Prod.fst h
  have h1 := congrArg Prod.snd h
  rw [Cert.Hand.uni_eq, M_kw0 m d, M_kw1 m d, M_ctrHi m d, M_ctrLo m d, M_uLo m d, M_uHi m d, h0, h1]
  dsimp only
  exact (congrArg (Cert.Pre_cutoff_resolved.fn_uniform_part1 (F := Ideal) (M m d (Proc.devRef .tc main_call6_call0_v1)) (M m d (Proc.devRef .tc main_call6_call0_v2))) (M_v19 m d)).trans (M_uni1 m d)

/-- The noise, as the lines leave it. -/
theorem M_gum : Cert.Hand.gum = (M m d (Proc.devRef .tc main_v64)) := by
  rw [M_unary m d (i := 380) (y := main_v64) rfl rfl rfl,
    M_unary m d (i := 379) (y := main_call6_v3) rfl rfl rfl,
    M_unary m d (i := 378) (y := main_call6_v2) rfl rfl rfl,
    M_unary m d (i := 377) (y := main_call6_v1) rfl rfl rfl]
  rw [Cert.Hand.gum_eq, M_key m d, M_uni m d]
  generalize M m d (Proc.devRef .tc main_call6_v0) = a
  simp -implicitDefEqProofs only [StableHlo.TRef.toBuf, StableHlo.TRef.ofBuf, cast_cast, cast_eq]

end Cert.ReferenceIdeal.Hand
-- ==== Proof.RefValue.lean ====
/-
The reference's result, as a function of its logits.
-/
module

public import proofs.«01_k».proof.Proof.RefRun
public import proofs.«01_k».proof.Proof.Spec
public import proofs.«01_k».proof.Proof.RefSoft
public import proofs.«01_k».proof.Proof.RefGum

@[expose] public section

noncomputable section

namespace Cert.ReferenceIdeal.Hand

open Idealize.ShloMosaic Idealize.SL.Sem Cert.ReferenceIdeal Cert.ReferenceIdeal.Facts₀ Cert.ReferenceIdeal.Facts StableHlo

variable (m : (ℓ : Loc nD τ sig) → Buf (Elt Ideal) ℓ) (d : Dev nD)

/-- The reference's result is the sampled column of its noisy table. -/
theorem M_result : (M m d (Proc.devRef .tc main_v67)) = Cert.Hand.pick (Cert.Hand.noisy (Cert.Hand.sc (m (d, Proc.devRef .tc main_arg0)))) := by
  have hs : (M m d (Proc.devRef .tc main_v15)) = Cert.Hand.sc (m (d, Proc.devRef .tc main_arg0)) := by
    rw [← M_sc m d, M_arg m d rfl]
  have hp : (M m d (Proc.devRef .tc main_v26)) = Cert.Hand.probs (M m d (Proc.devRef .tc main_v15)) :=
    (M_probs m d).symm
  have hm : (M m d (Proc.devRef .tc main_v55)) = Cert.Hand.mask (M m d (Proc.devRef .tc main_v26)) := by
    rw [← M_mask0 m d, ← M_late0 m d, ← M_cum m d, ← M_sorted m d, ← M_where2 m d, ← M_ord m d]
    unfold Cert.Hand.mask Cert.Hand.late Cert.Hand.over
    rfl
  have hn : (M m d (Proc.devRef .tc main_v65)) = Cert.Hand.noisy (M m d (Proc.devRef .tc main_v15)) := by
    rw [← M_noisy0 m d, ← M_masked m d, hm, hp, ← M_gum m d]
    unfold Cert.Hand.noisy
    with_reducible rfl
  rw [← M_pick m d, hn, hs]

end Cert.ReferenceIdeal.Hand
-- ==== Proof.Tf.lean ====
/-
The generator behind the noise, one word in and one word out: the rounds as the kernel spells them, the rounds as the
reference's library spells them, and that they are the same function.
-/
module

public import proofs.«01_k».proof.Defs

@[expose] public section

noncomputable section

namespace Cert.Hand

open Idealize.ShloMosaic

/-- Two words, the state of the generator. -/
abbrev W2 := BitVec 32 × BitVec 32

/-- A rotation by `a` bits, `b = 32 - a`, on the vector unit. -/
def rt (a b x : BitVec 32) : BitVec 32 := IntOp.ori (IntOp.shli .vector x a) (IntOp.shrui .vector x b)
/-- One round, as the kernel spells it. -/
def rnd (a b : BitVec 32) (p : W2) : W2 := (IntOp.addi p.1 p.2, IntOp.xori (rt a b p.2) (IntOp.addi p.1 p.2))
/-- A key injection, as the kernel spells it. -/
def inj (c d : BitVec 32) (p : W2) : W2 := (IntOp.addi p.1 c, IntOp.addi p.2 d)

/-- The same rotation in the host's shifts. -/
def rtR (a b x : BitVec 32) : BitVec 32 := IntOp.ori (IntOp.shli .host x a) (IntOp.shrui .host x b)
/-- One round, as the reference spells it. -/
def rndR (a b : BitVec 32) (p : W2) : W2 := (IntOp.addi p.1 p.2, IntOp.xori (IntOp.addi p.1 p.2) (rtR a b p.2))
/-- A key injection, as the reference spells it: the round's number is added apart. -/
def injR (c d n : BitVec 32) (p : W2) : W2 := (IntOp.addi p.1 c, IntOp.addi (IntOp.addi p.2 d) n)

/-- The first, third and fifth group's four rounds. -/
def g13R (p : W2) : W2 := rndR 6#32 26#32 (rndR 26#32 6#32 (rndR 15#32 17#32 (rndR 13#32 19#32 p)))
/-- The second and fourth group's four rounds. -/
def g17R (p : W2) : W2 := rndR 24#32 8#32 (rndR 16#32 16#32 (rndR 29#32 3#32 (rndR 17#32 15#32 p)))

/-- The reference's generator at key words `a0`, `a1`, from after the keys were added to the counter. -/
def tfR (a0 a1 k : BitVec 32) (p : W2) : W2 :=
  injR k a0 5#32 (g13R (injR a1 k 4#32 (g17R (injR a0 a1 3#32 (g13R (injR k a0 2#32 (g17R (injR a1 k 1#32 (g13R p)))))))))

/-- The kernel's first group, from the counter `x`. -/
def tf1 (x : BitVec 32) : W2 :=
  inj 42#32 466689009#32 (rnd 6#32 26#32 (rnd 26#32 6#32 (rnd 15#32 17#32
    (IntOp.addi x 42#32, IntOp.xori (rt 13#32 19#32 (IntOp.addi x 42#32)) (IntOp.addi x 42#32)))))
/-- The kernel's second group and half of its third, from the first group's end. -/
def tf2 (p : W2) : W2 :=
  rnd 15#32 17#32 (rnd 13#32 19#32 (inj 466689008#32 2#32 (rnd 24#32 8#32 (rnd 16#32 16#32 (rnd 29#32 3#32 (rnd 17#32 15#32 p))))))
/-- The rest of the third group and the fourth; the third injection leaves the first word. -/
def tf3 (p : W2) : W2 :=
  inj 42#32 466689012#32 (rnd 24#32 8#32 (rnd 16#32 16#32 (rnd 29#32 3#32 (rnd 17#32 15#32
    ((rnd 6#32 26#32 (rnd 26#32 6#32 p)).1, IntOp.addi (rnd 6#32 26#32 (rnd 26#32 6#32 p)).2 45#32)))))
/-- The fifth group. -/
def tf4 (p : W2) : W2 :=
  inj 466689008#32 5#32 (rnd 6#32 26#32 (rnd 26#32 6#32 (rnd 15#32 17#32 (rnd 13#32 19#32 p))))
/-- The random word of counter `x`. -/
def tfWord (x : BitVec 32) : BitVec 32 := IntOp.xori (tf4 (tf3 (tf2 (tf1 x)))).1 (tf4 (tf3 (tf2 (tf1 x)))).2

theorem rnd_eq {a b : BitVec 32} (ha : a.toNat < 32) (hb : b.toNat < 32) (p : W2) : rndR a b p = rnd a b p := by
  have h : rtR a b p.2 = rt a b p.2 := by
    unfold rtR rt IntOp.shli IntOp.shrui
    rw [if_pos ha, if_pos ha, if_pos hb, if_pos hb]
  unfold rndR rnd
  rw [h]
  exact Prod.ext rfl (BitVec.xor_comm _ _)

theorem inj_eq (c d n : BitVec 32) (p : W2) : injR c d n p = inj c (d + n) p := by
  unfold injR inj IntOp.addi
  rw [BitVec.add_assoc]

/-- From the counter on, the two spellings draw the same word. -/
theorem tfR_word (x : BitVec 32) :
    IntOp.xori (tfR 0#32 42#32 466689008#32 (0#32, IntOp.addi x 42#32)).1 (tfR 0#32 42#32 466689008#32 (0#32, IntOp.addi x 42#32)).2
      = tfWord x := by
  have e : tfR 0#32 42#32 466689008#32 (0#32, IntOp.addi x 42#32) = tf4 (tf3 (tf2 (tf1 x))) := by
    have h0 : rnd 13#32 19#32 (0#32, IntOp.addi x 42#32)
        = (IntOp.addi x 42#32, IntOp.xori (rt 13#32 19#32 (IntOp.addi x 42#32)) (IntOp.addi x 42#32)) := by
      have hz : IntOp.addi 0#32 (IntOp.addi x 42#32) = IntOp.addi x 42#32 := BitVec.zero_add _
      unfold rnd
      simp only [hz]
    have h3 : ∀ p : W2, inj 0#32 45#32 p = (p.1, IntOp.addi p.2 45#32) := fun p => by
      unfold inj IntOp.addi
      rw [BitVec.add_zero]
    unfold tfR g13R g17R
    simp only [inj_eq]
    rw [show (0#32 + 5#32 : BitVec 32) = 5#32 from rfl, show (466689008#32 + 4#32 : BitVec 32) = 466689012#32 from rfl,
      show (42#32 + 3#32 : BitVec 32) = 45#32 from rfl, show (0#32 + 2#32 : BitVec 32) = 2#32 from rfl,
      show (466689008#32 + 1#32 : BitVec 32) = 466689009#32 from rfl]
    simp only [rnd_eq (a := 6#32) (b := 26#32) (by decide) (by decide), rnd_eq (a := 26#32) (b := 6#32) (by decide) (by decide),
      rnd_eq (a := 15#32) (b := 17#32) (by decide) (by decide), rnd_eq (a := 13#32) (b := 19#32) (by decide) (by decide),
      rnd_eq (a := 24#32) (b := 8#32) (by decide) (by decide), rnd_eq (a := 16#32) (b := 16#32) (by decide) (by decide),
      rnd_eq (a := 29#32) (b := 3#32) (by decide) (by decide), rnd_eq (a := 17#32) (b := 15#32) (by decide) (by decide)]
    rw [h0, h3]
    rfl
  rw [e]
  rfl

end Cert.Hand
-- ==== Proof.KBits.lean ====
/-
The kernel's random words: what one trip of the sampling loop computes at each place of its chunk, as the one-word generator
at the counter row * 1000000 + column.
-/
module

public import proofs.«01_k».proof.Proof.Tf
public import proofs.«01_k».proof.Proof.Gen.KernelIdeal.Frame

@[expose] public section

noncomputable section

namespace Cert.KernelIdeal.Hand

open Idealize.ShloMosaic Cert.KernelIdeal Cert.KernelIdeal.Gen Cert.Hand

variable (v23 c0 c1 : BitVec 32) (k : Fin k0_t2_loop.trips) (j : S1x128x1024.Idx)

theorem part1_snd : k0_pay9 v23 c0 c1 k j = (tf1 (IntOp.addi v23 (k0_pay1 c0 c1 k j))).2 := rfl
theorem part1_sum : k0_pay10 v23 c0 c1 k j
    = IntOp.addi (tf1 (IntOp.addi v23 (k0_pay1 c0 c1 k j))).1 (tf1 (IntOp.addi v23 (k0_pay1 c0 c1 k j))).2 := rfl

theorem part2_snd (v74 v75 : IVec S1x128x1024 32) (p : W2) (h2 : v74 j = p.2) (h1 : v75 j = IntOp.addi p.1 p.2) :
    k0_pay22 v74 v75 k0_pay11 j = (tf2 p).2 := by
  have e : k0_pay22 v74 v75 k0_pay11 j = (rnd 15#32 17#32 (rnd 13#32 19#32 (inj 466689008#32 2#32 (rnd 24#32 8#32
      (rnd 16#32 16#32 (rnd 29#32 3#32 (v75 j, IntOp.xori (rt 17#32 15#32 (v74 j)) (v75 j)))))))).2 := rfl
  rw [e, h1, h2]
  rfl
theorem part2_sum (v74 v75 : IVec S1x128x1024 32) (p : W2) (h2 : v74 j = p.2) (h1 : v75 j = IntOp.addi p.1 p.2) :
    k0_pay23 v74 v75 k0_pay11 j = IntOp.addi (tf2 p).1 (tf2 p).2 := by
  have e : k0_pay23 v74 v75 k0_pay11 j = IntOp.addi (k0_pay21 v74 v75 k0_pay11 j) (k0_pay22 v74 v75 k0_pay11 j) := rfl
  have e1 : k0_pay21 v74 v75 k0_pay11 j = (rnd 15#32 17#32 (rnd 13#32 19#32 (inj 466689008#32 2#32 (rnd 24#32 8#32
      (rnd 16#32 16#32 (rnd 29#32 3#32 (v75 j, IntOp.xori (rt 17#32 15#32 (v74 j)) (v75 j)))))))).1 := rfl
  rw [e, part2_snd j v74 v75 p h2 h1, e1, h1, h2]
  rfl

theorem part3_fst (v120 v121 : IVec S1x128x1024 32) (p : W2) (h2 : v120 j = p.2) (h1 : v121 j = IntOp.addi p.1 p.2) :
    k0_pay35 v120 v121 k0_pay24 j = (tf3 p).1 := by
  have e : k0_pay35 v120 v121 k0_pay24 j = (inj 42#32 466689012#32 (rnd 24#32 8#32 (rnd 16#32 16#32 (rnd 29#32 3#32
      (rnd 17#32 15#32 ((rnd 6#32 26#32 (v121 j, IntOp.xori (rt 26#32 6#32 (v120 j)) (v121 j))).1,
        IntOp.addi (rnd 6#32 26#32 (v121 j, IntOp.xori (rt 26#32 6#32 (v120 j)) (v121 j))).2 45#32)))))).1 := rfl
  rw [e, h1, h2]
  rfl
theorem part3_snd (v120 v121 : IVec S1x128x1024 32) (p : W2) (h2 : v120 j = p.2) (h1 : v121 j = IntOp.addi p.1 p.2) :
    k0_pay36 v120 v121 k0_pay24 j = (tf3 p).2 := by
  have e : k0_pay36 v120 v121 k0_pay24 j = (inj 42#32 466689012#32 (rnd 24#32 8#32 (rnd 16#32 16#32 (rnd 29#32 3#32
      (rnd 17#32 15#32 ((rnd 6#32 26#32 (v121 j, IntOp.xori (rt 26#32 6#32 (v120 j)) (v121 j))).1,
        IntOp.addi (rnd 6#32 26#32 (v121 j, IntOp.xori (rt 26#32 6#32 (v120 j)) (v121 j))).2 45#32)))))).2 := rfl
  rw [e, h1, h2]
  rfl

end Cert.KernelIdeal.Hand
-- ==== Proof.Red.lean ====
/-
Small facts about the extended reals and reductions that both sides of the proof use: the values of the printed constants, a
reduction over every entry, and the exponential of a number at or below its row's maximum.
-/
module

public import Idealize.ShloMosaic.Lib.Pointwise
public import Idealize.ShloMosaic.Lib.IdealHost
public import Mathlib.Tactic.Linarith
public import Mathlib.Tactic.Positivity
public import Mathlib.Tactic.NormNum
public import Mathlib.Analysis.SpecialFunctions.Exp

@[expose] public section

noncomputable section

namespace Cert.Hand

open Idealize.ShloMosaic

/-! ## The printed constants -/

theorem bits_half : Ideal.ofBits .f32 0x3F000000#32 = ((2⁻¹ : ℝ) : EReal) := by
  simp [Ideal.ofBits, Ideal.ieee, -EReal.coe_mul]; norm_num

theorem bits_bot : Ideal.ofBits .f32 0xFF800000#32 = ⊥ := by
  simp [Ideal.ofBits, Ideal.ieee]

theorem bits_top : Ideal.ofBits .f32 0x7F800000#32 = ⊤ := by
  simp [Ideal.ofBits, Ideal.ieee]

theorem bits_eps : Ideal.ofBits .f32 0x32800000#32 = (((2⁻¹ : ℝ) ^ 26 : ℝ) : EReal) := by
  simp [Ideal.ofBits, Ideal.ieee, -EReal.coe_mul, -EReal.coe_pow, zpow_neg]; norm_num

/-- The temperature as a real number. -/
def tempR : ℝ := 9227469 / 8388608
/-- The probability to be covered as a real number. -/
def toppR : ℝ := 15351153 / 16777216

theorem bits_temp : Ideal.ofBits .f32 0x3F8CCCCD#32 = (tempR : EReal) := by
  simp [Ideal.ofBits, Ideal.ieee, tempR, -EReal.coe_mul]; norm_num

theorem bits_topp : Ideal.ofBits .f32 0x3F6A3D71#32 = (toppR : EReal) := by
  simp [Ideal.ofBits, Ideal.ieee, toppR, -EReal.coe_mul]; norm_num

/-! ## Reductions over everything -/

/-- `M` is the largest entry of `x`. -/
def IsTop {ι : Type} (x : ι → EReal) (M : EReal) : Prop := (∀ i, x i ≤ M) ∧ ∃ i, x i = M

theorem fold_max_isTop {ι : Type} [Fintype ι] [Nonempty ι] (x : ι → EReal) :
    IsTop x ((Finset.univ : Finset ι).fold max ⊥ x) := by
  refine ⟨fun i => ?_, ?_⟩
  · rw [Finset.le_fold_max]; exact .inr ⟨i, Finset.mem_univ i, le_rfl⟩
  · have h : (Finset.univ : Finset ι).fold max ⊥ x = Finset.univ.sup x := rfl
    obtain ⟨i, _, hi⟩ := Finset.exists_mem_eq_sup (Finset.univ : Finset ι) Finset.univ_nonempty x
    exact ⟨i, by rw [h, hi]⟩

/-- A maximum over every axis that is not a unit axis is the largest entry. -/
theorem max_total {s t : Shape} [Nonempty s.Idx] {axes : List (Fin s.rank)} (src : FVec Ideal s .f32) (h : s.Reduces axes t)
    (ht : ∀ b, t.size b = 1) (hφ : FKind.Formats .f32) (hacc : (0xFF800000#32 : BitVec 32) = FKind.maximumf.neutral .f32 hφ) (j : t.Idx) :
    IsTop src (multiReduction .maximumf axes t src 0xFF800000#32 h hφ hacc j) := by
  rw [multiReduction_maximumf_eq_fold, Finset.filter_true_of_mem fun i _ => funext fun b => Fin.ext (by
    have := (h.drop i b).isLt; have := (j b).isLt; have := ht b; omega)]
  have e : (FloatOps.ofBits .f32 0xFF800000#32 : Ideal .f32) = ⊥ := bits_bot
  rw [e]
  exact fold_max_isTop src

theorem toInt_minsi' (a b : BitVec 32) : (IntOp.minsi a b).toInt = min a.toInt b.toInt := by
  unfold IntOp.minsi
  simp only [BitVec.slt, decide_eq_true_eq]
  split_ifs with h
  · exact (min_eq_left (le_of_lt h)).symm
  · exact (min_eq_right (not_lt.1 h)).symm

theorem minsi_cases (a b : BitVec 32) : IntOp.minsi a b = a ∨ IntOp.minsi a b = b := by
  unfold IntOp.minsi; split_ifs <;> simp

/-- A signed minimum over every axis that is not a unit axis: at most every entry, and an entry or the word it starts from. -/
theorem min_total {s t : Shape} {axes : List (Fin s.rank)} (src : IVec s 32) (acc : BitVec 32) (h : s.Reduces axes t)
    (ht : ∀ b, t.size b = 1) (hacc : acc = IKind.minsi.neutral) (j : t.Idx) :
    (∀ i, (multiReductionI .minsi axes t src acc h hacc j).toInt ≤ (src i).toInt)
      ∧ (multiReductionI .minsi axes t src acc h hacc j = acc ∨ ∃ i, multiReductionI .minsi axes t src acc h hacc j = src i) := by
  rw [multiReductionI_eq_fold, Finset.filter_true_of_mem fun i _ => funext fun b => Fin.ext (by
    have := (h.drop i b).isLt; have := (j b).isLt; have := ht b; omega)]
  have key : ∀ S : Finset s.Idx, (∀ i ∈ S, (S.fold IntOp.minsi acc src).toInt ≤ (src i).toInt)
      ∧ (S.fold IntOp.minsi acc src = acc ∨ ∃ i, S.fold IntOp.minsi acc src = src i) := by
    classical
    intro S
    induction S using Finset.induction_on with
    | empty => exact ⟨fun i hi => absurd hi (Finset.notMem_empty i), .inl rfl⟩
    | insert a S ha ih =>
      rw [Finset.fold_insert ha]
      refine ⟨fun i hi => ?_, ?_⟩
      · rw [toInt_minsi']
        rcases Finset.mem_insert.1 hi with e | hi
        · rw [e]; exact min_le_left _ _
        · exact (min_le_right _ _).trans (ih.1 i hi)
      · rcases minsi_cases (src a) (S.fold IntOp.minsi acc src) with e | e
        · exact .inr ⟨a, e⟩
        · rw [e]; exact ih.2
  exact ⟨fun i => (key Finset.univ).1 i (Finset.mem_univ i), (key Finset.univ).2⟩

/-! ## Exponentials below the maximum -/

/-- `exp (x - M)` for `x ≤ M`, `M` real, is a real number between 0 and 1. -/
theorem exp_below (x : EReal) (M : ℝ) (hx : x ≤ M) : ∃ a : ℝ, Ideal.exp (x - M) = (a : EReal) ∧ 0 ≤ a ∧ a ≤ 1 := by
  induction x using EReal.rec with
  | bot => exact ⟨0, by rw [EReal.bot_sub]; rfl, le_rfl, zero_le_one⟩
  | top => exact absurd hx (not_le.2 (EReal.coe_lt_top M))
  | coe r =>
    refine ⟨Real.exp (r - M), ?_, (Real.exp_pos _).le, Real.exp_le_one_iff.2 ?_⟩
    · rw [← EReal.coe_sub]; rfl
    · have := EReal.coe_le_coe_iff.1 hx; linarith

theorem exp_self (M : ℝ) : Ideal.exp ((M : EReal) - M) = 1 := by
  rw [← EReal.coe_sub, sub_self]
  show ((Real.exp 0 : ℝ) : EReal) = 1
  rw [Real.exp_zero]; rfl

/-- A comparison of two reals as a bit. -/
theorem ogt_coe (a b : ℝ) : FloatOps.cmpf (F := Ideal) (φ := .f32) .ogt (a : EReal) (b : EReal) = if b < a then 1#1 else 0#1 := by
  show Ideal.cmp .ogt (a : EReal) (b : EReal) = _
  unfold Ideal.cmp
  by_cases h : b < a <;> simp [h]

theorem ogt_eq (a b : EReal) : FloatOps.cmpf (F := Ideal) (φ := .f32) .ogt a b = if b < a then 1#1 else 0#1 := by
  show Ideal.cmp .ogt a b = _
  unfold Ideal.cmp
  by_cases h : b < a <;> simp [h]

theorem oeq_eq (a b : EReal) : FloatOps.cmpf (F := Ideal) (φ := .f32) .oeq a b = if a = b then 1#1 else 0#1 := by
  show Ideal.cmp .oeq a b = _
  unfold Ideal.cmp
  by_cases h : a = b <;> simp [h]

theorem select_ite {α : Type} (p : Prop) [Decidable p] (x y : α) : Scalar.select (if p then 1#1 else 0#1) x y = if p then x else y := by
  by_cases h : p <;> simp [h, Scalar.select]

theorem coe_sum' {ι : Type} (S : Finset ι) (a : ι → ℝ) : ((∑ i ∈ S, a i : ℝ) : EReal) = ∑ i ∈ S, (a i : EReal) := by
  classical
  induction S using Finset.induction_on with
  | empty => simp
  | insert b S hb ih => rw [Finset.sum_insert hb, Finset.sum_insert hb, EReal.coe_add, ih]

end Cert.Hand
-- ==== Proof.Noise.lean ====
/-
The Gumbel noise of one random word, as both samplers compute it.
-/
module

public import proofs.«01_k».proof.Proof.Tf
public import proofs.«01_k».proof.Proof.Red

@[expose] public section

noncomputable section

namespace Cert.Hand

open Idealize.ShloMosaic

/-- A number from 0 to 1 out of a word: its upper 23 bits as a fraction, scaled past the smallest normal number. -/
def unit (w : BitVec 32) : EReal :=
  (Ideal.ofBits .f32 (IntOp.ori (IntOp.shrui .vector w 9#32) 1065353216#32) - Ideal.ofBits .f32 0x3F800000#32)
      * (Ideal.ofBits .f32 0x3F800000#32 - Ideal.ofBits .f32 0x00800000#32) + Ideal.ofBits .f32 0x00800000#32

/-- The Gumbel noise of a word. -/
def noise (w : BitVec 32) : EReal :=
  0 - Ideal.log (0 - Ideal.log (max (Ideal.ofBits .f32 0x00800000#32) (unit w)))

end Cert.Hand
-- ==== Proof.Abs.lean ====
/-
The mathematics of the two samplers, free of any program: the first place of a row's largest entry, found at once or chunk by
chunk; the bisection for the probability cutoff; and why the cutoff and the sorted prefix sample the same place.
-/
module

public import Idealize.ShloMosaic.Lib.Pointwise
public import Mathlib.Tactic.Linarith
public import Mathlib.Tactic.Positivity

@[expose] public section

noncomputable section

namespace Cert.Hand

/-- Among the first `n` entries of `v`, entry `i` is the first of the largest. -/
def FirstMax (v : ℕ → EReal) (n i : ℕ) : Prop := i < n ∧ ∀ j < n, v j ≤ v i ∧ (v j = v i → i ≤ j)

/-- The first largest entry is unique, also between two rows, when they differ only at entries that lie below the first row's
    largest one in both, and the longer row ends in minus infinity. -/
theorem FirstMax.agree {v v' : ℕ → EReal} {n n' i i' : ℕ} {B : EReal} (h : FirstMax v n i) (h' : FirstMax v' n' i') (hn : n ≤ n')
    (hpad : ∀ j, n ≤ j → v' j = ⊥) (hB : B ≤ v i) (hd : ∀ j < n, v' j = v j ∨ (v j ≤ v' j ∧ v' j < B)) : i = i' := by
  obtain ⟨hi, hv⟩ := h
  obtain ⟨hi', hv'⟩ := h'
  have hle : ∀ j, v' j ≤ v i := fun j => by
    by_cases hj : j < n
    · rcases hd j hj with e | ⟨_, e⟩
      · rw [e]; exact (hv j hj).1
      · exact e.le.trans hB
    · rw [hpad j (by omega)]; exact bot_le
  have hvi : v' i = v i := by
    rcases hd i hi with e | ⟨e, _⟩
    · exact e
    · exact le_antisymm (hle i) e
  have hmax : v' i' = v i := le_antisymm (hle i') (hvi ▸ (hv' i (by omega)).1)
  have h1 : i' ≤ i := (hv' i (by omega)).2 (hvi.trans hmax.symm)
  have h2 : i ≤ i' := by
    have hj : i' < n := by omega
    refine (hv i' hj).2 ?_
    rcases hd i' hj with e | ⟨_, e⟩
    · rw [← e, hmax]
    · rw [hmax] at e; exact absurd hB (not_le.2 e)
  omega

/-- What the running pair (value, place) is after the first `n` entries. -/
def Best (v : ℕ → EReal) (n : ℕ) (b : EReal) (i : ℕ) : Prop :=
  (∀ j < n, v j ≤ b) ∧ (∀ j < n, v j = b → i ≤ j) ∧ (b = ⊥ ∧ i = 0 ∨ i < n ∧ v i = b)

theorem best_zero (v : ℕ → EReal) : Best v 0 ⊥ 0 :=
  ⟨fun j h => absurd h (Nat.not_lt_zero j), fun j h => absurd h (Nat.not_lt_zero j), .inl ⟨rfl, rfl⟩⟩

/-- One more chunk: its largest value `cm`, first met at `ci`, replaces the pair if it is strictly larger. -/
theorem Best.step {v : ℕ → EReal} {n n' i ci : ℕ} {b cm : EReal} (h : Best v n b i) (hn : n ≤ n')
    (hc : ∀ j, n ≤ j → j < n' → v j ≤ cm ∧ (v j = cm → ci ≤ j)) (hci : n ≤ ci ∧ ci < n' ∧ v ci = cm) :
    Best v n' (if b < cm then cm else b) (if b < cm then ci else i) := by
  obtain ⟨h1, h2, h3⟩ := h
  by_cases hb : b < cm
  · simp only [if_pos hb]
    refine ⟨fun j hj => ?_, fun j hj e => ?_, .inr ⟨hci.2.1, hci.2.2⟩⟩
    · by_cases hjn : j < n
      · exact (h1 j hjn).trans hb.le
      · exact (hc j (by omega) hj).1
    · by_cases hjn : j < n
      · exact absurd (h1 j hjn) (not_le.2 (e ▸ hb))
      · exact (hc j (by omega) hj).2 e
  · simp only [if_neg hb]
    have hb' := not_lt.1 hb
    refine ⟨fun j hj => ?_, fun j hj e => ?_, ?_⟩
    · by_cases hjn : j < n
      · exact h1 j hjn
      · exact (hc j (by omega) hj).1.trans hb'
    · by_cases hjn : j < n
      · exact h2 j hjn e
      · rcases h3 with ⟨_, h⟩ | ⟨h, _⟩ <;> omega
    · rcases h3 with h | ⟨h, h'⟩
      · exact .inl h
      · exact .inr ⟨by omega, h'⟩

/-- After all entries the pair holds the first largest one. -/
theorem Best.firstMax {v : ℕ → EReal} {n i : ℕ} {b : EReal} (h : Best v n b i) (hn : 0 < n) : FirstMax v n i := by
  obtain ⟨h1, h2, ⟨hb, hi⟩ | ⟨hi, hb⟩⟩ := h
  · subst hi
    have hall : ∀ j < n, v j = ⊥ := fun j hj => le_bot_iff.1 (hb ▸ h1 j hj)
    exact ⟨hn, fun j hj => ⟨by rw [hall j hj]; exact bot_le, fun _ => Nat.zero_le j⟩⟩
  · exact ⟨hi, fun j hj => ⟨hb ▸ h1 j hj, fun e => h2 j hj (e.trans hb)⟩⟩

/-! ## The bisection -/

/-- One trip of the bisection for the cutoff: `W` is the mass above a threshold. -/
def bis (W : ℝ → ℝ) (tgt : ℝ) (p : ℝ × ℝ) : ℝ × ℝ :=
  if tgt < W (2⁻¹ * (p.1 + p.2)) then (2⁻¹ * (p.1 + p.2), p.2) else (p.1, 2⁻¹ * (p.1 + p.2))

/-- What holds after `k` trips. -/
theorem bis_inv (W : ℝ → ℝ) (tgt : ℝ) (h0 : tgt < W 0) (h1 : W 1 ≤ tgt) (k : ℕ) :
    let p := (bis W tgt)^[k] (0, 1)
    p.2 - p.1 = (2⁻¹ : ℝ) ^ k ∧ p.2 ≤ 1 ∧ 0 ≤ p.1 ∧ tgt < W p.1 ∧ W p.2 ≤ tgt := by
  induction k with
  | zero => simp [h0, h1]
  | succ k ih =>
    rw [Function.iterate_succ_apply']
    generalize (bis W tgt)^[k] (0, 1) = p at ih ⊢
    obtain ⟨hd, hp2, hp1, hlo, hhi⟩ := ih
    have hpos : (0 : ℝ) < (2⁻¹ : ℝ) ^ k := by positivity
    unfold bis
    rw [pow_succ]
    split_ifs with hW
    · exact ⟨by simp only; linarith, hp2, by simp only; linarith, hW, hhi⟩
    · exact ⟨by simp only; linarith, by simp only; linarith, hp1, hlo, not_lt.1 hW⟩

/-- The mass above a threshold of a finite sequence. -/
def mass {N : ℕ} (a : Fin N → ℝ) (t : ℝ) : ℝ := ∑ k, if t < a k then a k else 0

/-- A sequence in falling order, an entry removed once what precedes it sums above `tgt`: every kept entry lies above a
    threshold whose mass is above `tgt`, and some kept entry lies at or below one whose mass is not. -/
theorem kept_between {N : ℕ} (a : Fin N → ℝ) (ha : Antitone a) (hnn : ∀ k, 0 ≤ a k) (tgt lo hi : ℝ)
    (htot : tgt < ∑ k, a k) (hlo : tgt < mass a lo) (hhi : mass a hi ≤ tgt) (hfirst : ∀ k : Fin N, k.val = 0 → lo < a k)
    (rem : Fin N → Prop) (hrem : ∀ k, rem k ↔ 1 ≤ k.val ∧ tgt < ∑ j ∈ Finset.univ.filter (fun j : Fin N => j < k), a j) :
    (∀ k, ¬ rem k → lo < a k) ∧ ∃ k, ¬ rem k ∧ a k ≤ hi := by
  classical
  constructor
  · intro k hk
    by_contra hle
    have hle := not_lt.1 hle
    have hk0 : 1 ≤ k.val := by
      by_contra h
      exact absurd (hfirst k (by omega)) (not_lt.2 hle)
    refine hk ((hrem k).2 ⟨hk0, hlo.trans_le ?_⟩)
    unfold mass
    rw [Finset.sum_filter]
    refine Finset.sum_le_sum fun j _ => ?_
    by_cases hj : lo < a j
    · have : j < k := by
        by_contra h
        exact absurd (ha (not_lt.1 h)) (not_le.2 (hle.trans_lt hj))
      rw [if_pos hj, if_pos this]
    · rw [if_neg hj]
      split_ifs
      · exact hnn j
      · exact le_rfl
  · by_contra hno
    push Not at hno
    refine absurd hhi (not_le.2 ?_)
    by_cases hex : ∃ k, rem k
    · let S := Finset.univ.filter fun k : Fin N => rem k
      have hS : S.Nonempty := by
        obtain ⟨k, hk⟩ := hex
        exact ⟨k, Finset.mem_filter.2 ⟨Finset.mem_univ _, hk⟩⟩
      let k0 := S.min' hS
      have hk0 : rem k0 := (Finset.mem_filter.1 (S.min'_mem hS)).2
      refine ((hrem k0).1 hk0).2.trans_le ?_
      unfold mass
      rw [Finset.sum_filter]
      refine Finset.sum_le_sum fun j _ => ?_
      by_cases hj : j < k0
      · have hnr : ¬ rem j := fun h => absurd (S.min'_le j (Finset.mem_filter.2 ⟨Finset.mem_univ _, h⟩)) (not_le.2 hj)
        rw [if_pos hj, if_pos (hno j hnr)]
      · rw [if_neg hj]
        split_ifs
        · exact hnn j
        · exact le_rfl
    · push Not at hex
      refine htot.trans_le ?_
      unfold mass
      exact Finset.sum_le_sum fun j _ => by rw [if_pos (hno j (hex j))]

end Cert.Hand
-- ==== Proof.KTrip.lean ====
/-
The kernel's two loops, one trip each, as the mathematics of Abs.lean: a trip of the first loop is a step of the bisection, a
trip of the second takes in one more chunk of 131072 columns.
-/
module

public import proofs.«01_k».proof.Proof.KBits
public import proofs.«01_k».proof.Proof.Noise
public import proofs.«01_k».proof.Proof.Abs
public import Idealize.ShloMosaic.Lib.VecWindow

@[expose] public section

noncomputable section

namespace Cert.KernelIdeal.Hand

open Idealize.ShloMosaic Cert.KernelIdeal Cert.KernelIdeal.Gen Cert.Hand

variable (x0 : Vec Ideal S1x1024x1024 .f32)

theorem pay39_at (i : S1x1024x1024.Idx) : k0_pay39 x0 i = Ideal.div (x0 i) (tempR : EReal) := by
  rw [← bits_temp]
  unfold k0_pay39
  rw [shapeCast_id]
  rfl

theorem pay40_eq : k0_pay40 x0 = k0_pay39 x0 := by
  unfold k0_pay40
  rw [shapeCast_id]

theorem pay42_eq : k0_pay42 x0 = k0_pay41 x0 := by
  unfold k0_pay42
  rw [shapeCast_id]

theorem pay41_eq (M : EReal) (hM : IsTop (k0_pay39 x0) M) : k0_pay41 x0 = fun i => Ideal.exp (k0_pay39 x0 i - M) := by
  funext i
  have : Nonempty S1x1024x1024.Idx := ⟨i⟩
  have e : ∀ hφ hacc (j : S1.Idx), multiReduction .maximumf [1, 2] S1 (k0_pay39 x0) 0xFF800000#32 reduces_S1x1024x1024_S1 hφ hacc j = M := fun hφ hacc j => by
    have h := max_total (k0_pay39 x0) reduces_S1x1024x1024_S1 (by decide) hφ hacc j
    obtain ⟨a, ha⟩ := h.2
    obtain ⟨b, hb⟩ := hM.2
    exact le_antisymm (ha ▸ hM.1 a) (hb ▸ h.1 b)
  unfold k0_pay41
  dsimp only
  unfold shapeCast broadcastTo
  exact congrArg (fun M => Ideal.exp (k0_pay39 x0 i - M)) (e _ _ _)

/-- The mass above a threshold of a table. -/
def above {ι : Type} [Fintype ι] (a : ι → ℝ) (t : ℝ) : ℝ := ∑ i, if t < a i then a i else 0

theorem pay45_eq (p q : ℝ) : k0_pay45 (F := Ideal) (fun _ => (p : EReal)) (fun _ => (q : EReal)) = fun _ => ((2⁻¹ * (p + q) : ℝ) : EReal) := by
  funext j
  show Ideal.ofBits .f32 0x3F000000#32 * ((p : EReal) + (q : EReal)) = _
  rw [bits_half, ← EReal.coe_add, ← EReal.coe_mul]

theorem pay46_eq (a : S1x1024x1024.Idx → ℝ) (ha : k0_pay41 x0 = fun i => (a i : EReal)) (p q : ℝ) :
    k0_pay46 x0 (fun _ => (p : EReal)) (fun _ => (q : EReal)) (fun i => (a i : EReal))
      = fun _ => if toppR * ∑ i, a i < above a (2⁻¹ * (p + q)) then 1#1 else 0#1 := by
  funext j
  unfold k0_pay46
  rw [pay45_eq, ha]
  have e1 : ∀ hφ (hacc : (0x00000000#32 : BitVec 32) = _) (j : S1.Idx), multiReduction (F := Ideal) (φ := .f32) .add [1, 2] S1 (fun i => (a i : EReal)) 0x00000000#32 reduces_S1x1024x1024_S1 hφ hacc j
      = ((∑ i, a i : ℝ) : EReal) := fun hφ hacc j => by
    rw [Ideal.multiReduction_add_total _ _ _ (by decide) hφ hacc j, coe_sum']
  have e2 : ∀ hφ (hacc : (0x00000000#32 : BitVec 32) = _) (j : S1.Idx), multiReduction (F := Ideal) (φ := .f32) .add [1, 2] S1
      (select (cmpf (F := Ideal) (φ := .f32) .ogt (fun i => (a i : EReal)) (broadcastTo S1x1024x1024 (fun _ : S1x1x1.Idx => ((2⁻¹ * (p + q) : ℝ) : EReal)) broadcasts_S1x1x1_S1x1024x1024))
        (fun i => (a i : EReal)) (broadcast S1x1024x1024 (Scalar.ofBits (F := Ideal) .f32 0x00000000#32)))
      0x00000000#32 reduces_S1x1024x1024_S1 hφ hacc j
      = (above a (2⁻¹ * (p + q)) : EReal) := fun hφ hacc j => by
    rw [Ideal.multiReduction_add_total _ _ _ (by decide) hφ hacc j, above, coe_sum']
    refine Finset.sum_congr rfl fun i _ => ?_
    show Scalar.select (FloatOps.cmpf (F := Ideal) (φ := .f32) .ogt (a i : EReal) ((2⁻¹ * (p + q) : ℝ) : EReal)) (a i : EReal) (Ideal.ofBits .f32 0x00000000#32) = _
    rw [ogt_coe, select_ite, Ideal.ofBits_zero_f32]
    split_ifs <;> rfl
  dsimp only
  unfold shapeCast
  refine (congrArg₂ (FloatOps.cmpf (F := Ideal) (φ := .f32) .ogt) (e2 _ _ _) (congrArg (Ideal.ofBits .f32 0x3F6A3D71#32 * ·) (e1 _ _ _))).trans ?_
  rw [bits_topp, ← EReal.coe_mul, ogt_coe]

/-- One trip of the bisection loop. -/
theorem trip1 (a : S1x1024x1024.Idx → ℝ) (ha : k0_pay41 x0 = fun i => (a i : EReal)) (p : ℝ × ℝ) :
    k0_pay47 x0 (fun _ => (p.1 : EReal)) (fun _ => (p.2 : EReal)) (fun i => (a i : EReal))
        = (fun _ => ((bis (above a) (toppR * ∑ i, a i) p).1 : EReal))
      ∧ k0_pay48 x0 (fun _ => (p.1 : EReal)) (fun _ => (p.2 : EReal)) (fun i => (a i : EReal))
        = (fun _ => ((bis (above a) (toppR * ∑ i, a i) p).2 : EReal)) := by
  unfold k0_pay47 k0_pay48
  rw [pay46_eq x0 a ha, pay45_eq]
  unfold bis
  constructor <;> funext j
  · show Scalar.select (if toppR * ∑ i, a i < above a (2⁻¹ * (p.1 + p.2)) then 1#1 else 0#1) ((2⁻¹ * (p.1 + p.2) : ℝ) : EReal) (p.1 : EReal) = _
    rw [select_ite]
    split_ifs <;> rfl
  · show Scalar.select (if toppR * ∑ i, a i < above a (2⁻¹ * (p.1 + p.2)) then 1#1 else 0#1) (p.2 : EReal) ((2⁻¹ * (p.1 + p.2) : ℝ) : EReal) = _
    rw [select_ite]
    split_ifs <;> rfl

/-! ## The sampling loop -/

/-- The place of a column in the block. -/
def cell (n : ℕ) : S1x1024x1024.Idx := ix3 (n0 := 1) (n1 := 1024) (n2 := 1024) ⟨0, by omega⟩ ⟨n / 1024 % 1024, by omega⟩ ⟨n % 1024, by omega⟩

/-- The column of a place of chunk `k`. -/
def col (k : ℕ) (j : S1x128x1024.Idx) : ℕ := k * 131072 + (j 1).val * 1024 + (j 2).val

theorem j1_lt (j : S1x128x1024.Idx) : (j 1).val < 128 := (j 1).isLt
theorem j2_lt (j : S1x128x1024.Idx) : (j 2).val < 1024 := (j 2).isLt

theorem col_lt (k : ℕ) (j : S1x128x1024.Idx) : k * 131072 ≤ col k j ∧ col k j < (k + 1) * 131072 := by
  have := j1_lt j; have := j2_lt j; unfold col; omega

theorem col_surj (k n : ℕ) (h : k * 131072 ≤ n) (h' : n < (k + 1) * 131072) : ∃ j : S1x128x1024.Idx, col k j = n :=
  ⟨ix3 (n0 := 1) (n1 := 128) (n2 := 1024) ⟨0, by omega⟩ ⟨(n - k * 131072) / 1024, by omega⟩ ⟨n % 1024, by omega⟩, by
    show k * 131072 + (n - k * 131072) / 1024 * 1024 + n % 1024 = n
    omega⟩

theorem k_lt (k : Fin k0_t2_loop.trips) : k.val < 8 := Nat.lt_of_lt_of_le k.isLt k0_t2_abs.2.1

theorem iv_eq (k : Fin k0_t2_loop.trips) : Scf.iv 0#32 1#32 k.val = BitVec.ofNat 32 k.val := by
  simp [Scf.iv]

theorem pay1_at (k : Fin k0_t2_loop.trips) (j : S1x128x1024.Idx) : k0_pay1 0#32 1#32 k j = BitVec.ofNat 32 (col k.val j) := by
  have e : k0_pay1 0#32 1#32 k j = (BitVec.ofNat 32 (0 * 128 + (j 1).val) + Scf.iv 0#32 1#32 k.val * 128#32) * 1024#32 + BitVec.ofNat 32 (0 * 1024 + (j 2).val) := rfl
  rw [e, iv_eq]
  apply BitVec.eq_of_toNat_eq
  have := j1_lt j; have := j2_lt j; have := k_lt k
  simp only [BitVec.toNat_add, BitVec.toNat_mul, BitVec.toNat_ofNat, col]
  omega

theorem off1_eq (k : Fin k0_t2_loop.trips) : k0_off1 k = ![0, k.val * 128, 0] := by
  have e : k0_off1 k = ![0, (Scf.iv 0#32 1#32 k.val * 128#32).toNat, 0] := rfl
  have := k_lt k
  rw [e, iv_eq]
  congr 2
  simp only [BitVec.toNat_mul, BitVec.toNat_ofNat]
  omega

/-- A chunk's load reads the block at the chunk's columns. -/
theorem load_at (v : View sig .tc .vmem S1x1024x1024 .f32) (f : v.ty.Contents (Elt Ideal)) (k : Fin k0_t2_loop.trips) (j : S1x128x1024.Idx) :
    View.readAt (Elt Ideal) v (Rect.unit (s := S1x1024x1024) (k0_off1 k) ![1, 128, 1024] (k0_off1_inb k)).toLoadRect f j = v.read (Elt Ideal) f (cell (col k.val j)) := by
  refine congrArg (v.read (Elt Ideal) f) (funext fun a => Fin.ext ?_)
  have h : ((Rect.unit (s := S1x1024x1024) (k0_off1 k) S1x128x1024.size (k0_off1_inb k)).toLoadRect.idx j a).val = k0_off1 k a + 1 * (j a).val := rfl
  refine h.trans ?_
  have := j1_lt j; have := j2_lt j; have := k_lt k
  have h0 : (j 0).val < 1 := (j 0).isLt
  rw [off1_eq]
  unfold col cell
  fin_cases a
  · show 0 + 1 * (j 0).val = 0
    omega
  · show k.val * 128 + 1 * (j 1).val = (k.val * 131072 + (j 1).val * 1024 + (j 2).val) / 1024 % 1024
    omega
  · show 0 + 1 * (j 2).val = (k.val * 131072 + (j 1).val * 1024 + (j 2).val) % 1024
    omega

/-- What the sampling loop takes the largest of: at a column past the threshold the scaled logit plus the noise. -/
def cand (lo : EReal) (r : BitVec 32) (s e : S1x1024x1024.Idx → EReal) (n : ℕ) : EReal :=
  if lo < e (cell n) then s (cell n) + noise (tfWord (r + BitVec.ofNat 32 n)) else ⊥

theorem pay37_at (v166 v168 : IVec S1x128x1024 32) (j : S1x128x1024.Idx) (p : W2) (h1 : v166 j = p.1) (h2 : v168 j = p.2) :
    FloatOps.addf (F := Ideal) (φ := .f32) (k0_pay37 (F := Ideal) v166 v168 j) (k0_pay38 (F := Ideal) j)
      = unit (IntOp.xori (tf4 p).1 (tf4 p).2) := by
  obtain ⟨W, hW, e⟩ : ∃ W : IVec S1x128x1024 32, (∀ j, W j = IntOp.xori (tf4 (v166 j, v168 j)).1 (tf4 (v166 j, v168 j)).2)
      ∧ k0_pay37 (F := Ideal) v166 v168 = mulf (subf (bitcastToFloat .f32 (ori (shrui W (broadcast S1x128x1024 9#32)) (broadcast S1x128x1024 1065353216#32)))
        (broadcast S1x128x1024 (Scalar.ofBits .f32 0x3F800000#32))) (broadcast S1x128x1024 (Scalar.subf (Scalar.ofBits .f32 0x3F800000#32) (Scalar.ofBits .f32 0x00800000#32))) := by
    unfold k0_pay37
    refine ⟨_, ?_, rfl⟩
    intro j
    rfl
  rw [e, ← show W j = IntOp.xori (tf4 p).1 (tf4 p).2 by rw [hW, h1, h2]]
  rfl

theorem pay51_at (lo : EReal) (v211 v212 : FVec Ideal S1x128x1024 .f32) (v224 v227 : Vec Ideal S1x128x1024 .f32) (j : S1x128x1024.Idx) (w : BitVec 32)
    (hu : FloatOps.addf (F := Ideal) (φ := .f32) (v211 j) (v212 j) = unit w) :
    k0_pay51 (fun _ => lo) v211 v212 v224 v227 j = if lo < v227 j then v224 j + noise w else ⊥ := by
  have e : k0_pay51 (fun _ => lo) v211 v212 v224 v227 j
      = Scalar.select (FloatOps.cmpf (F := Ideal) (φ := .f32) .ogt (v227 j) lo)
        (v224 j + (Ideal.ofBits .f32 0x00000000#32 - Ideal.log (Ideal.ofBits .f32 0x00000000#32 - Ideal.log (max (Ideal.ofBits .f32 0x00800000#32)
          (FloatOps.addf (F := Ideal) (φ := .f32) (v211 j) (v212 j))))))
        (Ideal.ofBits .f32 0xFF800000#32) := rfl
  rw [e, hu, ogt_eq, select_ite, Ideal.ofBits_zero_f32, bits_bot]
  rfl

theorem toInt_small (n : ℕ) (h : n < 2 ^ 31) : (BitVec.ofNat 32 n).toInt = n := by
  rw [BitVec.toInt_eq_toNat_of_lt (by rw [BitVec.toNat_ofNat]; omega), BitVec.toNat_ofNat]
  omega

/-- One trip of the sampling loop, its chunk's entries those of `v`. -/
theorem trip2 (v : ℕ → EReal) (k : Fin k0_t2_loop.trips) (v22 : FVec Ideal S1x1x1 .f32) (v39 : IVec S1x128x1024 32) (v211 v212 : FVec Ideal S1x128x1024 .f32)
    (v224 v227 : Vec Ideal S1x128x1024 .f32) (h51 : ∀ j, k0_pay51 v22 v211 v212 v224 v227 j = v (col k.val j))
    (h39 : ∀ j, v39 j = BitVec.ofNat 32 (col k.val j)) (b : EReal) (i : ℕ) (h : Best v (k.val * 131072) b i) :
    ∃ b' i', Best v ((k.val + 1) * 131072) b' i' ∧ k0_pay54 v22 (fun _ => b) v211 v212 v224 v227 = (fun _ => b')
      ∧ k0_pay55 v22 (fun _ => b) (fun _ => BitVec.ofNat 32 i) v39 v211 v212 v224 v227 = fun _ => BitVec.ofNat 32 i' := by
  have hk := k_lt k
  obtain ⟨j0, hj0⟩ := col_surj k.val (k.val * 131072) le_rfl (by omega)
  have : Nonempty S1x128x1024.Idx := ⟨j0⟩
  -- the chunk's maximum
  let z : S1.Idx := fun a => ⟨0, by fin_cases a; decide⟩
  have hz : ∀ y : S1.Idx, y = z := fun y => funext fun a => Fin.ext (by
    fin_cases a
    have h : (y 0).val < 1 := (y 0).isLt
    show (y 0).val = 0
    omega)
  obtain ⟨cm, htop, hcm⟩ : ∃ cm, IsTop (k0_pay51 v22 v211 v212 v224 v227) cm
      ∧ ∀ hφ hacc (q : S1.Idx), multiReduction .maximumf [1, 2] S1 (k0_pay51 v22 v211 v212 v224 v227) 0xFF800000#32 reduces_S1x128x1024_S1 hφ hacc q = cm :=
    ⟨_, max_total _ reduces_S1x128x1024_S1 (by decide) (.inl rfl) (by decide) z, fun hφ hacc q => by rw [hz q]⟩
  have h52 : k0_pay52 v22 v211 v212 v224 v227 = fun _ => cm := by
    funext y
    unfold k0_pay52
    dsimp only
    unfold shapeCast
    exact hcm _ _ _
  -- the chunk's first place of it
  obtain ⟨mw, hmin, hmw⟩ : ∃ mw : BitVec 32, ((∀ i, mw.toInt ≤ ((select (cmpf (F := Ideal) (φ := .f32) .oeq (k0_pay51 v22 v211 v212 v224 v227) (broadcastTo S1x128x1024 (fun _ : S1x1x1.Idx => cm) broadcasts_S1x1x1_S1x128x1024))
        v39 (broadcast S1x128x1024 1073741824#32)) i).toInt) ∧ (mw = 2147483647#32 ∨ ∃ i, mw = (select (cmpf (F := Ideal) (φ := .f32) .oeq (k0_pay51 v22 v211 v212 v224 v227) (broadcastTo S1x128x1024 (fun _ : S1x1x1.Idx => cm) broadcasts_S1x1x1_S1x128x1024))
        v39 (broadcast S1x128x1024 1073741824#32)) i))
      ∧ ∀ hacc (q : S1.Idx), multiReductionI .minsi [1, 2] S1 (select (cmpf (F := Ideal) (φ := .f32) .oeq (k0_pay51 v22 v211 v212 v224 v227) (broadcastTo S1x128x1024 (fun _ : S1x1x1.Idx => cm) broadcasts_S1x1x1_S1x128x1024))
        v39 (broadcast S1x128x1024 1073741824#32)) 2147483647#32 reduces_S1x128x1024_S1 hacc q = mw :=
    ⟨_, min_total _ _ reduces_S1x128x1024_S1 (by decide) (by decide) z, fun hacc q => by rw [hz q]⟩
  have hsel : ∀ j, select (cmpf (F := Ideal) (φ := .f32) .oeq (k0_pay51 v22 v211 v212 v224 v227) (broadcastTo S1x128x1024 (fun _ : S1x1x1.Idx => cm) broadcasts_S1x1x1_S1x128x1024))
        v39 (broadcast S1x128x1024 1073741824#32) j = if v (col k.val j) = cm then BitVec.ofNat 32 (col k.val j) else 1073741824#32 := fun j => by
    show Scalar.select (FloatOps.cmpf (F := Ideal) (φ := .f32) .oeq (k0_pay51 v22 v211 v212 v224 v227 j) cm) (v39 j) 1073741824#32 = _
    rw [oeq_eq, select_ite, h51, h39]
  obtain ⟨js, hjs⟩ := htop.2
  rw [h51] at hjs
  have hle : ∀ j, v (col k.val j) = cm → mw.toInt ≤ (col k.val j : ℤ) := fun j hj => by
    have h1 := hmin.1 j
    rw [hsel, if_pos hj, toInt_small _ (by have := (col_lt k.val j).2; omega)] at h1
    exact h1
  have hlts : mw.toInt < 2 ^ 20 := lt_of_le_of_lt (hle js hjs) (by have := (col_lt k.val js).2; omega)
  obtain ⟨jm, hjm, hvm⟩ : ∃ jm, mw = BitVec.ofNat 32 (col k.val jm) ∧ v (col k.val jm) = cm := by
    rcases hmin.2 with e | ⟨j, e⟩
    · rw [e] at hlts
      exact absurd hlts (by decide)
    · rw [hsel] at e
      by_cases hj : v (col k.val j) = cm
      · rw [if_pos hj] at e
        exact ⟨j, e, hj⟩
      · rw [if_neg hj] at e
        rw [e] at hlts
        exact absurd hlts (by decide)
  have hjmInt : mw.toInt = (col k.val jm : ℤ) := by
    rw [hjm, toInt_small _ (by have := (col_lt k.val jm).2; omega)]
  refine ⟨_, _, h.step (n' := (k.val + 1) * 131072) (ci := col k.val jm) (cm := cm) (by omega) (fun n hn hn' => ?_)
    ⟨(col_lt k.val jm).1, (col_lt k.val jm).2, hvm⟩, ?_, ?_⟩
  · obtain ⟨j, rfl⟩ := col_surj k.val n hn hn'
    refine ⟨by rw [← h51]; exact htop.1 j, fun hj => ?_⟩
    have := hle j hj
    omega
  · unfold k0_pay54 k0_pay53
    rw [h52]
    funext y
    show Scalar.select (FloatOps.cmpf (F := Ideal) (φ := .f32) .ogt cm b) cm b = _
    rw [ogt_eq, select_ite]
  · unfold k0_pay55 k0_pay53
    rw [h52]
    funext y
    have e : ∀ hacc (q : S1.Idx), Scalar.select (FloatOps.cmpf (F := Ideal) (φ := .f32) .ogt cm b) (multiReductionI .minsi [1, 2] S1
      (select (cmpf (F := Ideal) (φ := .f32) .oeq (k0_pay51 v22 v211 v212 v224 v227) (broadcastTo S1x128x1024 (fun _ : S1x1x1.Idx => cm) broadcasts_S1x1x1_S1x128x1024))
        v39 (broadcast S1x128x1024 1073741824#32)) 2147483647#32 reduces_S1x128x1024_S1 hacc q) (BitVec.ofNat 32 i) = BitVec.ofNat 32 (if b < cm then col k.val jm else i) := fun hacc q => by
      rw [hmw, hjm, ogt_eq, select_ite]
      split_ifs <;> rfl
    dsimp only
    unfold shapeCast
    exact e _ _

end Cert.KernelIdeal.Hand
-- ==== Proof.KLoop.lean ====
/-
The kernel's two loops as wholes, and what one grid point leaves in its output block: the first column of the largest candidate.
-/
module

public import proofs.«01_k».proof.Proof.KTrip
public import Idealize.ShloMosaic.Lib.IdealHost

@[expose] public section

noncomputable section

namespace Cert.KernelIdeal.Hand

open Idealize.ShloMosaic Idealize.ShloMosaic.TcCoe Idealize.SL.Sem Cert.KernelIdeal Cert.KernelIdeal.Gen Cert.Hand

variable (c : Dev nD) (i : grid0.Coords) (arg1 : Memref sig .tc .vmem S1x1024x1024 .f32) (harg1 : arg1.IsWhole)
  (arg2 : Memref sig .tc .vmem S1x1x128 .f32) (harg2 : arg2.IsWhole) (arg3 : Memref sig .tc .vmem S1x1024x1024 .f32) (harg3 : arg3.IsWhole)
  (arg4 : Memref sig .tc .vmem S1x1024x1024 .f32) (harg4 : arg4.IsWhole) (x0 : Vec Ideal S1x1024x1024 .f32)
  (X3 : BufTy.Contents (Elt Ideal) arg3.view.ty) (X4 : BufTy.Contents (Elt Ideal) arg4.view.ty)

/-- A pair of reals as the first loop carries it. -/
def pairV (p : ℝ × ℝ) : FVec Ideal S1x1x1 .f32 × FVec Ideal S1x1x1 .f32 := (fun _ => (p.1 : EReal), fun _ => (p.2 : EReal))

/-- The bisection after `k` trips. -/
def bisAt (a : S1x1024x1024.Idx → ℝ) (k : ℕ) : ℝ × ℝ := (bis (above a) (toppR * ∑ i, a i))^[k] (0, 1)

/-- The first loop after `k` trips. -/
theorem loop1 (a : S1x1024x1024.Idx → ℝ) (ha : k0_pay41 x0 = fun i => (a i : EReal)) (hX : arg3.view.read (Elt Ideal) X3 = fun i => (a i : EReal)) :
    ∀ k ≤ k0_t1_loop.trips, st_k0_t1 (F := Ideal) Variants.none c none i arg1 harg1 arg2 harg2 arg3 harg3 arg4 harg4 x0 X3 (k0_pay43, k0_pay44) k
      = pairV (bisAt a k) := by
  intro k
  induction k with
  | zero =>
    intro _
    rw [st_k0_t1_zero]
    refine Prod.ext (funext fun j => ?_) (funext fun j => ?_)
    · show Ideal.ofBits .f32 0x00000000#32 = ((0 : ℝ) : EReal)
      rw [Ideal.ofBits_zero_f32, EReal.coe_zero]
    · show Ideal.ofBits .f32 0x3F800000#32 = ((1 : ℝ) : EReal)
      rw [Ideal.ofBits_one_f32, EReal.coe_one]
  | succ k ih =>
    intro hk
    rw [st_k0_t1_succ (F := Ideal) Variants.none c none i arg1 harg1 arg2 harg2 arg3 harg3 arg4 harg4 x0 X3 (k0_pay43, k0_pay44) ⟨k, hk⟩, ih (Nat.le_of_succ_le hk)]
    unfold tripR_k0_t1 trip_k0_t1
    dsimp only
    rw [View.readAt_full, hX]
    have h := trip1 x0 a ha (bisAt a k)
    unfold bisAt at h ⊢
    unfold pairV
    rw [Function.iterate_succ_apply']
    exact Prod.ext h.1 h.2

/-- The word of a place of chunk `k`. -/
theorem word_col (v23 : BitVec 32) (k : Fin k0_t2_loop.trips) (j : S1x128x1024.Idx) :
    FloatOps.addf (F := Ideal) (φ := .f32) (k0_pay37 (F := Ideal)
        (k0_pay35 (k0_pay22 (k0_pay9 v23 0#32 1#32 k) (k0_pay10 v23 0#32 1#32 k) k0_pay11) (k0_pay23 (k0_pay9 v23 0#32 1#32 k) (k0_pay10 v23 0#32 1#32 k) k0_pay11) k0_pay24)
        (k0_pay36 (k0_pay22 (k0_pay9 v23 0#32 1#32 k) (k0_pay10 v23 0#32 1#32 k) k0_pay11) (k0_pay23 (k0_pay9 v23 0#32 1#32 k) (k0_pay10 v23 0#32 1#32 k) k0_pay11) k0_pay24) j)
        (k0_pay38 (F := Ideal) j)
      = unit (tfWord (v23 + BitVec.ofNat 32 (col k.val j))) := by
  rw [← pay1_at]
  have p1 := part1_snd v23 0#32 1#32 k j
  have p2 := part1_sum v23 0#32 1#32 k j
  have q1 := part2_snd j _ _ _ p1 p2
  have q2 := part2_sum j _ _ _ p1 p2
  have r1 := part3_fst j _ _ _ q1 q2
  have r2 := part3_snd j _ _ _ q1 q2
  exact pay37_at _ _ j _ r1 r2

/-- The second loop after `k` trips. -/
theorem loop2 (lo : EReal) (v23 : BitVec 32) (s e : S1x1024x1024.Idx → EReal) (h3 : arg3.view.read (Elt Ideal) X3 = e) (h4 : arg4.view.read (Elt Ideal) X4 = s) :
    ∀ k ≤ k0_t2_loop.trips, ∃ b n, Best (cand lo v23 s e) (k * 131072) b n
      ∧ st_k0_t2 (F := Ideal) Variants.none c none i arg1 harg1 arg2 harg2 arg3 harg3 arg4 harg4 (fun _ => lo) v23 X3 X4 (k0_pay49, k0_pay50) k
        = (fun _ => b, fun _ => BitVec.ofNat 32 n) := by
  intro k
  induction k with
  | zero =>
    intro _
    refine ⟨⊥, 0, by rw [Nat.zero_mul]; exact best_zero _, ?_⟩
    rw [st_k0_t2_zero]
    refine Prod.ext (funext fun j => ?_) rfl
    exact bits_bot
  | succ k ih =>
    intro hk
    obtain ⟨b, n, hb, hst⟩ := ih (Nat.le_of_succ_le hk)
    rw [st_k0_t2_succ (F := Ideal) Variants.none c none i arg1 harg1 arg2 harg2 arg3 harg3 arg4 harg4 (fun _ => lo) v23 X3 X4 (k0_pay49, k0_pay50) ⟨k, hk⟩, hst]
    unfold tripR_k0_t2 trip_k0_t2
    dsimp only
    obtain ⟨b', n', hb', e1, e2⟩ := trip2 (cand lo v23 s e) ⟨k, hk⟩ (fun _ => lo) (addi (trip_k0_t2.sl.v37 ⟨k, hk⟩) trip_k0_t2.sl.v38)
      (k0_pay37 (trip_k0_t2.sl.v166 v23 ⟨k, hk⟩) (trip_k0_t2.sl.v168 v23 ⟨k, hk⟩)) k0_pay38
      (View.readAt (Elt Ideal) arg4.view (Rect.unit (s := S1x1024x1024) (k0_off1 ⟨k, hk⟩) ![1, 128, 1024] (k0_off1_inb ⟨k, hk⟩)).toLoadRect X4)
      (View.readAt (Elt Ideal) arg3.view (Rect.unit (s := S1x1024x1024) (k0_off1 ⟨k, hk⟩) ![1, 128, 1024] (k0_off1_inb ⟨k, hk⟩)).toLoadRect X3)
      (fun j => by
        refine (pay51_at lo _ _ _ _ j _ (word_col v23 ⟨k, hk⟩ j)).trans ?_
        rw [load_at, load_at, h3, h4]
        rfl) (fun j => pay1_at ⟨k, hk⟩ j) b n hb
    refine ⟨b', n', hb', ?_⟩
    simp only [trip_k0_t2.sl.r, trip_k0_t2.sl.v39]
    refine Prod.ext ?_ ?_
    · dsimp only
      exact e1
    · dsimp only
      exact e2

end Cert.KernelIdeal.Hand
-- ==== Proof.KOut.lean ====
/-
What one grid point leaves in its output block: the first column of the largest candidate, as a real number, in every lane.
-/
module

public import proofs.«01_k».proof.Proof.KLoop
public import Idealize.ShloMosaic.Lib.WholeRead

@[expose] public section

noncomputable section

namespace Cert.KernelIdeal.Hand

open Idealize.ShloMosaic Idealize.ShloMosaic.TcCoe Idealize.SL.Sem Cert.KernelIdeal Cert.KernelIdeal.Gen Cert.Hand

variable (c : Dev nD) (i : grid0.Coords) (arg1 : Memref sig .tc .vmem S1x1024x1024 .f32) (harg1 : arg1.IsWhole)
  (arg2 : Memref sig .tc .vmem S1x1x128 .f32) (harg2 : arg2.IsWhole) (arg3 : Memref sig .tc .vmem S1x1024x1024 .f32) (harg3 : arg3.IsWhole)
  (arg4 : Memref sig .tc .vmem S1x1024x1024 .f32) (harg4 : arg4.IsWhole) (x0 : Vec Ideal S1x1024x1024 .f32)

theorem trips1 : k0_t1_loop.trips = 26 := by decide
theorem trips2 : k0_t2_loop.trips = 8 := by decide

theorem pay56_at (n : ℕ) (hn : n < 2 ^ 31) : k0_pay56 (F := Ideal) (fun _ => BitVec.ofNat 32 n) = fun _ => ((n : ℝ) : EReal) := by
  funext y
  have e : k0_pay56 (F := Ideal) (fun _ => BitVec.ofNat 32 n) y = (((BitVec.ofNat 32 n).toInt : ℝ) : EReal) := rfl
  rw [e, toInt_small n hn]
  norm_cast

theorem out_eq (a : S1x1024x1024.Idx → ℝ) (ha : k0_pay41 x0 = fun i => (a i : EReal)) :
    ∃ n, FirstMax (cand ((bisAt a 26).1 : EReal) (BitVec.ofNat 32 (i 0).val * 1000000#32) (k0_pay39 x0) (fun i => (a i : EReal))) 1048576 n
      ∧ out0_A_1 (F := Ideal) c i arg1 harg1 arg2 harg2 arg3 harg3 arg4 harg4 x0 = fun _ => ((n : ℝ) : EReal) := by
  have h1 := loop1 c i arg1 harg1 arg2 harg2 arg3 harg3 arg4 harg4 x0 (arg3.view.writes (Elt Ideal) arg3.view.junk (kernelRun0_A.sl.HS0_1 c arg1 harg1 x0)) a ha
    (by
      unfold kernelRun0_A.sl.HS0_1
      rw [View.read_writes_full, View.readAt_full, harg1.read_unread, pay42_eq, ha])
    k0_t1_loop.trips le_rfl
  obtain ⟨b, n, hb, h2⟩ := loop2 c i arg1 harg1 arg2 harg2 arg3 harg3 arg4 harg4
    (arg3.view.writes (Elt Ideal) arg3.view.junk (kernelRun0_A.sl.HS0_1 c arg1 harg1 x0)) (arg4.view.writes (Elt Ideal) arg4.view.junk (kernelRun0_A.sl.HS1_1 c arg1 harg1 x0))
    ((bisAt a 26).1 : EReal) (BitVec.ofNat 32 (i 0).val * 1000000#32) (k0_pay39 x0) (fun i => (a i : EReal))
    (by
      unfold kernelRun0_A.sl.HS0_1
      rw [View.read_writes_full, View.readAt_full, harg1.read_unread, pay42_eq, ha])
    (by
      unfold kernelRun0_A.sl.HS1_1
      rw [View.read_writes_full, View.readAt_full, harg1.read_unread, pay40_eq])
    k0_t2_loop.trips le_rfl
  rw [trips2] at hb
  rw [trips1] at h1
  have hf := hb.firstMax (by norm_num)
  refine ⟨n, hf, ?_⟩
  unfold out0_A_1 kernelRun0_A
  dsimp only
  simp only [kernelRun0_A.sl.r]
  rw [View.read_writes_full, View.readAt_full, harg1.read_unread]
  rw [show Scf.trips 0#32 (Scalar.addi 0#32 26#32) 1#32 = 26 from trips1, show Scf.trips 0#32 (Scalar.addi 0#32 8#32) 1#32 = 8 from trips2, h1]
  rw [trips2] at h2
  exact (congrArg (fun p : FVec Ideal S1x1x1 .f32 × IVec S1x1x1 32 => k0_pay56 (F := Ideal) p.2) h2).trans (pay56_at n (by have := hf.1; omega))

end Cert.KernelIdeal.Hand
-- ==== Proof.KRun.lean ====
/-
The kernel's run: what the region finds in its input array, what each point reads of it, the output array after the run, and the
result the host's last lines make of it.
-/
module

public import proofs.«01_k».proof.Proof.KOut
public import Idealize.ShloMosaic.Lib.Pipeline.ValueKit
public import Idealize.ShloMosaic.Lib.Claim

@[expose] public section

set_option maxRecDepth 16384

noncomputable section

namespace Cert.KernelIdeal.Hand

open Idealize.ShloMosaic Idealize.ShloMosaic.TcCoe Idealize.SL.Sem Cert.KernelIdeal Cert.KernelIdeal.Gen Cert.Hand

variable (m : (ℓ : Loc nD τ sig) → Buf (Elt Ideal) ℓ) (c : Dev nD)

/-- The grid point of a row. -/
def pt (r : Fin 32) : Fin cfg0.N := ⟨r.val, r.isLt⟩

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem coord0 : ∀ t : Fin cfg0.N, (grid0.coords t 0).val = t.val :=
  (by decide +kernel : ∀ t : Fin grid0.N, _)

/-- The output array after the run: row `r` is what point `r` leaves. -/
theorem arr_out : (dats m 0 c).arrAt 1 cfg0.N = fun i : S32x1x128.Idx =>
    outsAt0 m c (pt (i 0)) (ix3 (n0 := 1) (n1 := 1) (n2 := 128) ⟨0, by omega⟩ ⟨0, by omega⟩ (i 2)) := by
  refine (dats m 0 c).arrAt_eq_of_covers 1 _ (by decide +kernel) fun t hf y => ?_
  obtain ⟨e0, e1, e2⟩ := idx1 t
  rw [after0_1]
  have y0 : (y 0).val < 1 := (y 0).isLt
  have y1 : (y 1).val < 1 := (y 1).isLt
  have h0 : (((cfg0.win 1).blk t).view.emb y 0).val = win0_1.index t (0 : Fin 3) * 1 + 1 * (y 0).val := rfl
  have h2 : (((cfg0.win 1).blk t).view.emb y 2).val = win0_1.index t (2 : Fin 3) * 128 + 1 * (y 2).val := rfl
  have e : pt (((cfg0.win 1).blk t).view.emb y 0) = t := Fin.ext (by
    show (((cfg0.win 1).blk t).view.emb y 0).val = t.val
    omega)
  rw [e]
  refine congrArg (outsAt0 m c t) (funext fun a => Fin.ext ?_)
  fin_cases a
  · show (y 0).val = 0
    omega
  · show (y 1).val = 0
    omega
  · show (y 2).val = (((cfg0.win 1).blk t).view.emb y 2).val
    omega

/-- What point `r` reads of the input array: row `r`. -/
theorem iblk_at (r : Fin 32) (i : S1x1024x1024.Idx) : iblk m c 0 (pt r) i = V m c main_call0_v1 (ix3 (n0 := 32) (n1 := 1024) (n2 := 1024) r (i 1) (i 2)) := by
  obtain ⟨e0, e1, e2⟩ := idx0 (pt r)
  have i0 : (i 0).val < 1 := (i 0).isLt
  have er : (pt r).val = r.val := rfl
  show V m c main_call0_v1 (((cfg0.win 0).blk (pt r)).view.emb i) = _
  refine congrArg (V m c main_call0_v1) (funext fun a => Fin.ext ?_)
  fin_cases a
  · show win0_0.index (pt r) (0 : Fin 3) * 1 + 1 * (i 0).val = r.val
    omega
  · show win0_0.index (pt r) (1 : Fin 3) * 1024 + 1 * (i 1).val = (i 1).val
    omega
  · show win0_0.index (pt r) (2 : Fin 3) * 1024 + 1 * (i 2).val = (i 2).val
    omega

end Cert.KernelIdeal.Hand
-- ==== Proof.KHost.lean ====
/-
What the kernel's host lines are: the input array they prepare, and the result they read off the output array.
-/
module

public import proofs.«01_k».proof.Defs
public import proofs.«01_k».proof.Proof.Gen.KernelIdeal.Frame
public import Idealize.ShloMosaic.Lib.Claim

@[expose] public section

set_option maxRecDepth 16384

noncomputable section

namespace Cert.KernelIdeal.Hand

open Idealize.ShloMosaic Idealize.ShloMosaic.TcCoe Idealize.SL.Sem Cert.KernelIdeal Cert.KernelIdeal.Gen

variable (m : (ℓ : Loc nD τ sig) → Buf (Elt Ideal) ℓ) (c : Dev nD)

/-- The launch's input: the logits continued by minus infinity, cut into squares. -/
theorem V_in : V m c main_call0_v1 = shapeCast S32x1024x1024 (pad S32x1048576 ![0, 0] ![0, 48576] ![0, 0] (m ((c : Thread nD τ).loc main_arg0) : FVec Ideal S32x1000000 .f32)
    (constant (F := Ideal) S_ .f32 0xFF800000#32 : FVec Ideal S_ .f32) pads_S32x1000000_S32x1048576_000_0485760 h_S_ : FVec Ideal S32x1048576 .f32) shapeCasts_S32x1048576_S32x1024x1024 := by
  entry_read
  rfl

/-- The result as the last lines read it off the output array. -/
theorem tail_eq (σ : Valuation τ sig (Elt Ideal)) (X : FVec Ideal S32x1x128 .f32) (h : σ (Proc.devRef .tc main_call0_v2) = X) :
    StableHlo.after hostOps1 σ (Proc.devRef .tc main_v0) = fptosi 32 (shapeCast S32x1 (extractStridedSlice S32x1x1 ![0, 0, 0] X slices_S32x1x128_S32x1x1_0_0_0)
      shapeCasts_S32x1x1_S32x1 : FVec Ideal S32x1 .f32) := by
  subst h
  unfold hostOps1
  entry_read
  rfl

end Cert.KernelIdeal.Hand
-- ==== Proof.Row.lean ====
/-
A row of a table as a sequence, continued by minus infinity.
-/
module

public import proofs.«01_k».proof.Proof.Abs
public import proofs.«01_k».proof.Proof.Spec
public import proofs.«01_k».proof.Proof.Red
public import Idealize.ShloMosaic.Lib.StableHlo.Predicate

@[expose] public section

noncomputable section

namespace Cert.Hand

open Idealize.ShloMosaic

/-- Row `r` of a table, minus infinity past its end. -/
def row (A : Tab) (r : Fin 32) (n : ℕ) : EReal :=
  if h : n < 1000000 then A (ix2 (n0 := 32) (n1 := 1000000) r ⟨n, h⟩) else ⊥

theorem row_fin (A : Tab) (r : Fin 32) (k : Fin 1000000) : row A r k.val = A (ix2 (n0 := 32) (n1 := 1000000) r k) := dif_pos k.isLt

theorem row_of_ge (A : Tab) (r : Fin 32) (n : ℕ) (h : 1000000 ≤ n) : row A r n = ⊥ := dif_neg (by omega)

theorem word_ne {b : BitVec 1} : b ≠ 1#1 ↔ b = 0#1 := by revert b; decide

theorem word_le (n : ℕ) (hn : n < 1000000) : (BitVec.ofNat 32 n).toInt = n :=
  StableHlo.Predicate.toInt_ofNat_small n (by omega)

end Cert.Hand
-- ==== Proof.KVal.lean ====
/-
What the kernel's host lines make of the launch: the input array, and the result from the output array.
-/
module

public import proofs.«01_k».proof.Proof.KRun
public import proofs.«01_k».proof.Proof.KHost
public import proofs.«01_k».proof.Proof.KOut
public import proofs.«01_k».proof.Proof.Row

@[expose] public section

set_option maxRecDepth 16384

noncomputable section

namespace Cert.KernelIdeal.Hand

open Idealize.ShloMosaic Idealize.ShloMosaic.TcCoe Idealize.SL.Sem Cert.KernelIdeal Cert.KernelIdeal.Gen Cert.Hand

variable (m : (ℓ : Loc nD τ sig) → Buf (Elt Ideal) ℓ) (c : Dev nD)

/-- Rows filled up on the right, at any size. -/
theorem pad_right {R N M K : ℕ} (x : (⟨2, ![R, N]⟩ : Shape).Idx → EReal) (v : (⟨0, ![]⟩ : Shape).Idx → EReal)
    (h : (⟨2, ![R, N]⟩ : Shape).Pads ![0, 0] ![0, K] ![0, 0] ⟨2, ![R, M]⟩) (hu : 0 < (⟨0, ![]⟩ : Shape).numel) (r : Fin R) (n : Fin M) :
    pad ⟨2, ![R, M]⟩ ![0, 0] ![0, K] ![0, 0] x v h hu (ix2 r n) = if hn : n.val < N then x (ix2 r ⟨n.val, hn⟩) else v (Shape.Idx.first hu) := by
  unfold pad
  by_cases hn : n.val < N
  · rw [dif_pos hn, dif_pos]
    · refine congrArg x (funext fun b => Fin.ext ?_)
      match b with
      | ⟨0, _⟩ => exact Nat.div_one _
      | ⟨1, _⟩ => exact Nat.div_one _
    · intro b
      match b with
      | ⟨0, _⟩ => exact ⟨Nat.zero_le _, Nat.mod_one _, (Nat.div_one _).trans_lt r.isLt⟩
      | ⟨1, _⟩ => exact ⟨Nat.zero_le _, Nat.mod_one _, (Nat.div_one _).trans_lt hn⟩
  · rw [dif_neg hn, dif_neg]
    intro hin
    have h1 : (n.val - 0) / (0 + 1) < N := (hin 1).2.2
    omega

/-- What point `r` reads, column by column. -/
theorem iblk_cell (r : Fin 32) (n : ℕ) (hn : n < 1048576) : iblk m c 0 (pt r) (cell n) = row (m ((c : Thread nD τ).loc main_arg0)) r n := by
  rw [iblk_at, V_in]
  unfold shapeCast
  have e : Shape.reshapeEquiv shapeCasts_S32x1048576_S32x1024x1024 (ix3 (n0 := 32) (n1 := 1024) (n2 := 1024) r (cell n 1) (cell n 2))
      = ix2 (n0 := 32) (n1 := 1048576) r ⟨n, hn⟩ := by
    refine Shape.reshapeEquiv_eq_of_rowMajor _ ?_
    rw [Shape.rowMajor_val_two, Shape.rowMajor_val_three]
    show r.val * 1048576 + n = (r.val * 1024 + n / 1024 % 1024) * 1024 + n % 1024
    omega
  rw [e]
  unfold row
  refine (pad_right _ _ pads_S32x1000000_S32x1048576_000_0485760 h_S_ r ⟨n, hn⟩).trans ?_
  dsimp only
  split_ifs
  · rfl
  · exact bits_bot

/-- The result, from the output array. -/
def res : IVec S32x1 32 := fptosi 32 (shapeCast S32x1 (extractStridedSlice S32x1x1 ![0, 0, 0] ((dats m 0 c).arrAt 1 cfg0.N : FVec Ideal S32x1x128 .f32) slices_S32x1x128_S32x1x1_0_0_0)
  shapeCasts_S32x1x1_S32x1 : FVec Ideal S32x1 .f32)

theorem run (g : Dev nD → PrngReg) : θ_run (defs (F := Ideal)) (onTc (τ := τ) (main (F := Ideal))) ⟨m, fun _ => 0, g⟩ fun r => ∀ c : Dev nD,
      r.2.mem ((c : Thread nD τ).loc main_v0) = res m c := by
  refine (θ_run defs _ _).mono (fun r h c => ?_) (run_main m g)
  have hb := (h c).2 main_v0 (Pipeline.mem_restRefs_of main_v0 (by decide) (by decide))
  refine hb.trans ?_
  unfold Pipeline.afterTail₀ res
  rw [List.flatten_cons, List.flatten_nil, List.append_nil]
  exact tail_eq _ _ (Pipeline.withArrays_arr (cfgs 0).spec (by decide) c (V0 m c) (fun w => (dats m 0 c).arrAt w (cfgs 0).N) 1)

theorem fptosi_nat (n : ℕ) (hn : n < 1048576) : Ideal.fptosi 32 ((n : ℝ) : EReal) = BitVec.ofNat 32 n := by
  unfold Ideal.fptosi
  have h : Ideal.toIntClamped (-((2 ^ (32 - 1) : ℕ) : Int)) (((2 ^ (32 - 1) : ℕ) : Int) - 1) ((n : ℝ) : EReal) = (n : Int) := by
    show max _ (min _ (if (0 : ℝ) ≤ (n : ℝ) then ⌊(n : ℝ)⌋ else ⌈(n : ℝ)⌉)) = _
    rw [if_pos (Nat.cast_nonneg n), Int.floor_natCast]
    norm_num
    omega
  rw [h]
  rfl

/-- The result of row `r` is the first of the largest candidates of its point. -/
theorem res_at (r : Fin 32) (a : S1x1024x1024.Idx → ℝ) (ha : k0_pay41 (iblk m c 0 (pt r)) = fun i => (a i : EReal)) :
    ∃ n, FirstMax (cand ((bisAt a 26).1 : EReal) (BitVec.ofNat 32 r.val * 1000000#32) (k0_pay39 (iblk m c 0 (pt r))) (fun i => (a i : EReal))) 1048576 n
      ∧ res m c (ix2 (n0 := 32) (n1 := 1) r 0) = BitVec.ofNat 32 n := by
  obtain ⟨n, hn, ho⟩ := out_eq c (grid0.coords (pt r)) (ms0_0 (pt r)) (hs0_0 (pt r)) (ms0_1 (pt r)) (hs0_1 (pt r)) scM0_0 (Memref.isWhole_whole _) scM0_1
    (Memref.isWhole_whole _) (iblk m c 0 (pt r)) a ha
  rw [coord0] at hn
  refine ⟨n, hn, ?_⟩
  have hx : ((dats m 0 c).arrAt 1 cfg0.N : FVec Ideal S32x1x128 .f32) (ix3 (n0 := 32) (n1 := 1) (n2 := 128) r 0 0) = ((n : ℝ) : EReal) := by
    rw [arr_out]
    exact congrFun ho _
  rw [← fptosi_nat n hn.1]
  have h : ∀ X : FVec Ideal S32x1x128 .f32, fptosi 32 (shapeCast S32x1 (extractStridedSlice S32x1x1 ![0, 0, 0] X slices_S32x1x128_S32x1x1_0_0_0)
      shapeCasts_S32x1x1_S32x1 : FVec Ideal S32x1 .f32) (ix2 (n0 := 32) (n1 := 1) r 0) = Ideal.fptosi 32 (X (ix3 (n0 := 32) (n1 := 1) (n2 := 128) r 0 0)) := fun X => by
    unfold fptosi shapeCast
    have e : Shape.reshapeEquiv shapeCasts_S32x1x1_S32x1 (ix2 (n0 := 32) (n1 := 1) r 0) = ix3 (n0 := 32) (n1 := 1) (n2 := 1) r 0 0 := by
      refine Shape.reshapeEquiv_eq_of_rowMajor _ ?_
      rw [Shape.rowMajor_val_two, Shape.rowMajor_val_three]
      show (r.val * 1 + 0) * 1 + 0 = r.val * 1 + 0
      omega
    rw [e]
    unfold extractStridedSlice
    refine congrArg (fun z => Ideal.fptosi 32 (X z)) (funext fun b => Fin.ext ?_)
    match b with
    | ⟨0, _⟩ => exact Nat.zero_add _
    | ⟨1, _⟩ => rfl
    | ⟨2, _⟩ => rfl
  unfold res
  rw [h, hx]

end Cert.KernelIdeal.Hand
-- ==== Proof.RSum.lean ====
/-
The reference's running sum along a row.
-/
module

public import proofs.«01_k».proof.Proof.Row
public import Idealize.ShloMosaic.Lib.Routing.OpsPair

@[expose] public section

noncomputable section

namespace Cert.Hand

open Idealize.ShloMosaic Cert.Pre_cutoff_resolved Cert.Pre_cutoff_resolved.Facts

theorem foldl_plus {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

theorem foldl_plus_fin (N : ℕ) (f : Fin N → EReal) (v : EReal) : (List.finRange N).foldl (fun r n => r + f n) v = v + ∑ n, f n := by
  rw [foldl_plus, Fin.sum_univ_def]

/-- A window of full length that ends at place `j` covers the entries up to `j`. -/
theorem sum_window_upto (N j : ℕ) (hj : j < N) (f : ℕ → EReal) :
    ∑ n ∈ Finset.range N, (if N - 1 ≤ j + n then f (j + n - (N - 1)) else 0) = ∑ k ∈ Finset.range (j + 1), f k := by
  rw [← Finset.sum_filter]
  refine Finset.sum_nbij' (fun n => j + n - (N - 1)) (fun k => k + (N - 1) - j) ?_ ?_ ?_ ?_ ?_
  · intro n hn; simp only [Finset.mem_filter, Finset.mem_range] at hn ⊢; omega
  · intro k hk; simp only [Finset.mem_filter, Finset.mem_range] at hk ⊢; omega
  · intro n hn; simp only [Finset.mem_filter, Finset.mem_range] at hn; omega
  · intro k hk; simp only [Finset.mem_range] at hk; omega
  · intro n hn; rfl

/-- The running sum along a row, entry by entry. -/
theorem window_row {R M N : ℕ} (hN : M + 1 = N) (x : (⟨2, ![R, N]⟩ : Shape).Idx → EReal)
    (h : (⟨2, ![R, N]⟩ : Shape).ReduceWindows (![1, N] : Fin 2 → Nat) ![1, 1] ![0, M] ![0, 0] ⟨2, ![R, N]⟩) (r : Fin R) (f : ℕ → EReal)
    (hx : ∀ k : Fin N, x (ix2 r k) = f k.val) (k : Fin N) :
    Ideal.hostReduceWindowAdd (![1, N] : Fin 2 → Nat) ![1, 1] ![0, M] ![0, 0] h x 0 (ix2 r k) = ∑ i ∈ Finset.range (k.val + 1), f i := by
  subst hN
  have hW : (⟨2, ![1, M + 1]⟩ : Shape).numel = M + 1 := by simp [Shape.numel, Fin.prod_univ_two]
  have hk := k.isLt
  have hr := r.isLt
  unfold Ideal.hostReduceWindowAdd Host.reduceWindow
  refine (foldl_plus_fin _ _ 0).trans ?_
  have hs := sum_window_upto (M + 1) k.val hk f
  rw [Nat.add_sub_cancel, ← Fin.sum_univ_eq_sum_range] at hs
  rw [zero_add, ← hs]
  refine Fintype.sum_equiv (finCongr hW) _ _ fun n => ?_
  have hn : n.val < M + 1 := lt_of_lt_of_eq n.isLt hW
  have hfc : (finCongr hW n).val = n.val := rfl
  have e := Routing.symm22 (A := 1) (B := M + 1) n (by rw [Nat.div_eq_of_lt hn]; exact Nat.one_pos) (Nat.mod_lt _ (Nat.succ_pos M))
  have w0 : ((⟨2, ![1, M + 1]⟩ : Shape).rowMajor.symm n 0).val = 0 := by
    rw [e]
    exact Nat.div_eq_of_lt hn
  have w1 : ((⟨2, ![1, M + 1]⟩ : Shape).rowMajor.symm n 1).val = n.val := by
    rw [e]
    exact Nat.mod_eq_of_lt hn
  rw [hfc]
  split
  · next hin =>
    have h1 := hin 1
    change M ≤ k.val * 1 + ((⟨2, ![1, M + 1]⟩ : Shape).rowMajor.symm n 1).val ∧ k.val * 1 + ((⟨2, ![1, M + 1]⟩ : Shape).rowMajor.symm n 1).val - M < M + 1 at h1
    rw [w1] at h1
    rw [if_pos (by omega)]
    refine (congrArg x (funext fun b => Fin.ext ?_)).trans (hx ⟨k.val + n.val - M, by omega⟩)
    match b with
    | ⟨0, _⟩ =>
      show r.val * 1 + ((⟨2, ![1, M + 1]⟩ : Shape).rowMajor.symm n 0).val - 0 = r.val
      rw [w0]; omega
    | ⟨1, _⟩ =>
      show k.val * 1 + ((⟨2, ![1, M + 1]⟩ : Shape).rowMajor.symm n 1).val - M = k.val + n.val - M
      rw [w1]; omega
  · next hin =>
    rw [if_neg fun hle => hin fun b => by
      match b with
      | ⟨0, _⟩ =>
        show 0 ≤ r.val * 1 + ((⟨2, ![1, M + 1]⟩ : Shape).rowMajor.symm n 0).val ∧ r.val * 1 + ((⟨2, ![1, M + 1]⟩ : Shape).rowMajor.symm n 0).val - 0 < R
        rw [w0]; omega
      | ⟨1, _⟩ =>
        show M ≤ k.val * 1 + ((⟨2, ![1, M + 1]⟩ : Shape).rowMajor.symm n 1).val ∧ k.val * 1 + ((⟨2, ![1, M + 1]⟩ : Shape).rowMajor.symm n 1).val - M < M + 1
        rw [w1]; omega]

/-- The running sum at column `k` of row `r`. -/
theorem cumsum_at (x : Tab) (r : Fin 32) (k : Fin 1000000) :
    fn_cumsum (F := Ideal) x (ix2 (n0 := 32) (n1 := 1000000) r k) = ∑ i ∈ Finset.range (k.val + 1), row x r i := by
  have hx : ∀ k : Fin 1000000, x (ix2 (n0 := 32) (n1 := 1000000) r k) = row x r k.val := fun k => (row_fin x r k).symm
  have h1 : (broadcastInDim S_ ![] bcast_S_S_ (constant (F := Ideal) S_ .f32 0x00000000#32)) (Shape.Idx.first h_S_) = (0 : EReal) := Ideal.ofBits_zero_f32
  generalize row x r = f at hx ⊢
  have key : ∀ v : EReal, v = 0 → Ideal.hostReduceWindowAdd ![1, 1000000] ![1, 1] ![0, 999999] ![0, 0] reduceWindows_S32x1000000_S32x1000000_w1s1p0_0_w1000000s1p999999_0 x
      v (ix2 (n0 := 32) (n1 := 1000000) r k) = ∑ i ∈ Finset.range (k.val + 1), f i := fun v hv => by
    subst hv
    exact window_row (R := 32) (M := 999999) (N := 1000000) (Nat.succ_eq_add_one 999999) x _ r f hx k
  unfold fn_cumsum fn_cumsum_0
  dsimp only
  unfold Host.reduceWindowAdd
  have h2 := key _ h1
  generalize (broadcastInDim S_ ![] bcast_S_S_ (constant (F := Ideal) S_ .f32 0x00000000#32)) (Shape.Idx.first h_S_) = v at h2 ⊢
  refine Eq.trans ?_ h2
  with_reducible_and_instances rfl

end Cert.Hand
-- ==== Proof.RTake.lean ====
/-
The reference's gather of a row along an order of its columns.
-/
module

public import proofs.«01_k».proof.Proof.Row
public import Idealize.ShloMosaic.Lib.Routing.OpsPair
public import Idealize.ShloMosaic.Lib.WordCmp

@[expose] public section

noncomputable section

namespace Cert.Hand

open Idealize.ShloMosaic Cert.Pre_cutoff_resolved Cert.Pre_cutoff_resolved.Facts

theorem reduceAnd_one {R N : ℕ} (x : (⟨3, ![R, N, 1]⟩ : Shape).Idx → BitVec 1) (h : (⟨3, ![R, N, 1]⟩ : Shape).ReducesTo [2] ⟨2, ![R, N]⟩)
    (init : (⟨0, ![]⟩ : Shape).Idx → BitVec 1) (hu : 0 < (⟨0, ![]⟩ : Shape).numel) (hi : init (Shape.Idx.first hu) = 1#1) (j : (⟨2, ![R, N]⟩ : Shape).Idx)
    (hx : ∀ i, h.drop i = j → x i = 1#1) : Host.reduce IntOp.andi x init h hu j = 1#1 := by
  unfold Host.reduce
  rw [hi]
  suffices ∀ l : List (Fin (⟨3, ![R, N, 1]⟩ : Shape).numel), (∀ n ∈ l, x ((⟨3, ![R, N, 1]⟩ : Shape).rowMajor.symm n) = 1#1) →
      l.foldl (fun a n => IntOp.andi a (x ((⟨3, ![R, N, 1]⟩ : Shape).rowMajor.symm n))) 1#1 = 1#1 from
    this _ fun n hn => hx _ (of_decide_eq_true (List.mem_filter.1 hn).2)
  intro l
  induction l with
  | nil => intro _; rfl
  | cons a l ih =>
    intro hl
    rw [List.foldl_cons, hl a List.mem_cons_self]
    exact ih fun n hn => hl n (List.mem_cons_of_mem _ hn)

/-- A gather of one entry per place along the rows: the entry at the column the index word names. -/
theorem gather_row {R N : ℕ} (d : GatherDims ⟨2, ![R, N]⟩ ⟨3, ![R, N, 1]⟩ ⟨2, ![R, N]⟩) (hcoll : d.collapsedSliceDims = [1])
    (hob : d.operandBatchingDims = [0]) (hsb : d.startIndicesBatchingDims = [0]) (hsim : d.startIndexMap = [1]) (hivd : d.indexVectorDim = 2)
    (x : (⟨2, ![R, N]⟩ : Shape).Idx → EReal) (idx : IVec ⟨3, ![R, N, 1]⟩ 32) (r : Fin R) (k c : Fin N) (hN : N < 2 ^ 31)
    (hb : idx (ix3 r k 0) = BitVec.ofNat 32 c.val) : Host.gather d x idx (ix2 r k) = x (ix2 r c) := by
  unfold Host.gather
  refine congrArg x (funext fun a => Fin.ext ?_)
  obtain ⟨od, csd, obd, sbd, sim, ivd, ss, wf⟩ := d
  dsimp only at hcoll hob hsb hsim hivd
  subst hcoll hob hsb hsim hivd
  have hod : od = [] := by
    have h := (GatherDims.offset_length ⟨od, _, _, _, _, _, ss, wf⟩)
    exact List.eq_nil_of_length_eq_zero (h.trans rfl)
  subst hod
  have hsl := GatherDims.slice_collapsed ⟨[], [1], [0], [0], [1], 2, ss, wf⟩ 1 (List.mem_singleton.2 rfl)
  match a with
  | ⟨0, _⟩ =>
    show (0 + r.val + 0 : ℕ) = r.val
    omega
  | ⟨1, _⟩ =>
    show (min (idx _).toInt.toNat (N - ss 1) + 0 + 0 : ℕ) = c.val
    refine Eq.trans (b := min (idx (ix3 r k 0)).toInt.toNat (N - ss 1)) ?_ ?_
    · refine congrArg (fun z => min (idx z).toInt.toNat (N - ss 1)) (funext fun b => ?_)
      match b with
      | ⟨0, _⟩ => exact Fin.ext rfl
      | ⟨1, _⟩ => exact Fin.ext rfl
      | ⟨2, _⟩ => exact Fin.ext rfl
    · have hs : ss 1 = 1 := hsl
      have hc := c.isLt
      rw [hb, hs, StableHlo.Predicate.toInt_ofNat_small _ (by omega)]
      omega

/-- The row taken along an order of its columns. -/
theorem take_at (p : Tab) (o : IVec S32x1000000 32) (r : Fin 32) (σ : Fin 1000000 → Fin 1000000)
    (ho : ∀ k, o (ix2 (n0 := 32) (n1 := 1000000) r k) = BitVec.ofNat 32 (σ k).val) (k : Fin 1000000) :
    fn_take_along_axis (F := Ideal) p o (ix2 (n0 := 32) (n1 := 1000000) r k) = p (ix2 (n0 := 32) (n1 := 1000000) r (σ k)) := by
  have hσ := (σ k).isLt
  have hv : ∀ i : S32x1000000x1.Idx, i 0 = r → i 1 = k →
      shapeCast S32x1000000x1 (select (cmpi .slt o (broadcastInDim S32x1000000 ![] bcast_S_S32x1000000 (constantI S_ 32 0#32)))
        (addi o (broadcastInDim S32x1000000 ![] bcast_S_S32x1000000 (constantI S_ 32 1000000#32))) o) shapeCasts_S32x1000000_S32x1000000x1 i = BitVec.ofNat 32 (σ k).val := by
    intro i h0 h1
    have e : Shape.reshapeEquiv shapeCasts_S32x1000000_S32x1000000x1 i = ix2 (n0 := 32) (n1 := 1000000) r k := by
      refine Shape.reshapeEquiv_eq_of_rowMajor _ ?_
      have h2 : (i 2).val < 1 := (i 2).isLt
      rw [Shape.rowMajor_val_two, Shape.rowMajor_val_three]
      show r.val * 1000000 + k.val = ((i 0).val * 1000000 + (i 1).val) * 1 + (i 2).val
      rw [h0, h1]
      omega
    unfold shapeCast
    rw [e]
    show Scalar.select (IntOp.cmpi .slt (o (ix2 (n0 := 32) (n1 := 1000000) r k)) 0#32) (IntOp.addi (o (ix2 (n0 := 32) (n1 := 1000000) r k)) 1000000#32) (o (ix2 (n0 := 32) (n1 := 1000000) r k)) = _
    rw [ho k]
    exact Routing.wrap_of_lt _ _ (by rw [BitVec.toNat_ofNat]; omega)
  unfold fn_take_along_axis
  dsimp only
  generalize shapeCast S32x1000000x1 (select (cmpi .slt o (broadcastInDim S32x1000000 ![] bcast_S_S32x1000000 (constantI S_ 32 0#32)))
        (addi o (broadcastInDim S32x1000000 ![] bcast_S_S32x1000000 (constantI S_ 32 1000000#32))) o) shapeCasts_S32x1000000_S32x1000000x1 = w at hv ⊢
  show Scalar.select (Host.reduce IntOp.andi _ _ reducesTo_S32x1000000x1_S32x1000000_d2 h_S_ (ix2 (n0 := 32) (n1 := 1000000) r k))
    (Host.gather gather_S32x1000000_S32x1000000x1_S32x1000000_n_1_0_0_1_2_11 p w (ix2 (n0 := 32) (n1 := 1000000) r k)) _ = _
  rw [reduceAnd_one _ reducesTo_S32x1000000x1_S32x1000000_d2 _ h_S_ rfl _ fun i hi => ?_,
    gather_row gather_S32x1000000_S32x1000000x1_S32x1000000_n_1_0_0_1_2_11 rfl rfl rfl rfl rfl p w r k (σ k) (by norm_num) (hv _ rfl rfl)]
  · simp [Scalar.select]
  · have h0 : i 0 = r := Fin.ext ((Shape.ReducesTo.drop_apply_val reducesTo_S32x1000000x1_S32x1000000_d2 i 0).symm.trans (congrArg Fin.val (congrFun hi 0)))
    have h1 : i 1 = k := Fin.ext ((Shape.ReducesTo.drop_apply_val reducesTo_S32x1000000x1_S32x1000000_d2 i 1).symm.trans (congrArg Fin.val (congrFun hi 1)))
    show IntOp.andi (IntOp.cmpi .sge (w i) 0#32) (IntOp.cmpi .sle (w i) 999999#32) = 1#1
    rw [hv i h0 h1, WordCmp.cmpi_sge_eq, WordCmp.cmpi_sle_eq, StableHlo.Predicate.toInt_ofNat_small _ (by omega)]
    have e1 : ((0 : ℕ) : Int) ≤ ((σ k).val : Int) := by omega
    have e2 : ((σ k).val : Int) ≤ (999999#32 : BitVec 32).toInt := by
      have : (999999#32 : BitVec 32).toInt = 999999 := by decide
      omega
    rw [StableHlo.Predicate.toInt_ofNat_small _ (by omega), decide_eq_true e1, decide_eq_true e2]
    rfl

end Cert.Hand
-- ==== Proof.RSort.lean ====
/-
The reference's sorted order of a row: a permutation of the columns along which the probabilities fall.
-/
module

public import proofs.«01_k».proof.Proof.Row
public import Idealize.ShloMosaic.Lib.SortFacts

@[expose] public section

noncomputable section

namespace Cert.Hand

open Idealize.ShloMosaic Cert.Pre_cutoff_resolved Cert.Pre_cutoff_resolved.Facts

/-- The order of the sort: strictly smaller. -/
theorem comparator_eq (a b : EReal × BitVec 32) : comparator_f32_i32_d1 (F := Ideal) a b = if a.1 < b.1 then 1#1 else 0#1 := by
  obtain ⟨a1, a2⟩ := a
  obtain ⟨b1, b2⟩ := b
  have hne : ∀ x : EReal, FloatOps.cmpf (F := Ideal) (φ := .f32) .une x x = 0#1 := fun x => by
    show Ideal.cmp .une x x = _
    simp [Ideal.cmp]
  have hz : ∀ x : EReal, Scalar.select (FloatOps.cmpf (F := Ideal) (φ := .f32) .oeq x (FloatOps.ofBits (F := Ideal) .f32 0x00000000#32)) (FloatOps.ofBits (F := Ideal) .f32 0x00000000#32) x = x := fun x => by
    rw [oeq_eq, select_ite]
    split_ifs with h
    · exact h.symm
    · rfl
  unfold comparator_f32_i32_d1
  dsimp only
  rw [hne, hne, hz, hz]
  show Ideal.cmp .olt (Scalar.select 0#1 _ a1) (Scalar.select 0#1 _ b1) = _
  have hs : ∀ (x y : EReal), Scalar.select 0#1 x y = y := fun x y => by simp [Scalar.select]
  rw [hs, hs]
  unfold Ideal.cmp
  by_cases h : a1 < b1 <;> simp [h]

/-- The columns of row `r` in sorted order. -/
theorem ord_at (p : Tab) (r : Fin 32) : ∃ σ : Fin 1000000 → Fin 1000000, Function.Bijective σ
    ∧ (∀ k, ord p (ix2 (n0 := 32) (n1 := 1000000) r k) = BitVec.ofNat 32 (σ k).val)
    ∧ ∀ i j, i < j → p (ix2 (n0 := 32) (n1 := 1000000) r (σ j)) ≤ p (ix2 (n0 := 32) (n1 := 1000000) r (σ i)) := by
  let B : Fin 1000000 → Fin 1000000 → Bool := fun k k' => comparator_f32_i32_d1 (F := Ideal)
    (Host.negf p (ix2 (n0 := 32) (n1 := 1000000) r k), BitVec.ofNat 32 k.val) (Host.negf p (ix2 (n0 := 32) (n1 := 1000000) r k'), BitVec.ofNat 32 k'.val) == 1#1
  have hB : ∀ k k', B k k' = decide (p (ix2 (n0 := 32) (n1 := 1000000) r k') < p (ix2 (n0 := 32) (n1 := 1000000) r k)) := fun k k' => by
    have h1 : (Host.negf p (ix2 (n0 := 32) (n1 := 1000000) r k) < Host.negf p (ix2 (n0 := 32) (n1 := 1000000) r k')) ↔ p (ix2 (n0 := 32) (n1 := 1000000) r k') < p (ix2 (n0 := 32) (n1 := 1000000) r k) :=
      EReal.neg_lt_neg_iff
    show (comparator_f32_i32_d1 (F := Ideal) _ _ == 1#1) = _
    rw [comparator_eq]
    by_cases h : p (ix2 (n0 := 32) (n1 := 1000000) r k') < p (ix2 (n0 := 32) (n1 := 1000000) r k)
    · rw [if_pos (h1.2 h), decide_eq_true h]; rfl
    · rw [if_neg fun h' => h (h1.1 h'), decide_eq_false h]; rfl
  refine ⟨sortedFrom B, ⟨sortedFrom_injective B, sortedFrom_surjective B⟩, fun k => ?_, fun i j hij => ?_⟩
  · have hal : ∀ k' : Fin 1000000, Shape.Idx.along (s := S32x1000000) (ix2 (n0 := 32) (n1 := 1000000) r k) (1 : Fin 2) k' = ix2 (n0 := 32) (n1 := 1000000) r k' := fun k' => by
      funext b
      match b with
      | ⟨0, _⟩ => rfl
      | ⟨1, _⟩ => rfl
    unfold ord fn_argsort
    dsimp only
    rw [Host.sort2_eq_sortBy]
    unfold Host.sortBy
    dsimp only
    rw [dif_pos (show 1 < S32x1000000.rank by decide)]
    refine (congrArg (iotaInDim S32x1000000 32 1) (hal _)).trans ?_
    refine congrArg (fun x : Fin 1000000 => BitVec.ofNat 32 x.val) (congrArg (fun R => sortedFrom R k) (funext fun k1 => funext fun k2 => ?_))
    exact congrArg (· == 1#1) (congrArg₂ (comparator_f32_i32_d1 (F := Ideal))
      (congrArg (fun z => (Host.negf p z, iotaInDim S32x1000000 32 1 z)) (hal k1)) (congrArg (fun z => (Host.negf p z, iotaInDim S32x1000000 32 1 z)) (hal k2)))
  · have h := sortedFrom_noInversion B B (fun a b h => by rw [hB] at h ⊢; exact decide_eq_false (not_lt.2 (of_decide_eq_true h).le)) (fun _ _ h => h)
      (fun a b c h h' => by rw [hB] at h h' ⊢; exact decide_eq_false (not_lt.2 ((not_lt.1 (of_decide_eq_false h)).trans (not_lt.1 (of_decide_eq_false h')))) ) i j hij
    rw [hB] at h
    exact not_lt.1 (of_decide_eq_false h)

end Cert.Hand
-- ==== Proof.RMask.lean ====
/-
Which entries the reference removes from a row: those at a sorted position past the first whose predecessors already cover
the wanted probability.
-/
module

public import proofs.«01_k».proof.Proof.RSum
public import proofs.«01_k».proof.Proof.RTake
public import proofs.«01_k».proof.Proof.RSort
public import Idealize.ShloMosaic.Lib.Pipeline.Value
public import Idealize.ShloMosaic.Lib.Routing.OpsSet

@[expose] public section

noncomputable section

namespace Cert.Hand

open Idealize.ShloMosaic Cert.Pre_cutoff_resolved Cert.Pre_cutoff_resolved.Facts

/-! ## The clipped parameters -/

theorem temp_at (j : S_.Idx) : temp j = (tempR : EReal) := by
  have h1 : Ideal.ofBits .f32 0x3F333333#32 = ((11744051 / 16777216 : ℝ) : EReal) := by
    simp [Ideal.ofBits, Ideal.ieee, -EReal.coe_mul]; norm_num
  have h2 : Ideal.ofBits .f32 0x3FC00000#32 = ((3 / 2 : ℝ) : EReal) := by
    simp [Ideal.ofBits, Ideal.ieee, -EReal.coe_mul]; norm_num
  show min (Ideal.ofBits .f32 0x3FC00000#32) (max (Ideal.ofBits .f32 0x3F333333#32) (Ideal.ofBits .f32 0x3F8CCCCD#32)) = _
  rw [h1, h2, bits_temp, max_eq_right (EReal.coe_le_coe_iff.2 (by norm_num [tempR])),
    min_eq_right (EReal.coe_le_coe_iff.2 (by norm_num [tempR]))]

theorem topp_at (j : S_.Idx) : topp j = (toppR : EReal) := by
  have h1 : Ideal.ofBits .f32 0x3F59999A#32 = ((7130317 / 8388608 : ℝ) : EReal) := by
    simp [Ideal.ofBits, Ideal.ieee, -EReal.coe_mul]; norm_num
  have h2 : Ideal.ofBits .f32 0x3F7AE148#32 = ((2055209 / 2097152 : ℝ) : EReal) := by
    simp [Ideal.ofBits, Ideal.ieee, -EReal.coe_mul]; norm_num
  show min (Ideal.ofBits .f32 0x3F7AE148#32) (max (Ideal.ofBits .f32 0x3F59999A#32) (Ideal.ofBits .f32 0x3F6A3D71#32)) = _
  rw [h1, h2, bits_topp, max_eq_right (EReal.coe_le_coe_iff.2 (by norm_num [toppR])),
    min_eq_right (EReal.coe_le_coe_iff.2 (by norm_num [toppR]))]

/-! ## Pairs of arrays side by side, at any size -/

theorem shift_zero {R N M : ℕ} (h : Shape.Concatenates [⟨2, ![R, 1]⟩, ⟨2, ![R, M]⟩] (⟨2, ![R, N]⟩ : Shape) 1)
    (x : (⟨2, ![R, 1]⟩ : Shape).Idx → BitVec 1) (y : (⟨2, ![R, M]⟩ : Shape).Idx → BitVec 1) (r : Fin R) (k : Fin N) (hk : k.val = 0) :
    concatenate (⟨2, ![R, N]⟩ : Shape) 1 [⟨⟨2, ![R, 1]⟩, x⟩, ⟨⟨2, ![R, M]⟩, y⟩] h (ix2 r k) = x (ix2 r 0) := by
  refine concatenate_pair_apply_left 1 x y h _ rfl _ fun b => ?_
  match b with
  | ⟨0, _⟩ => rfl
  | ⟨1, _⟩ => exact hk.symm

theorem shift_succ {R N M : ℕ} (h : Shape.Concatenates [⟨2, ![R, 1]⟩, ⟨2, ![R, M]⟩] (⟨2, ![R, N]⟩ : Shape) 1)
    (hs : (⟨2, ![R, N]⟩ : Shape).Slices ![0, 0] ⟨2, ![R, M]⟩)
    (x : (⟨2, ![R, 1]⟩ : Shape).Idx → BitVec 1) (y : (⟨2, ![R, N]⟩ : Shape).Idx → BitVec 1) (r : Fin R) (k k' : Fin N) (hN : M + 1 = N)
    (hk : k'.val + 1 = k.val) :
    concatenate (⟨2, ![R, N]⟩ : Shape) 1 [⟨⟨2, ![R, 1]⟩, x⟩, ⟨⟨2, ![R, M]⟩, extractStridedSlice ⟨2, ![R, M]⟩ ![0, 0] y hs⟩] h (ix2 r k)
      = y (ix2 r k') := by
  have hlt : k'.val < M := by have := k.isLt; omega
  refine (concatenate_pair_apply_right 1 x (extractStridedSlice ⟨2, ![R, M]⟩ ![0, 0] y hs) h (ix2 r k) rfl rfl (ix2 r ⟨k'.val, hlt⟩)
    (fun b hb => ?_) hk).trans ?_
  · match b with
    | ⟨0, _⟩ => rfl
    | ⟨1, _⟩ => exact absurd rfl hb
  unfold extractStridedSlice
  refine congrArg y (funext fun b => Fin.ext ?_)
  match b with
  | ⟨0, _⟩ => exact Nat.zero_add _
  | ⟨1, _⟩ => exact Nat.zero_add _

theorem pair_fst {R N : ℕ} (h : Shape.Concatenates [⟨3, ![R, N, 1]⟩, ⟨3, ![R, N, 1]⟩] (⟨3, ![R, N, 2]⟩ : Shape) 2)
    (x y : (⟨3, ![R, N, 1]⟩ : Shape).Idx → BitVec 32) (r : Fin R) (k : Fin N) :
    concatenate (⟨3, ![R, N, 2]⟩ : Shape) 2 [⟨⟨3, ![R, N, 1]⟩, x⟩, ⟨⟨3, ![R, N, 1]⟩, y⟩] h (ix3 r k 0) = x (ix3 r k 0) := by
  refine concatenate_pair_apply_left 2 x y h _ rfl _ fun b => ?_
  match b with
  | ⟨0, _⟩ => rfl
  | ⟨1, _⟩ => rfl
  | ⟨2, _⟩ => rfl

theorem pair_snd {R N : ℕ} (h : Shape.Concatenates [⟨3, ![R, N, 1]⟩, ⟨3, ![R, N, 1]⟩] (⟨3, ![R, N, 2]⟩ : Shape) 2)
    (x y : (⟨3, ![R, N, 1]⟩ : Shape).Idx → BitVec 32) (r : Fin R) (k : Fin N) :
    concatenate (⟨3, ![R, N, 2]⟩ : Shape) 2 [⟨⟨3, ![R, N, 1]⟩, x⟩, ⟨⟨3, ![R, N, 1]⟩, y⟩] h (ix3 r k 1) = y (ix3 r k 0) := by
  refine concatenate_pair_apply_right 2 x y h _ rfl rfl _ (fun b hb => ?_) rfl
  match b with
  | ⟨0, _⟩ => rfl
  | ⟨1, _⟩ => rfl
  | ⟨2, _⟩ => exact absurd rfl hb

/-- A scatter along an order of each row puts the update of a sorted position at the column it stands for. -/
theorem scatter_along {R N : ℕ} (d : ScatterDims ⟨2, ![R, N]⟩ ⟨3, ![R, N, 2]⟩ ⟨2, ![R, N]⟩) (hiw : d.insertedWindowDims = [0, 1])
    (hsd : d.scatterDimsToOperandDims = [0, 1]) (hivd : d.indexVectorDim = 2) (x : (⟨2, ![R, N]⟩ : Shape).Idx → BitVec 1)
    (idx : IVec ⟨3, ![R, N, 2]⟩ 32) (upd : (⟨2, ![R, N]⟩ : Shape).Idx → BitVec 1) (τ : Fin R → Fin N → Fin N)
    (hτ : ∀ r, Function.Injective (τ r)) (h0 : ∀ r k, (idx (ix3 r k 0)).toInt = r.val) (h1 : ∀ r k, (idx (ix3 r k 1)).toInt = (τ r k).val)
    (r : Fin R) (k : Fin N) : Host.scatter d (fun _ b => b) x idx upd (ix2 r (τ r k)) = upd (ix2 r k) := by
  refine Routing.scatter_set_hit d x idx upd _ _ (fun q hq => ?_) (ix2 r k) ((Routing.scatter_lands2 d hiw hsd hivd idx r k r (τ r k)).2 ⟨h0 r k, h1 r k⟩)
  have e : q = ix2 (q 0) (q 1) := funext fun b => by
    match b with
    | ⟨0, _⟩ => rfl
    | ⟨1, _⟩ => rfl
  rw [e] at hq
  obtain ⟨ha, hb⟩ := (Routing.scatter_lands2 d hiw hsd hivd idx (q 0) (q 1) r (τ r k)).1 hq
  have ha' : q 0 = r := Fin.ext (by have := (h0 (q 0) (q 1)).symm.trans ha; exact_mod_cast this)
  have hb' : q 1 = k := by
    have h := (h1 (q 0) (q 1)).symm.trans hb
    refine hτ r (Fin.ext ?_)
    rw [ha'] at h
    exact_mod_cast h
  rw [e, ha', hb']
  rfl

/-! ## The removed entries -/

variable (p : Tab)

theorem sum_range_fin (N : ℕ) (f : ℕ → EReal) (k : Fin N) : ∑ i ∈ Finset.range k.val, f i = ∑ j ∈ Finset.univ.filter (· < k), f j.val := by
  have h : Finset.univ.filter (· < k) = Finset.Iio k := by ext; simp
  rw [h, ← Nat.Iio_eq_range, ← Fin.map_valEmbedding_Iio, Finset.sum_map]
  rfl

theorem over_at (r : Fin 32) (k : Fin 1000000) : over p (ix2 (n0 := 32) (n1 := 1000000) r k)
    = if (toppR : EReal) < fn_cumsum (F := Ideal) (fn_take_along_axis (F := Ideal) p (ord p)) (ix2 (n0 := 32) (n1 := 1000000) r k) then 1#1 else 0#1 := by
  have h : ∀ y : Tab, cmpf .ogt y (broadcastInDim S32x1000000 ![] bcast_S_S32x1000000 (id topp)) (ix2 (n0 := 32) (n1 := 1000000) r k)
      = if (toppR : EReal) < y (ix2 (n0 := 32) (n1 := 1000000) r k) then 1#1 else 0#1 := fun y => by
    have e : broadcastInDim S32x1000000 ![] bcast_S_S32x1000000 (id topp) (ix2 (n0 := 32) (n1 := 1000000) r k) = (toppR : EReal) := by
      unfold broadcastInDim
      exact topp_at _
    unfold cmpf
    rw [e]
    exact ogt_eq _ _
  exact h _

theorem rowsW_at (r : Fin 32) : rowsW (ix2 (n0 := 32) (n1 := 1) r 0) = BitVec.ofNat 32 r.val := by
  have h : rows (ix2 (n0 := 32) (n1 := 1) r 0) = BitVec.ofNat 32 r.val := rfl
  show Scalar.select (IntOp.cmpi .slt (rows (ix2 (n0 := 32) (n1 := 1) r 0)) 0#32) (IntOp.addi (rows (ix2 (n0 := 32) (n1 := 1) r 0)) 32#32) (rows (ix2 (n0 := 32) (n1 := 1) r 0)) = _
  rw [h]
  have := r.isLt
  exact Routing.wrap_of_lt _ _ (by rw [BitVec.toNat_ofNat]; omega)

theorem ordW_at (o : IVec S32x1000000 32) (r : Fin 32) (k c : Fin 1000000) (h : o (ix2 (n0 := 32) (n1 := 1000000) r k) = BitVec.ofNat 32 c.val) :
    ordW o (ix2 (n0 := 32) (n1 := 1000000) r k) = BitVec.ofNat 32 c.val := by
  show Scalar.select (IntOp.cmpi .slt (o (ix2 (n0 := 32) (n1 := 1000000) r k)) 0#32) (IntOp.addi (o (ix2 (n0 := 32) (n1 := 1000000) r k)) 1000000#32) (o (ix2 (n0 := 32) (n1 := 1000000) r k)) = _
  rw [h]
  have := c.isLt
  exact Routing.wrap_of_lt _ _ (by rw [BitVec.toNat_ofNat]; omega)

theorem one_or {R : ℕ} (r : Fin R) : (if h : R = 1 then (⟨0, by omega⟩ : Fin R) else ⟨r.val, r.isLt⟩).val = r.val := by
  have := r.isLt
  split_ifs with h
  · show 0 = r.val
    omega
  · rfl

theorem bcast_last {R N : ℕ} (x : (⟨2, ![R, N]⟩ : Shape).Idx → BitVec 32) (h : (⟨2, ![R, N]⟩ : Shape).BroadcastsInDim ⟨3, ![R, N, 1]⟩ ![0, 1])
    (r : Fin R) (k : Fin N) : broadcastInDim ⟨3, ![R, N, 1]⟩ ![0, 1] h x (ix3 r k 0) = x (ix2 r k) := by
  unfold broadcastInDim
  refine congrArg x (funext fun b => Fin.ext ?_)
  match b with
  | ⟨0, _⟩ => exact one_or r
  | ⟨1, _⟩ => exact one_or k

theorem bcast_col {R N : ℕ} {α : Type} (x : (⟨2, ![R, 1]⟩ : Shape).Idx → α) (h : (⟨2, ![R, 1]⟩ : Shape).BroadcastsInDim ⟨2, ![R, N]⟩ ![0, 1])
    (r : Fin R) (k : Fin N) : broadcastInDim ⟨2, ![R, N]⟩ ![0, 1] h x (ix2 r k) = x (ix2 r 0) := by
  unfold broadcastInDim
  refine congrArg x (funext fun b => Fin.ext ?_)
  match b with
  | ⟨0, _⟩ => exact one_or r
  | ⟨1, _⟩ => rfl

theorem where2_fst (o : IVec S32x1000000 32) (r : Fin 32) (k : Fin 1000000) :
    where2 o (ix3 (n0 := 32) (n1 := 1000000) (n2 := 2) r k 0) = BitVec.ofNat 32 r.val :=
  (pair_fst concatenates_S32x1000000x1_S32x1000000x1_S32x1000000x2_d2 _ _ r k).trans
    ((bcast_last _ bcast_S32x1000000_S32x1000000x1_0_1 r k).trans ((bcast_col _ bcast_S32x1_S32x1000000_0_1 r k).trans (rowsW_at r)))

theorem where2_snd (o : IVec S32x1000000 32) (r : Fin 32) (k c : Fin 1000000) (h : o (ix2 (n0 := 32) (n1 := 1000000) r k) = BitVec.ofNat 32 c.val) :
    where2 o (ix3 (n0 := 32) (n1 := 1000000) (n2 := 2) r k 1) = BitVec.ofNat 32 c.val :=
  (pair_snd concatenates_S32x1000000x1_S32x1000000x1_S32x1000000x2_d2 _ _ r k).trans
    ((bcast_last _ bcast_S32x1000000_S32x1000000x1_0_1 r k).trans (ordW_at o r k c h))

/-- The removed entries of a row, along its falling order. -/
theorem mask_at (r : Fin 32) : ∃ σ : Fin 1000000 → Fin 1000000, Function.Bijective σ
    ∧ (∀ i j, i < j → p (ix2 (n0 := 32) (n1 := 1000000) r (σ j)) ≤ p (ix2 (n0 := 32) (n1 := 1000000) r (σ i)))
    ∧ ∀ k, mask p (ix2 (n0 := 32) (n1 := 1000000) r (σ k)) = 1#1
        ↔ 1 ≤ k.val ∧ (toppR : EReal) < ∑ j ∈ Finset.univ.filter (· < k), p (ix2 (n0 := 32) (n1 := 1000000) r (σ j)) := by
  choose τ hb ho hs using ord_at p
  refine ⟨τ r, hb r, hs r, fun k => ?_⟩
  have hm : mask p (ix2 (n0 := 32) (n1 := 1000000) r (τ r k)) = late p (ix2 (n0 := 32) (n1 := 1000000) r k) := by
    unfold mask
    refine scatter_along scatter_S32x1000000_S32x1000000x2_S32x1000000_n_01_01_2 rfl rfl rfl _ (where2 (ord p)) (late p) τ
      (fun r => (hb r).injective) (fun r k => ?_) (fun r k => ?_) r k
    · rw [where2_fst]
      exact StableHlo.Predicate.toInt_ofNat_small _ (by have := r.isLt; omega)
    · rw [where2_snd _ r k _ (ho r k)]
      exact word_le _ (τ r k).isLt
  rw [hm]
  by_cases hk : k.val = 0
  · have h : late p (ix2 (n0 := 32) (n1 := 1000000) r k) = 0#1 :=
      (shift_zero concatenates_S32x1_S32x999999_S32x1000000_d1 _ _ r k hk).trans rfl
    rw [h]
    exact ⟨fun h => absurd h (by decide), fun h => absurd h.1 (by omega)⟩
  · have hlt : k.val - 1 < 1000000 := by have := k.isLt; omega
    have h : late p (ix2 (n0 := 32) (n1 := 1000000) r k) = over p (ix2 (n0 := 32) (n1 := 1000000) r ⟨k.val - 1, hlt⟩) :=
      shift_succ concatenates_S32x1_S32x999999_S32x1000000_d1 slices_S32x1000000_S32x999999_0_0 _ (over p) r k ⟨k.val - 1, hlt⟩ rfl
        (show k.val - 1 + 1 = k.val by omega)
    have he : k.val - 1 + 1 = k.val := by omega
    rw [h, over_at, cumsum_at]
    dsimp only
    rw [he, sum_range_fin 1000000 _ k]
    have hsum : ∀ j : Fin 1000000, row (fn_take_along_axis (F := Ideal) p (ord p)) r j.val = p (ix2 (n0 := 32) (n1 := 1000000) r (τ r j)) := fun j =>
      (row_fin _ r j).trans (take_at p (ord p) r (τ r) (ho r) j)
    rw [Finset.sum_congr rfl fun j _ => hsum j]
    constructor
    · intro h'
      exact ⟨by omega, by by_contra hc; rw [if_neg hc] at h'; exact absurd h' (by decide)⟩
    · rintro ⟨_, h'⟩
      exact if_pos h'

end Cert.Hand
-- ==== Proof.PreAt.lean ====
/-
What the precondition says of a row: its largest entry is below plus infinity, and a removed entry just below the cut-off loses
the sampling to a kept one.
-/
module

public import proofs.«01_k».proof.Proof.RMask

@[expose] public section

noncomputable section

namespace Cert.Hand

open Idealize.ShloMosaic Cert.Pre_cutoff_resolved Cert.Pre_cutoff_resolved.Facts

/-! ## A row's largest and smallest entry -/

section
variable {R N : ℕ} (x : (⟨2, ![R, N]⟩ : Shape).Idx → EReal) (init : (⟨0, ![]⟩ : Shape).Idx → EReal)
  (h : (⟨2, ![R, N]⟩ : Shape).ReducesTo [1] ⟨1, ![R]⟩) (hu : 0 < (⟨0, ![]⟩ : Shape).numel) (r : Fin R)

theorem drop_row (k : Fin N) : h.drop (ix2 r k) = ix1 r := funext fun b => Fin.ext (by
  match b with
  | ⟨0, _⟩ => exact Shape.ReducesTo.drop_apply_val h (ix2 r k) 0)

theorem of_drop (i : (⟨2, ![R, N]⟩ : Shape).Idx) (hi : h.drop i = ix1 r) : i = ix2 r (i 1) := by
  have h0 : i 0 = r := Fin.ext ((Shape.ReducesTo.drop_apply_val h i 0).symm.trans (congrArg Fin.val (congrFun hi 0)))
  funext b
  match b with
  | ⟨0, _⟩ => exact h0
  | ⟨1, _⟩ => rfl

theorem max_ge (k : Fin N) : x (ix2 r k) ≤ Host.reduce (max : EReal → EReal → EReal) x init h hu (ix1 r) := by
  rw [Host.reduce_eq_fold, Finset.le_fold_max]
  exact .inr ⟨ix2 r k, Finset.mem_filter.2 ⟨Finset.mem_univ _, drop_row h r k⟩, le_rfl⟩

theorem max_le' (c : EReal) (h0 : init (Shape.Idx.first hu) ≤ c) (hx : ∀ k, x (ix2 r k) ≤ c) :
    Host.reduce (max : EReal → EReal → EReal) x init h hu (ix1 r) ≤ c := by
  rw [Host.reduce_eq_fold, Finset.fold_max_le]
  refine ⟨h0, fun i hi => ?_⟩
  rw [of_drop h r i (Finset.mem_filter.1 hi).2]
  exact hx _

theorem min_le' (k : Fin N) : Host.reduce (min : EReal → EReal → EReal) x init h hu (ix1 r) ≤ x (ix2 r k) := by
  rw [Host.reduce_eq_fold, Finset.fold_min_le]
  exact .inr ⟨ix2 r k, Finset.mem_filter.2 ⟨Finset.mem_univ _, drop_row h r k⟩, le_rfl⟩

end

theorem bcast_new {R : ℕ} {α : Type} (x : (⟨1, ![R]⟩ : Shape).Idx → α) (h : (⟨1, ![R]⟩ : Shape).BroadcastsInDim ⟨2, ![R, 1]⟩ ![0])
    (r : Fin R) : broadcastInDim ⟨2, ![R, 1]⟩ ![0] h x (ix2 r 0) = x (ix1 r) := by
  unfold broadcastInDim
  refine congrArg x (funext fun b => Fin.ext ?_)
  match b with
  | ⟨0, _⟩ => exact one_or r

/-! ## The precondition's pieces -/

/-- A row's largest entry, as a column. -/
def topM (s : Tab) : FVec Ideal S32x1 .f32 := broadcastInDim S32x1 ![0] bcast_S32_S32x1_0 (rowMax s)

/-- The exponentials below the maximum, as the precondition takes them. -/
def ex2 (s : Tab) : Tab := Host.exp (subf s (broadcastInDim S32x1000000 ![0, 1] bcast_S32x1_S32x1000000_0_1 (topM s)))

/-- The smallest kept exponential of a row. -/
def cut (s : Tab) : FVec Ideal S32x1 .f32 :=
  broadcastInDim S32x1 ![0] bcast_S32_S32x1_0 (Host.reduce FloatOps.minimumf (fn_where (F := Ideal) (mask (probs s)) (constant S_ .f32 0x7F800000#32) (ex2 s))
    (constant S_ .f32 0x7F800000#32) reducesTo_S32x1000000_S32_d1 h_S_)

/-- The largest kept draw of a row. -/
def best (s : Tab) : FVec Ideal S32x1 .f32 :=
  broadcastInDim S32x1 ![0] bcast_S32_S32x1_0 (Host.reduce FloatOps.maximumf (fn_where (F := Ideal) (mask (probs s)) (constant S_ .f32 0xFF800000#32) (addf s gum))
    (constant S_ .f32 0xFF800000#32) reducesTo_S32x1000000_S32_d1 h_S_)

/-- Where the precondition says that a row's maximum is below plus infinity. -/
def bounded (s : Tab) : IVec S32x1 1 :=
  cmpf .olt (topM s) (broadcastInDim S32x1 ![] bcast_S_S32x1 (constant S_ .f32 0x7F800000#32))

/-- Where the precondition says that an entry is kept, or far below the cut-off, or a loser. -/
def apart (s : Tab) : IVec S32x1000000 1 :=
  ori (noti (andi (mask (probs s)) (cmpf .ogt (ex2 s) (broadcastInDim S32x1000000 ![0, 1] bcast_S32x1_S32x1000000_0_1
      (subf (cut s) (broadcastInDim S32x1 ![] bcast_S_S32x1 (constant S_ .f32 0x32800000#32)))))))
    (cmpf .olt (addf s gum) (broadcastInDim S32x1000000 ![0, 1] bcast_S32x1_S32x1000000_0_1 (best s)))

theorem pre_eq (A : Tab) (b : FVec Ideal S32x2048x1024 .f32) (c : FVec Ideal S1024x2 .f32) (d : FVec Ideal S2 .f32) :
    Cert.Pre_cutoff_resolved.fn (F := Ideal) A b c d = (bounded (sc A), apart (sc A)) := by
  unfold Cert.Pre_cutoff_resolved.fn fn_part1 fn_part2 fn_part3 fn_part4 bounded apart best cut ex2 topM mask late where2 over ord ordW rowsW rows probs ex rowMax sc gum key temp topp
  with_reducible rfl

variable (s : Tab) (r : Fin 32)

theorem where_at (q : IVec S32x1000000 1) (v : FVec Ideal S_ .f32) (w : EReal) (hv : ∀ j, v j = w) (x : Tab) (k : Fin 1000000) :
    fn_where (F := Ideal) q v x (ix2 (n0 := 32) (n1 := 1000000) r k)
      = if q (ix2 (n0 := 32) (n1 := 1000000) r k) = 1#1 then w else x (ix2 (n0 := 32) (n1 := 1000000) r k) := by
  have h : fn_where (F := Ideal) q v x (ix2 (n0 := 32) (n1 := 1000000) r k)
      = Scalar.select (q (ix2 (n0 := 32) (n1 := 1000000) r k)) (v (fun a => a.elim0)) (x (ix2 (n0 := 32) (n1 := 1000000) r k)) := by
    unfold fn_where
    dsimp only
    refine congrArg (fun z => Scalar.select (q (ix2 (n0 := 32) (n1 := 1000000) r k)) z (x (ix2 (n0 := 32) (n1 := 1000000) r k))) ?_
    unfold broadcastInDim
    exact congrArg v (funext fun a => a.elim0)
  rw [h, hv]
  rfl

theorem rowMax_isTop : IsTop (fun k => s (ix2 (n0 := 32) (n1 := 1000000) r k)) (rowMax s (ix1 r)) := by
  have hge : ∀ k, s (ix2 (n0 := 32) (n1 := 1000000) r k) ≤ rowMax s (ix1 r) := fun k =>
    max_ge s (constant (F := Ideal) S_ .f32 0xFF800000#32) reducesTo_S32x1000000_S32_d1 h_S_ r k
  refine ⟨hge, ?_⟩
  obtain ⟨k, hk⟩ := Finite.exists_max fun k : Fin 1000000 => s (ix2 (n0 := 32) (n1 := 1000000) r k)
  refine ⟨k, le_antisymm (hge k) ?_⟩
  refine max_le' s (constant (F := Ideal) S_ .f32 0xFF800000#32) reducesTo_S32x1000000_S32_d1 h_S_ r _ ?_ hk
  show Ideal.ofBits .f32 0xFF800000#32 ≤ _
  rw [bits_bot]
  exact bot_le

theorem topM_at : topM s (ix2 (n0 := 32) (n1 := 1) r 0) = rowMax s (ix1 r) := bcast_new (rowMax s) bcast_S32_S32x1_0 r

theorem ex2_at (k : Fin 1000000) : ex2 s (ix2 (n0 := 32) (n1 := 1000000) r k) = Ideal.exp (s (ix2 (n0 := 32) (n1 := 1000000) r k) - rowMax s (ix1 r)) := by
  rw [← topM_at, ← bcast_col (topM s) bcast_S32x1_S32x1000000_0_1 r k]
  rfl

theorem cut_le (k : Fin 1000000) (hk : mask (probs s) (ix2 (n0 := 32) (n1 := 1000000) r k) ≠ 1#1) :
    cut s (ix2 (n0 := 32) (n1 := 1) r 0) ≤ ex2 s (ix2 (n0 := 32) (n1 := 1000000) r k) := by
  have h := min_le' (fn_where (F := Ideal) (mask (probs s)) (constant S_ .f32 0x7F800000#32) (ex2 s)) (constant (F := Ideal) S_ .f32 0x7F800000#32)
    reducesTo_S32x1000000_S32_d1 h_S_ r k
  rw [where_at r (mask (probs s)) (constant (F := Ideal) S_ .f32 0x7F800000#32) ⊤ (fun _ => bits_top), if_neg hk] at h
  exact (bcast_new _ bcast_S32_S32x1_0 r).trans_le h

theorem best_le (c : EReal) (hc : ∀ k, mask (probs s) (ix2 (n0 := 32) (n1 := 1000000) r k) ≠ 1#1 →
      s (ix2 (n0 := 32) (n1 := 1000000) r k) + gum (ix2 (n0 := 32) (n1 := 1000000) r k) ≤ c) : best s (ix2 (n0 := 32) (n1 := 1) r 0) ≤ c := by
  have h := max_le' (fn_where (F := Ideal) (mask (probs s)) (constant S_ .f32 0xFF800000#32) (addf s gum)) (constant (F := Ideal) S_ .f32 0xFF800000#32)
    reducesTo_S32x1000000_S32_d1 h_S_ r c (by
      show Ideal.ofBits .f32 0xFF800000#32 ≤ _
      rw [bits_bot]
      exact bot_le) (fun k => by
      rw [where_at r (mask (probs s)) (constant (F := Ideal) S_ .f32 0xFF800000#32) ⊥ (fun _ => bits_bot)]
      split_ifs with hk
      · exact bot_le
      · exact hc k hk)
  exact (bcast_new _ bcast_S32_S32x1_0 r).trans_le h

theorem bits_imp (a b c : BitVec 1) (h : IntOp.ori (~~~(IntOp.andi a b)) c = 1#1) (ha : a = 1#1) (hb : b = 1#1) : c = 1#1 := by
  revert a b c; decide

theorem bounded_at : bounded s (ix2 (n0 := 32) (n1 := 1) r 0) = FloatOps.cmpf (F := Ideal) (φ := .f32) .olt (topM s (ix2 (n0 := 32) (n1 := 1) r 0)) ⊤ := by
  rw [← bits_top]
  have h : ∀ v : FVec Ideal S32x1 .f32, cmpf .olt v (broadcastInDim S32x1 ![] bcast_S_S32x1 (constant S_ .f32 0x7F800000#32)) (ix2 (n0 := 32) (n1 := 1) r 0)
      = FloatOps.cmpf (F := Ideal) (φ := .f32) .olt (v (ix2 (n0 := 32) (n1 := 1) r 0)) (Ideal.ofBits .f32 0x7F800000#32) := fun v => by
    unfold cmpf broadcastInDim constant
    with_reducible_and_instances rfl
  exact h _

theorem apart_form (k : Fin 1000000) : apart s (ix2 (n0 := 32) (n1 := 1000000) r k)
    = IntOp.ori (~~~(IntOp.andi (mask (probs s) (ix2 (n0 := 32) (n1 := 1000000) r k))
        (FloatOps.cmpf (F := Ideal) (φ := .f32) .ogt (ex2 s (ix2 (n0 := 32) (n1 := 1000000) r k)) (cut s (ix2 (n0 := 32) (n1 := 1) r 0) - (((2⁻¹ : ℝ) ^ 26 : ℝ) : EReal)))))
      (FloatOps.cmpf (F := Ideal) (φ := .f32) .olt (s (ix2 (n0 := 32) (n1 := 1000000) r k) + gum (ix2 (n0 := 32) (n1 := 1000000) r k)) (best s (ix2 (n0 := 32) (n1 := 1) r 0))) := by
  rw [← bits_eps]
  have h : ∀ (q : IVec S32x1000000 1) (e d : Tab) (c b : FVec Ideal S32x1 .f32),
      ori (noti (andi q (cmpf .ogt e (broadcastInDim S32x1000000 ![0, 1] bcast_S32x1_S32x1000000_0_1
        (subf c (broadcastInDim S32x1 ![] bcast_S_S32x1 (constant S_ .f32 0x32800000#32)))))))
        (cmpf .olt d (broadcastInDim S32x1000000 ![0, 1] bcast_S32x1_S32x1000000_0_1 b)) (ix2 (n0 := 32) (n1 := 1000000) r k)
      = IntOp.ori (~~~(IntOp.andi (q (ix2 (n0 := 32) (n1 := 1000000) r k))
        (FloatOps.cmpf (F := Ideal) (φ := .f32) .ogt (e (ix2 (n0 := 32) (n1 := 1000000) r k)) (c (ix2 (n0 := 32) (n1 := 1) r 0) - Ideal.ofBits .f32 0x32800000#32))))
        (FloatOps.cmpf (F := Ideal) (φ := .f32) .olt (d (ix2 (n0 := 32) (n1 := 1000000) r k)) (b (ix2 (n0 := 32) (n1 := 1) r 0))) := fun q e d c b => by
    unfold ori noti andi cmpf
    dsimp only
    have e : subf c (broadcastInDim S32x1 ![] bcast_S_S32x1 (constant S_ .f32 0x32800000#32)) (ix2 (n0 := 32) (n1 := 1) r 0)
        = c (ix2 (n0 := 32) (n1 := 1) r 0) - Ideal.ofBits .f32 0x32800000#32 := rfl
    rw [bcast_col b bcast_S32x1_S32x1000000_0_1 r k, bcast_col _ bcast_S32x1_S32x1000000_0_1 r k, e]
  exact h _ _ _ _ _

theorem olt_one (a b : EReal) (h : FloatOps.cmpf (F := Ideal) (φ := .f32) .olt a b = 1#1) : a < b := by
  by_contra hn
  have e : FloatOps.cmpf (F := Ideal) (φ := .f32) .olt a b = Ideal.cmp .olt a b := rfl
  rw [e] at h
  simp [Ideal.cmp, hn] at h

/-- The maximum of a row is a real number, or the row is minus infinity throughout. -/
theorem real_or_bot (h : bounded s = fun _ => 1#1) : rowMax s (ix1 r) = ⊥ ∨ ∃ M : ℝ, rowMax s (ix1 r) = (M : EReal) := by
  have h' := olt_one _ _ ((bounded_at s r).symm.trans (congrFun h _))
  rw [topM_at] at h'
  generalize rowMax s (ix1 r) = z at h'
  induction z using EReal.rec with
  | bot => exact .inl rfl
  | coe x => exact .inr ⟨x, rfl⟩
  | top => exact absurd h' (lt_irrefl _)

/-- A removed entry just below the cut-off loses to the best kept one. -/
theorem apart_at (h : apart s = fun _ => 1#1) (k : Fin 1000000) (hk : mask (probs s) (ix2 (n0 := 32) (n1 := 1000000) r k) = 1#1)
    (he : cut s (ix2 (n0 := 32) (n1 := 1) r 0) - (((2⁻¹ : ℝ) ^ 26 : ℝ) : EReal) < ex2 s (ix2 (n0 := 32) (n1 := 1000000) r k)) :
    s (ix2 (n0 := 32) (n1 := 1000000) r k) + gum (ix2 (n0 := 32) (n1 := 1000000) r k) < best s (ix2 (n0 := 32) (n1 := 1) r 0) :=
  olt_one _ _ (bits_imp _ _ _ ((apart_form s r k).symm.trans (congrFun h _)) hk ((ogt_eq _ _).trans (if_pos he)))

end Cert.Hand
-- ==== Proof.RBits.lean ====
/-
The reference's random words: its generator at an entry of the table is the one-word generator at the entry's counter.
-/
module

public import proofs.«01_k».proof.Proof.Tf
public import proofs.«01_k».proof.Proof.Spec

@[expose] public section

noncomputable section

namespace Cert.Hand

open Idealize.ShloMosaic Idealize.SL.Sem Cert.Pre_cutoff_resolved Cert.Pre_cutoff_resolved.Facts

/-- A word for every entry. -/
abbrev WTab := IVec S32x1000000 32

/-- Two tables of words at one entry. -/
def at2 (p : WTab × WTab) (j : S32x1000000.Idx) : W2 := (p.1 j, p.2 j)

/-- One word as a table of rank zero. -/
abbrev word (a : BitVec 32) : IVec S_ 32 := fun _ => a

variable (a0 a1 k : BitVec 32) (j : S32x1000000.Idx)

/-- The generator's last group. -/
def t5 (p : W2) : W2 := injR k a0 5#32 (g13R p)
/-- The last two groups. -/
def t4 (p : W2) : W2 := t5 a0 k (injR a1 k 4#32 (g17R p))
/-- The last three groups. -/
def t3 (p : W2) : W2 := t4 a0 a1 k (injR a0 a1 3#32 (g13R p))
/-- The last four groups. -/
def t2 (p : W2) : W2 := t3 a0 a1 k (injR k a0 2#32 (g17R p))

theorem r9 (x y z : WTab) : at2 (fn_threefry2x32_part9 (F := Ideal) (word a0) x y z) j
    = (IntOp.addi (x j) (z j), IntOp.addi (IntOp.addi (y j) a0) 5#32) := rfl

theorem r8 (x y z : WTab) : at2 (fn_threefry2x32_part8 (F := Ideal) (word a0) (word k) x y z) j
    = injR k a0 5#32 (rndR 6#32 26#32 (rndR 26#32 6#32
        (y j, IntOp.xori (y j) (IntOp.ori (z j) (IntOp.shrui .host (x j) 17#32))))) := by
  unfold fn_threefry2x32_part8
  exact r9 a0 j _ _ _

theorem r7 (x y z : WTab) (w : BitVec 32) : at2 (fn_threefry2x32_part7 (F := Ideal) (word a0) (word a1) (word k) x y z (word w)) j
    = t5 a0 k (injR a1 k 4#32 (y j, IntOp.xori (y j) (IntOp.ori (z j) (IntOp.shrui .host (x j) w)))) := by
  unfold fn_threefry2x32_part7
  exact r8 a0 k j _ _ _

theorem r6 (x y : WTab) : at2 (fn_threefry2x32_part6 (F := Ideal) (word a0) (word a1) (word k) x y) j
    = t5 a0 k (injR a1 k 4#32 (rndR 24#32 8#32 (rndR 16#32 16#32 (rndR 29#32 3#32 (x j, IntOp.xori (x j) (y j)))))) := by
  unfold fn_threefry2x32_part6
  exact r7 a0 a1 k j _ _ _ _

theorem r5 (x y : WTab) : at2 (fn_threefry2x32_part5 (F := Ideal) (word a0) (word a1) (word k) x y) j
    = t4 a0 a1 k (injR a0 a1 3#32 (rndR 6#32 26#32 (x j, y j))) := by
  unfold fn_threefry2x32_part5
  exact r6 a0 a1 k j _ _

theorem r4 (x y : WTab) (w : BitVec 32) : at2 (fn_threefry2x32_part4 (F := Ideal) (word a0) (word a1) (word k) x y (fun _ => w)) j
    = t4 a0 a1 k (injR a0 a1 3#32 (rndR 6#32 26#32 (rndR 26#32 6#32 (rndR 15#32 17#32
        (y j, IntOp.xori (y j) (IntOp.ori (IntOp.shli .host (x j) w) (IntOp.shrui .host (x j) 19#32))))))) := by
  unfold fn_threefry2x32_part4
  exact r5 a0 a1 k j _ _

theorem r3 (x y z : WTab) : at2 (fn_threefry2x32_part3 (F := Ideal) (word a0) (word a1) (word k) x y z) j
    = t3 a0 a1 k (injR k a0 2#32 (rndR 24#32 8#32 (y j, IntOp.xori (y j) (IntOp.ori (z j) (IntOp.shrui .host (x j) 16#32))))) := by
  unfold fn_threefry2x32_part3
  exact r4 a0 a1 k j _ _ _

theorem r2 (x y : WTab) (w : BitVec 32) : at2 (fn_threefry2x32_part2 (F := Ideal) (word a0) (word a1) (word k) x y (word w)) j
    = t2 a0 a1 k (x j, IntOp.addi (y j) w) := by
  unfold fn_threefry2x32_part2
  exact r3 a0 a1 k j _ _ _

theorem r1 (x y : WTab) : at2 (fn_threefry2x32_part1 (F := Ideal) (word a0) (word a1) (word k) x y) j
    = t2 a0 a1 k (injR a1 k 1#32 (rndR 6#32 26#32 (rndR 26#32 6#32 (x j, IntOp.xori (x j) (y j))))) := by
  unfold fn_threefry2x32_part1
  exact r2 a0 a1 k j _ _ _

/-- The generator at key words `a0`, `a1`. -/
theorem r0 (hi lo : WTab) : at2 (fn_threefry2x32 (F := Ideal) (word a0) (word a1) hi lo) j
    = tfR a0 a1 (IntOp.xori (IntOp.xori a0 a1) 466688986#32) (IntOp.addi (hi j) a0, IntOp.addi (lo j) a1) := by
  have e : ∀ (K : BitVec 32) (p : W2), tfR a0 a1 K p = t2 a0 a1 K (injR a1 K 1#32 (rndR 6#32 26#32 (rndR 26#32 6#32
      ((rndR 15#32 17#32 (rndR 13#32 19#32 p)).1, (rndR 15#32 17#32 (rndR 13#32 19#32 p)).2)))) := fun _ _ => rfl
  rw [e]
  unfold fn_threefry2x32
  refine (r1 a0 a1 (IntOp.xori (IntOp.xori a0 a1) 466688986#32) j _ _).trans ?_
  rfl

/-- Its word at an entry whose counter's high half is zero. -/
theorem word_at (hi lo : WTab) (h : hi j = 0#32) :
    IntOp.xori ((fn_threefry2x32 (F := Ideal) (word 0#32) (word 42#32) hi lo).1 j) ((fn_threefry2x32 (F := Ideal) (word 0#32) (word 42#32) hi lo).2 j)
      = tfWord (lo j) := by
  have e := r0 0#32 42#32 j hi lo
  rw [h] at e
  have e1 := congrArg Prod.fst e
  have e2 := congrArg Prod.snd e
  rw [← tfR_word]
  exact congrArg₂ IntOp.xori e1 e2

end Cert.Hand
-- ==== Proof.GumAt.lean ====
/-
The reference's noise at an entry: the noise of the generator's word at the entry's place in the flattened table.
-/
module

public import proofs.«01_k».proof.Proof.GumSpec
public import proofs.«01_k».proof.Proof.RBits
public import proofs.«01_k».proof.Proof.Noise

@[expose] public section

noncomputable section

namespace Cert.Hand

open Idealize.ShloMosaic Cert.Pre_cutoff_resolved Cert.Pre_cutoff_resolved.Facts

theorem kw0_key : kw0 key = word 0#32 := by
  funext j
  have e : j = fun a => a.elim0 := funext fun a => a.elim0
  subst e
  decide +kernel

theorem kw1_key : kw1 key = word 42#32 := by
  funext j
  have e : j = fun a => a.elim0 := funext fun a => a.elim0
  subst e
  decide +kernel

theorem ctr_at (r : Fin 32) (k : Fin 1000000) : ctr (ix2 (n0 := 32) (n1 := 1000000) r k) = BitVec.ofNat 64 (r.val * 1000000 + k.val) := by
  show 1000000#64 * BitVec.ofNat 64 r.val + 1#64 * BitVec.ofNat 64 k.val = _
  have := r.isLt
  have := k.isLt
  apply BitVec.eq_of_toNat_eq
  simp only [BitVec.toNat_add, BitVec.toNat_mul, BitVec.toNat_ofNat]
  omega

theorem ctrLo_at (r : Fin 32) (k : Fin 1000000) : ctrLo (ix2 (n0 := 32) (n1 := 1000000) r k) = BitVec.ofNat 32 (r.val * 1000000 + k.val) := by
  show (ctr (ix2 (n0 := 32) (n1 := 1000000) r k)).setWidth 32 = _
  rw [ctr_at]
  have := r.isLt
  have := k.isLt
  apply BitVec.eq_of_toNat_eq
  simp only [BitVec.toNat_setWidth, BitVec.toNat_ofNat]
  omega

theorem ctrHi_at (r : Fin 32) (k : Fin 1000000) : ctrHi (ix2 (n0 := 32) (n1 := 1000000) r k) = 0#32 := by
  show (IntOp.shrui .host (ctr (ix2 (n0 := 32) (n1 := 1000000) r k)) 32#64).setWidth 32 = _
  rw [ctr_at]
  unfold IntOp.shrui
  rw [if_pos (by decide)]
  have := r.isLt
  have := k.isLt
  apply BitVec.eq_of_toNat_eq
  simp only [BitVec.toNat_setWidth, BitVec.toNat_ushiftRight, BitVec.ushiftRight_eq', BitVec.toNat_ofNat, Nat.shiftRight_eq_div_pow, Nat.reducePow, Nat.reduceMod]
  rw [Nat.mod_eq_of_lt (by omega : r.val * 1000000 + k.val < 18446744073709551616), Nat.div_eq_of_lt (by omega)]

/-- The uniform draw at an entry is the unit number of its word. -/
theorem part1_at (v : IVec S32x1000000 32) (j : S32x1000000.Idx) :
    fn_uniform_part1 (F := Ideal) uLo uHi v j = max (Ideal.ofBits .f32 0x00800000#32) (unit (v j)) := by
  have h : IntOp.shrui .host (v j) 9#32 = IntOp.shrui .vector (v j) 9#32 := rfl
  unfold unit
  rw [← h]
  rfl

theorem gum_at (r : Fin 32) (k : Fin 1000000) :
    gum (ix2 (n0 := 32) (n1 := 1000000) r k) = noise (tfWord (BitVec.ofNat 32 (r.val * 1000000 + k.val))) := by
  rw [gum_eq, uni_eq, kw0_key, kw1_key]
  have hn : ∀ u : Tab, Host.negf (Host.log (Host.negf (Host.log u))) (ix2 (n0 := 32) (n1 := 1000000) r k)
      = 0 - Ideal.log (0 - Ideal.log (u (ix2 (n0 := 32) (n1 := 1000000) r k))) := fun u => by
    rw [zero_sub, zero_sub]
    rfl
  rw [hn, part1_at]
  have hw := word_at (j := ix2 (n0 := 32) (n1 := 1000000) r k) ctrHi ctrLo (ctrHi_at r k)
  rw [ctrLo_at] at hw
  rw [← hw]
  rfl

end Cert.Hand
-- ==== Proof.RProb.lean ====
/-
The reference's softmax and its sampled entries at an index.
-/
module

public import proofs.«01_k».proof.Proof.PreAt
public import proofs.«01_k».proof.Proof.GumAt

@[expose] public section

noncomputable section

namespace Cert.Hand

open Idealize.ShloMosaic Cert.Pre_cutoff_resolved Cert.Pre_cutoff_resolved.Facts

theorem sum_row {R N : ℕ} (x : (⟨2, ![R, N]⟩ : Shape).Idx → EReal) (init : EReal) (h : (⟨2, ![R, N]⟩ : Shape).ReducesTo [1] ⟨1, ![R]⟩)
    (r : Fin R) : Ideal.hostReduceAdd h x init (ix1 r) = init + ∑ k : Fin N, x (ix2 r k) := by
  unfold Ideal.hostReduceAdd
  refine congrArg (init + ·) (Finset.sum_nbij' (fun i => (i 1 : Fin N)) (fun k => ix2 r k) (fun i _ => Finset.mem_univ _)
    (fun k _ => Finset.mem_filter.2 ⟨Finset.mem_univ _, drop_row h r k⟩) (fun i hi => (of_drop h r i (Finset.mem_filter.1 hi).2).symm)
    (fun k _ => rfl) (fun i hi => congrArg x (of_drop h r i (Finset.mem_filter.1 hi).2)))

theorem divf_at (x y : Tab) (j : S32x1000000.Idx) : Host.divf x y j = Ideal.div (x j) (y j) := rfl
theorem exp_at (x y : Tab) (j : S32x1000000.Idx) : Host.exp (subf x y) j = Ideal.exp (x j - y j) := rfl
theorem addf_at (x y : Tab) (j : S32x1000000.Idx) : addf x y j = x j + y j := rfl

variable (A s : Tab) (r : Fin 32)

theorem sc_at (j : S32x1000000.Idx) : sc A j = Ideal.div (A j) (tempR : EReal) := by
  have e : broadcastInDim S32x1000000 ![] bcast_S_S32x1000000 (id temp) j = (tempR : EReal) := by
    unfold broadcastInDim
    exact temp_at _
  unfold sc
  rw [divf_at, e]

theorem ex_at (k : Fin 1000000) : ex s (ix2 (n0 := 32) (n1 := 1000000) r k) = Ideal.exp (s (ix2 (n0 := 32) (n1 := 1000000) r k) - rowMax s (ix1 r)) := by
  have h : ∀ w : FVec Ideal S32 .f32, Host.exp (subf s (broadcastInDim S32x1000000 ![0, 1] bcast_S32x1_S32x1000000_0_1 (broadcastInDim S32x1 ![0] bcast_S32_S32x1_0 w)))
      (ix2 (n0 := 32) (n1 := 1000000) r k) = Ideal.exp (s (ix2 (n0 := 32) (n1 := 1000000) r k) - w (ix1 r)) := fun w => by
    rw [exp_at, bcast_col _ bcast_S32x1_S32x1000000_0_1 r k, bcast_new w bcast_S32_S32x1_0 r]
  have hm : maximumf (broadcastInDim S32 ![] bcast_S_S32 (constant S_ .f32 0xFF800000#32)) (rowMax s) (ix1 r) = rowMax s (ix1 r) := by
    have h' : ∀ w : FVec Ideal S32 .f32, maximumf (broadcastInDim S32 ![] bcast_S_S32 (constant S_ .f32 0xFF800000#32)) w (ix1 r)
        = max (Ideal.ofBits .f32 0xFF800000#32) (w (ix1 r)) := fun w => rfl
    rw [h', bits_bot, max_eq_right bot_le]
  rw [← hm]
  unfold ex
  exact h _

/-- The softmax of a row whose exponentials are real. -/
theorem probs_at (e : Fin 1000000 → ℝ) (he : ∀ k, ex s (ix2 (n0 := 32) (n1 := 1000000) r k) = (e k : EReal)) (hz : 0 < ∑ k, e k) (k : Fin 1000000) :
    probs s (ix2 (n0 := 32) (n1 := 1000000) r k) = ((e k / ∑ k, e k : ℝ) : EReal) := by
  have hs : Host.reduceAdd (ex s) (constant S_ .f32 0x00000000#32) reducesTo_S32x1000000_S32_d1 h_S_ (ix1 r) = ((∑ k, e k : ℝ) : EReal) := by
    refine (sum_row (ex s) (Ideal.ofBits .f32 0x00000000#32) reducesTo_S32x1000000_S32_d1 r).trans ?_
    rw [Ideal.ofBits_zero_f32, zero_add, coe_sum']
    exact Finset.sum_congr rfl fun k _ => he k
  have h : ∀ (x : Tab) (w : FVec Ideal S32 .f32), Host.divf x (broadcastInDim S32x1000000 ![0, 1] bcast_S32x1_S32x1000000_0_1 (broadcastInDim S32x1 ![0] bcast_S32_S32x1_0 w))
      (ix2 (n0 := 32) (n1 := 1000000) r k) = Ideal.div (x (ix2 (n0 := 32) (n1 := 1000000) r k)) (w (ix1 r)) := fun x w => by
    rw [divf_at, bcast_col _ bcast_S32x1_S32x1000000_0_1 r k, bcast_new w bcast_S32_S32x1_0 r]
  unfold probs
  rw [h, hs, he]
  unfold Ideal.div
  rw [if_neg (fun h0 => hz.ne' (EReal.coe_eq_zero.1 h0)), ← EReal.coe_inv, ← EReal.coe_mul, div_eq_mul_inv]

/-- The entries the reference picks the largest of. -/
theorem noisy_at (k : Fin 1000000) : noisy s (ix2 (n0 := 32) (n1 := 1000000) r k)
    = gum (ix2 (n0 := 32) (n1 := 1000000) r k) + (if mask (probs s) (ix2 (n0 := 32) (n1 := 1000000) r k) = 1#1 then ⊥ else s (ix2 (n0 := 32) (n1 := 1000000) r k)) := by
  unfold noisy
  rw [addf_at, where_at r (mask (probs s)) (constant (F := Ideal) S_ .f32 0xFF800000#32) ⊥ (fun _ => bits_bot) s k]

/-- The removed entries of a row in terms of its exponentials. -/
theorem removed_at (e : Fin 1000000 → ℝ) (he : ∀ k, ex s (ix2 (n0 := 32) (n1 := 1000000) r k) = (e k : EReal)) (hz : 0 < ∑ k, e k) :
    ∃ σ : Fin 1000000 → Fin 1000000, Function.Bijective σ ∧ (∀ i j, i < j → e (σ j) ≤ e (σ i))
      ∧ ∀ k, mask (probs s) (ix2 (n0 := 32) (n1 := 1000000) r (σ k)) = 1#1
          ↔ 1 ≤ k.val ∧ toppR * ∑ k, e k < ∑ j ∈ Finset.univ.filter (fun j : Fin 1000000 => j < k), e (σ j) := by
  obtain ⟨σ, hb, ho, hm⟩ := mask_at (probs s) r
  refine ⟨σ, hb, fun i j hij => ?_, fun k => (hm k).trans (and_congr_right fun _ => ?_)⟩
  · have h := ho i j hij
    rw [probs_at s r e he hz, probs_at s r e he hz, EReal.coe_le_coe_iff, div_le_div_iff_of_pos_right hz] at h
    exact h
  · rw [Finset.sum_congr rfl fun j _ => probs_at s r e he hz (σ j), ← coe_sum', EReal.coe_lt_coe_iff, ← Finset.sum_div, lt_div_iff₀ hz]

end Cert.Hand
-- ==== Proof.RPick.lean ====
/-
The sampled column of a row is the first place of the row's largest entry.
-/
module

public import proofs.«01_k».proof.Proof.Row
public import Idealize.ShloMosaic.Lib.WordCmp

@[expose] public section

noncomputable section

namespace Cert.Hand

open Idealize.ShloMosaic Cert.Pre_cutoff_resolved Cert.Pre_cutoff_resolved.Facts

/-- One step of the search for the largest entry: the earlier pair stays if it is larger, or equal with a smaller place. -/
theorem reducer_eq (a b : EReal × BitVec 32) :
    Cert.ReferenceIdeal.reducer_argmax_f32_i32 (F := Ideal) a b = if b.1 < a.1 ∨ (a.1 = b.1 ∧ a.2.toInt < b.2.toInt) then a else b := by
  obtain ⟨a1, a2⟩ := a
  obtain ⟨b1, b2⟩ := b
  unfold Cert.ReferenceIdeal.reducer_argmax_f32_i32
  have hne : FloatOps.cmpf (F := Ideal) (φ := .f32) .une a1 a1 = 0#1 := by
    show Ideal.cmp .une a1 a1 = _
    simp [Ideal.cmp]
  have hlt : IntOp.cmpi .slt a2 b2 = if a2.toInt < b2.toInt then 1#1 else 0#1 := by
    rw [WordCmp.cmpi_slt_eq]
    by_cases h : a2.toInt < b2.toInt <;> simp [h]
  dsimp only
  rw [hne, hlt, ogt_eq, oeq_eq]
  rcases lt_trichotomy a1 b1 with h | h | h
  · have h2 : ¬ b1 < a1 := not_lt.2 h.le
    have h3 : a1 ≠ b1 := h.ne
    simp [h2, h3, IntOp.ori, IntOp.andi, Scalar.select]
  · subst h
    by_cases h4 : a2.toInt < b2.toInt <;> simp [h4, IntOp.ori, IntOp.andi, Scalar.select]
  · have h3 : a1 ≠ b1 := h.ne'
    simp [h, h3, IntOp.ori, IntOp.andi, Scalar.select]

/-- A pair that no entry of a list beats. -/
def Tops (p : EReal × BitVec 32) (l : List (EReal × BitVec 32)) : Prop :=
  ∀ q ∈ l, q.1 ≤ p.1 ∧ (q.1 = p.1 → p.2.toInt ≤ q.2.toInt)

/-- The search over a list ends with a pair of the list, or the one it started from, that nothing met beats. -/
theorem foldl_tops (l : List (EReal × BitVec 32)) (p : EReal × BitVec 32) :
    let e := l.foldl (Cert.ReferenceIdeal.reducer_argmax_f32_i32 (F := Ideal)) p
    (e = p ∨ e ∈ l) ∧ Tops e (p :: l) := by
  induction l generalizing p with
  | nil => exact ⟨.inl rfl, fun q hq => by rw [List.mem_singleton.1 hq]; exact ⟨le_rfl, fun _ => le_rfl⟩⟩
  | cons a l ih =>
    have hs := reducer_eq p a
    obtain ⟨h1, h2⟩ := ih (Cert.ReferenceIdeal.reducer_argmax_f32_i32 (F := Ideal) p a)
    rw [List.foldl_cons]
    generalize l.foldl (Cert.ReferenceIdeal.reducer_argmax_f32_i32 (F := Ideal)) (Cert.ReferenceIdeal.reducer_argmax_f32_i32 (F := Ideal) p a) = e at h1 h2 ⊢
    rw [hs] at h1 h2
    have h0 := h2 _ List.mem_cons_self
    refine ⟨?_, fun q hq => ?_⟩
    · rcases h1 with h1 | h1
      · split_ifs at h1
        · exact .inl h1
        · exact .inr (h1 ▸ List.mem_cons_self)
      · exact .inr (List.mem_cons_of_mem _ h1)
    · rcases List.mem_cons.1 hq with rfl | hq
      · split_ifs at h0 with h
        · exact h0
        · have h3 : q.1 ≤ a.1 := not_lt.1 fun h' => h (.inl h')
          refine ⟨h3.trans h0.1, fun he => ?_⟩
          have h4 : q.1 = a.1 := le_antisymm h3 (he ▸ h0.1)
          have h5 : ¬ q.2.toInt < a.2.toInt := fun h' => h (.inr ⟨h4, h'⟩)
          exact (h0.2 (h4 ▸ he)).trans (not_lt.1 h5)
      · rcases List.mem_cons.1 hq with rfl | hq
        · split_ifs at h0 with h
          · rcases h with h | ⟨h, h'⟩
            · exact ⟨h.le.trans h0.1, fun he => absurd (he ▸ h) (not_lt.2 h0.1)⟩
            · exact ⟨h ▸ h0.1, fun he => (h0.2 (h.trans he)).trans h'.le⟩
          · exact h0
        · exact h2 q (List.mem_cons_of_mem _ hq)

/-- The (value, place) pairs of a row. -/
theorem fiber_mem {R N : ℕ} (v : (⟨2, ![R, N]⟩ : Shape).Idx → EReal) (y : (⟨2, ![R, N]⟩ : Shape).Idx → BitVec 32)
    (h : (⟨2, ![R, N]⟩ : Shape).ReducesTo [1] ⟨1, ![R]⟩) (r : Fin R) (q : EReal × BitVec 32) :
    q ∈ Host.argReduceFiber v y h (ix1 r) ↔ ∃ k : Fin N, q = (v (ix2 r k), y (ix2 r k)) := by
  unfold Host.argReduceFiber
  constructor
  · intro hq
    obtain ⟨n, hn, rfl⟩ := List.mem_map.1 hq
    have hd := of_decide_eq_true (List.mem_filter.1 hn).2
    generalize (⟨2, ![R, N]⟩ : Shape).rowMajor.symm n = z at hd ⊢
    refine ⟨z 1, ?_⟩
    have hr : z = ix2 r (z 1) := by
      funext b
      match b with
      | ⟨0, _⟩ => exact Fin.ext ((Shape.ReducesTo.drop_apply_val h z 0).symm.trans (congrArg Fin.val (congrFun hd 0)))
      | ⟨1, _⟩ => rfl
    exact Prod.ext (congrArg v hr) (congrArg y hr)
  · rintro ⟨k, rfl⟩
    refine List.mem_map.2 ⟨(⟨2, ![R, N]⟩ : Shape).rowMajor (ix2 r k), List.mem_filter.2 ⟨List.mem_finRange _, decide_eq_true ?_⟩, ?_⟩
    · rw [Equiv.symm_apply_apply]
      funext b
      match b with
      | ⟨0, _⟩ => exact Fin.ext (Shape.ReducesTo.drop_apply_val h (ix2 r k) 0)
    · rw [Equiv.symm_apply_apply]

/-- The search over a row that holds its places beside its entries. -/
theorem argmax_row {N : ℕ} (hN : 0 < N) (hN' : N < 2 ^ 31) (v : Fin N → EReal) (l : List (EReal × BitVec 32))
    (hl : ∀ q, q ∈ l ↔ ∃ k : Fin N, q = (v k, BitVec.ofNat 32 k.val)) :
    ∃ i : Fin N, (∀ k, v k ≤ v i ∧ (v k = v i → i.val ≤ k.val))
      ∧ (l.foldl (Cert.ReferenceIdeal.reducer_argmax_f32_i32 (F := Ideal)) (⊥, 0#32)).2 = BitVec.ofNat 32 i.val := by
  obtain ⟨hm, ht⟩ := foldl_tops l (⊥, 0#32)
  generalize l.foldl (Cert.ReferenceIdeal.reducer_argmax_f32_i32 (F := Ideal)) (⊥, 0#32) = e at hm ht ⊢
  obtain ⟨i, hi⟩ : ∃ k : Fin N, e = (v k, BitVec.ofNat 32 k.val) := by
    rcases hm with hm | hm
    · refine ⟨⟨0, hN⟩, ?_⟩
      have h1 := (ht _ (List.mem_cons_of_mem _ ((hl _).2 ⟨⟨0, hN⟩, rfl⟩))).1
      rw [hm] at h1 ⊢
      exact Prod.ext (le_bot_iff.1 h1).symm rfl
    · exact (hl e).1 hm
  refine ⟨i, fun k => ?_, by rw [hi]⟩
  have h1 := ht _ (List.mem_cons_of_mem _ ((hl _).2 ⟨k, rfl⟩))
  rw [hi] at h1
  refine ⟨h1.1, fun h2 => ?_⟩
  have h3 := h1.2 h2
  dsimp only at h3
  have hk := k.isLt
  have hi' := i.isLt
  rw [StableHlo.Predicate.toInt_ofNat_small _ (by omega), StableHlo.Predicate.toInt_ofNat_small _ (by omega)] at h3
  exact_mod_cast h3

theorem pick_eq (v : Tab) (r : Fin 32) : pick v (ix2 (n0 := 32) (n1 := 1) r 0) =
    (Host.argReduce (F := Ideal) Cert.ReferenceIdeal.reducer_argmax_f32_i32 v (iotaInDim S32x1000000 32 1) (constant S_ .f32 0xFF800000#32)
      (constantI S_ 32 0#32) reducesTo_S32x1000000_S32_d1 h_S_ (ix1 r)).2 := by
  have h : ∀ e : S32.Idx → EReal × BitVec 32, broadcastInDim S32x1 ![0] bcast_S32_S32x1_0 (fun j => (e j).2) (ix2 (n0 := 32) (n1 := 1) r 0) = (e (ix1 r)).2 := fun e => by
    unfold broadcastInDim
    refine congrArg (fun j => (e j).2) (funext fun b => ?_)
    match b with
    | ⟨0, _⟩ => rfl
  exact h _

theorem pick_fold (v : Tab) (r : Fin 32) : pick v (ix2 (n0 := 32) (n1 := 1) r 0) =
    ((Host.argReduceFiber v (iotaInDim S32x1000000 32 1) reducesTo_S32x1000000_S32_d1 (ix1 r)).foldl
      (Cert.ReferenceIdeal.reducer_argmax_f32_i32 (F := Ideal)) (⊥, 0#32)).2 := by
  rw [pick_eq, Ideal.argReduce_eq_reduce2, Host.reduce2_eq_foldl_fiber]
  have h0 : (constant (F := Ideal) S_ .f32 0xFF800000#32) (Shape.Idx.first h_S_) = (⊥ : EReal) := bits_bot
  have h0' : (constantI S_ 32 0#32) (Shape.Idx.first h_S_) = 0#32 := rfl
  rw [h0, h0']

theorem fiber_row (v : Tab) (r : Fin 32) (q : EReal × BitVec 32) :
    q ∈ Host.argReduceFiber v (iotaInDim S32x1000000 32 1) reducesTo_S32x1000000_S32_d1 (ix1 r)
      ↔ ∃ k : Fin 1000000, q = (v (ix2 (n0 := 32) (n1 := 1000000) r k), BitVec.ofNat 32 k.val) :=
  fiber_mem v (iotaInDim S32x1000000 32 1) reducesTo_S32x1000000_S32_d1 r q

/-- The sampled column of row `r`. -/
theorem pick_at (v : Tab) (r : Fin 32) :
    ∃ i, FirstMax (row v r) 1000000 i ∧ pick v (ix2 (n0 := 32) (n1 := 1) r 0) = BitVec.ofNat 32 i := by
  obtain ⟨i, h1, h2⟩ := argmax_row (by norm_num) (by norm_num) (fun k : Fin 1000000 => v (ix2 (n0 := 32) (n1 := 1000000) r k)) _ (fiber_row v r)
  refine ⟨i.val, ⟨i.isLt, fun k hk => ?_⟩, (pick_fold v r).trans h2⟩
  have h3 := h1 ⟨k, hk⟩
  rw [row_fin, show row v r k = _ from row_fin v r ⟨k, hk⟩]
  exact h3

end Cert.Hand
-- ==== Proof.Agree.lean ====
/-
The two samplers agree on a row: the reference's removed entries, the kernel's threshold and the noise as plain sequences.
-/
module

public import proofs.«01_k».proof.Proof.Abs
public import proofs.«01_k».proof.Proof.Red

@[expose] public section

noncomputable section

namespace Cert.Hand

open Idealize.ShloMosaic

/-- The mass above a threshold does not change when the entries are put in another order. -/
theorem mass_perm {N : ℕ} (a : Fin N → ℝ) (σ : Fin N → Fin N) (hσ : Function.Bijective σ) (t : ℝ) : mass (fun k => a (σ k)) t = mass a t :=
  Equiv.sum_comp (Equiv.ofBijective σ hσ) fun k => if t < a k then a k else 0

/-- The threshold after 26 trips of the bisection separates the kept entries: they lie above it, and some kept one lies at most
    `2⁻²⁶` above it. -/
theorem threshold {N : ℕ} (a : Fin N → ℝ) (hnn : ∀ k, 0 ≤ a k) (h1 : ∀ k, a k ≤ 1) (hone : ∃ k, a k = 1) (q : ℝ) (hq0 : 0 < q) (hq1 : q < 1)
    (σ : Fin N → Fin N) (hσ : Function.Bijective σ) (hanti : ∀ i j, i < j → a (σ j) ≤ a (σ i)) (rem : Fin N → Prop)
    (hrem : ∀ k, rem (σ k) ↔ 1 ≤ k.val ∧ q * ∑ k, a k < ∑ j ∈ Finset.univ.filter (fun j : Fin N => j < k), a (σ j)) :
    let lo := ((bis (mass a) (q * ∑ k, a k))^[26] (0, 1)).1
    0 ≤ lo ∧ (∀ k, ¬ rem k → lo < a k) ∧ ∃ k, ¬ rem k ∧ a k ≤ lo + (2⁻¹ : ℝ) ^ 26 := by
  intro lo
  have hpos : 0 < ∑ k, a k := by
    obtain ⟨k, hk⟩ := hone
    have h : a k ≤ ∑ k, a k := Finset.single_le_sum (fun i _ => hnn i) (Finset.mem_univ k)
    linarith
  have hm0 : mass a 0 = ∑ k, a k := Finset.sum_congr rfl fun k _ => by
    split_ifs with h
    · rfl
    · exact le_antisymm (hnn k) (not_lt.1 h)
  have hm1 : mass a 1 = 0 := Finset.sum_eq_zero fun k _ => if_neg (not_lt.2 (h1 k))
  have hlt : q * ∑ k, a k < ∑ k, a k := by nlinarith
  obtain ⟨hd, hp2, hp1, hlo, hhi⟩ := bis_inv (mass a) (q * ∑ k, a k) (by rw [hm0]; exact hlt) (by rw [hm1]; positivity) 26
  have hlo1 : lo < 1 := by
    have hp : (0 : ℝ) < (2⁻¹ : ℝ) ^ 26 := by positivity
    have : lo = ((bis (mass a) (q * ∑ k, a k))^[26] (0, 1)).1 := rfl
    linarith
  have hsum : ∑ k, a (σ k) = ∑ k, a k := Equiv.sum_comp (Equiv.ofBijective σ hσ) a
  have hk := kept_between (fun k => a (σ k)) (fun i j hij => by
      rcases hij.lt_or_eq with h | h
      · exact hanti i j h
      · rw [h]) (fun k => hnn _) (q * ∑ k, a k) lo ((bis (mass a) (q * ∑ k, a k))^[26] (0, 1)).2 (by rw [hsum]; exact hlt)
    (by rw [mass_perm a σ hσ]; exact hlo) (by rw [mass_perm a σ hσ]; exact hhi) (fun k hk => by
      obtain ⟨i, hi⟩ := hone
      obtain ⟨l, hl⟩ := hσ.surjective i
      have h : a (σ l) ≤ a (σ k) := by
        by_cases e : k = l
        · rw [e]
        · exact hanti k l (Fin.lt_def.2 (by have : k.val ≠ l.val := fun h => e (Fin.ext h); omega))
      have h' : a (σ l) = 1 := by rw [hl, hi]
      show lo < a (σ k)
      linarith) (fun k => rem (σ k)) hrem
  refine ⟨hp1, fun k hk' => ?_, ?_⟩
  · obtain ⟨l, rfl⟩ := hσ.surjective k
    exact hk.1 l hk'
  · obtain ⟨l, hl, hl'⟩ := hk.2
    refine ⟨σ l, hl, hl'.trans ?_⟩
    have : lo = ((bis (mass a) (q * ∑ k, a k))^[26] (0, 1)).1 := rfl
    linarith

/-- Both samplers' first largest entries are one. `S` are the scaled logits, `G` the noise, `e` the exponentials, `rem` the
    removed entries; past `N` the logits are minus infinity. -/
theorem sampled {N N' : ℕ} (hN : N ≤ N') (S G : ℕ → EReal) (e : ℕ → ℝ) (rem : Fin N → Prop) (lo : ℝ) (cut best : EReal)
    (h0 : 0 ≤ lo) (hkept : ∀ k, ¬ rem k → lo < e k.val) (hsome : ∃ k, ¬ rem k ∧ e k.val ≤ lo + (2⁻¹ : ℝ) ^ 26)
    (hpad : ∀ n, N ≤ n → e n = 0)
    (hcut : ∀ k, ¬ rem k → cut ≤ (e k.val : EReal)) (hbest : ∀ c, (∀ k, ¬ rem k → S k.val + G k.val ≤ c) → best ≤ c)
    (hloss : ∀ k, rem k → cut - (((2⁻¹ : ℝ) ^ 26 : ℝ) : EReal) < (e k.val : EReal) → S k.val + G k.val < best)
    (v v' : ℕ → EReal) (hv : ∀ k : Fin N, (¬ rem k → v k.val = S k.val + G k.val) ∧ (rem k → v k.val = ⊥))
    (hv' : ∀ n < N', v' n = if lo < e n then S n + G n else ⊥) (hend : ∀ n, N' ≤ n → v' n = ⊥)
    (i i' : ℕ) (hi : FirstMax v N i) (hi' : FirstMax v' N' i') : i = i' := by
  refine hi.agree hi' hN (B := best) (fun j hj => ?_) ?_ fun j hj => ?_
  · by_cases hj' : j < N'
    · rw [hv' j hj', hpad j hj, if_neg (not_lt.2 h0)]
    · exact hend j (by omega)
  · refine hbest _ fun k hk => ?_
    rw [← (hv k).1 hk]
    exact (hi.2 k.val k.isLt).1
  · have hvj := hv ⟨j, hj⟩
    dsimp only at hvj
    rw [hv' j (by omega)]
    by_cases hr : rem ⟨j, hj⟩
    · rw [hvj.2 hr]
      split_ifs with hlo
      · refine .inr ⟨bot_le, hloss ⟨j, hj⟩ hr ?_⟩
        obtain ⟨k, hk, hke⟩ := hsome
        have h1 : cut ≤ ((lo + (2⁻¹ : ℝ) ^ 26 : ℝ) : EReal) := (hcut k hk).trans (EReal.coe_le_coe_iff.2 hke)
        have h2 : cut - (((2⁻¹ : ℝ) ^ 26 : ℝ) : EReal) ≤ ((lo + (2⁻¹ : ℝ) ^ 26 : ℝ) : EReal) - (((2⁻¹ : ℝ) ^ 26 : ℝ) : EReal) := EReal.sub_le_sub h1 le_rfl
        rw [← EReal.coe_sub, add_sub_cancel_right] at h2
        exact h2.trans_lt (EReal.coe_lt_coe_iff.2 hlo)
      · exact .inl rfl
    · rw [hvj.1 hr, if_pos (hkept ⟨j, hj⟩ hr)]
      exact .inl rfl

end Cert.Hand
-- ==== Proof.RowSame.lean ====
/-
The kernel and the reference sample the same column of every row.
-/
module

public import proofs.«01_k».proof.Proof.KVal
public import proofs.«01_k».proof.Proof.RProb
public import proofs.«01_k».proof.Proof.RPick
public import proofs.«01_k».proof.Proof.Agree

@[expose] public section

noncomputable section

namespace Cert.KernelIdeal.Hand

open Idealize.ShloMosaic Idealize.ShloMosaic.TcCoe Idealize.SL.Sem Cert.KernelIdeal Cert.KernelIdeal.Gen Cert.Hand

/-! ## The kernel's block as one row -/

/-- The column that a cell of the block holds. -/
def place (i : S1x1024x1024.Idx) : ℕ := (i 1).val * 1024 + (i 2).val

theorem place_lt (i : S1x1024x1024.Idx) : place i < 1048576 := by
  have h1 : (i 1).val < 1024 := (i 1).isLt
  have h2 : (i 2).val < 1024 := (i 2).isLt
  unfold place
  omega

theorem cell_place (i : S1x1024x1024.Idx) : cell (place i) = i := by
  have h0 : (i 0).val < 1 := (i 0).isLt
  have h1 : (i 1).val < 1024 := (i 1).isLt
  have h2 : (i 2).val < 1024 := (i 2).isLt
  funext b
  refine Fin.ext ?_
  match b with
  | ⟨0, _⟩ => show 0 = (i 0).val; omega
  | ⟨1, _⟩ => show ((i 1).val * 1024 + (i 2).val) / 1024 % 1024 = (i 1).val; omega
  | ⟨2, _⟩ => show ((i 1).val * 1024 + (i 2).val) % 1024 = (i 2).val; omega

theorem place_cell (n : ℕ) (hn : n < 1048576) : place (cell n) = n := by
  show n / 1024 % 1024 * 1024 + n % 1024 = n
  omega

/-- A sum over the block, of numbers that vanish in the padding, is the sum over the row. -/
theorem sum_block (f : ℕ → ℝ) (hf : ∀ n, 1000000 ≤ n → f n = 0) : ∑ i : S1x1024x1024.Idx, f (place i) = ∑ k : Fin 1000000, f k.val := by
  have h1 : ∑ i : S1x1024x1024.Idx, f (place i) = ∑ n ∈ Finset.range 1048576, f n :=
    Finset.sum_nbij' place cell (fun i _ => Finset.mem_range.2 (place_lt i)) (fun n _ => Finset.mem_univ _) (fun i _ => cell_place i)
      (fun n hn => place_cell n (Finset.mem_range.1 hn)) (fun i _ => rfl)
  have h2 : ∑ n ∈ Finset.range 1000000, f n = ∑ n ∈ Finset.range 1048576, f n :=
    Finset.sum_subset (fun n hn => Finset.mem_range.2 (by have := Finset.mem_range.1 hn; omega)) fun n _ hn => hf n (by
      by_contra h
      exact hn (Finset.mem_range.2 (by omega)))
  rw [h1, ← h2, Finset.sum_range]

theorem word_row (r : Fin 32) (n : ℕ) : BitVec.ofNat 32 r.val * 1000000#32 + BitVec.ofNat 32 n = BitVec.ofNat 32 (r.val * 1000000 + n) := by
  rw [BitVec.ofNat_add, BitVec.ofNat_mul]

theorem div_bot : Ideal.div ⊥ (tempR : EReal) = ⊥ := by
  have hp : (0 : ℝ) < tempR⁻¹ := by norm_num [tempR]
  unfold Ideal.div
  rw [if_neg (fun h0 => (by norm_num [tempR] : tempR ≠ 0) (EReal.coe_eq_zero.1 h0)), ← EReal.coe_inv]
  exact EReal.bot_mul_coe_of_pos hp

variable (m : (ℓ : Loc nD τ sig) → Buf (Elt Ideal) ℓ) (c : Dev nD) (r : Fin 32)

/-- The scaled logits of a point are the row's. -/
theorem scaled (n : ℕ) (hn : n < 1048576) :
    k0_pay39 (iblk m c 0 (pt r)) (cell n) = row (sc (m ((c : Thread nD τ).loc main_arg0))) r n := by
  rw [pay39_at, iblk_cell m c r n hn]
  unfold row
  split_ifs with h
  · exact (sc_at _ _).symm
  · exact div_bot

/-- The first of a sequence that is minus infinity throughout is its first largest. -/
theorem first_bot (v : ℕ → EReal) (n i : ℕ) (hv : ∀ j < n, v j = ⊥) (h : FirstMax v n i) : i = 0 := by
  have hi := h.1
  exact Nat.le_zero.1 ((h.2 0 (by omega)).2 ((hv 0 (by omega)).trans (hv i hi).symm))

/-- A row that is minus infinity throughout: both sides answer its first column. -/
theorem row_bot (x0 : S1x1024x1024.Idx → EReal) (R : IVec S32x1 32) (s : Tab) (hs : ∀ k : Fin 1000000, s (ix2 (n0 := 32) (n1 := 1000000) r k) = ⊥)
    (hsc : ∀ n < 1048576, k0_pay39 (F := Ideal) x0 (cell n) = row s r n)
    (hres : ∀ a : S1x1024x1024.Idx → ℝ, k0_pay41 (F := Ideal) x0 = (fun i => (a i : EReal)) →
      ∃ n, FirstMax (cand ((bisAt a 26).1 : EReal) (BitVec.ofNat 32 r.val * 1000000#32) (k0_pay39 (F := Ideal) x0) (fun i => (a i : EReal))) 1048576 n
        ∧ R (ix2 (n0 := 32) (n1 := 1) r 0) = BitVec.ofNat 32 n) :
    R (ix2 (n0 := 32) (n1 := 1) r 0) = pick (noisy s) (ix2 (n0 := 32) (n1 := 1) r 0) := by
  have hrow : ∀ n, row s r n = ⊥ := fun n => by
    unfold row
    split_ifs with h
    · exact hs ⟨n, h⟩
    · rfl
  have hcell : ∀ n < 1048576, k0_pay39 (F := Ideal) x0 (cell n) = ⊥ := fun n hn => (hsc n hn).trans (hrow n)
  have hall : ∀ i, k0_pay39 (F := Ideal) x0 i = ⊥ := fun i => by
    rw [← cell_place i]
    exact hcell _ (place_lt i)
  have hpay : k0_pay41 (F := Ideal) x0 = fun i => (((fun _ => 0 : S1x1024x1024.Idx → ℝ) i : ℝ) : EReal) := by
    rw [pay41_eq x0 ⊥ ⟨fun i => (hall i).le, cell 0, hall _⟩]
    funext i
    rw [hall, EReal.bot_sub]
    rfl
  obtain ⟨n, hn, hR⟩ := hres _ hpay
  obtain ⟨i, hi, hP⟩ := pick_at (noisy s) r
  have hn0 : n = 0 := first_bot _ _ n (fun j hj => by
    unfold cand
    rw [hcell j hj, EReal.bot_add, ite_self]) hn
  have hi0 : i = 0 := first_bot _ _ i (fun j hj => by
    have h : row (noisy s) r j = noisy s (ix2 (n0 := 32) (n1 := 1000000) r ⟨j, hj⟩) := row_fin _ r ⟨j, hj⟩
    rw [h, noisy_at, hs, ite_self, EReal.add_bot]) hi
  rw [hR, hP, hn0, hi0]

theorem row_same (hr : bounded (sc (m ((c : Thread nD τ).loc main_arg0))) = fun _ => 1#1) (ha : apart (sc (m ((c : Thread nD τ).loc main_arg0))) = fun _ => 1#1) :
    res m c (ix2 (n0 := 32) (n1 := 1) r 0) = pick (noisy (sc (m ((c : Thread nD τ).loc main_arg0)))) (ix2 (n0 := 32) (n1 := 1) r 0) := by
  have hsc := scaled m c r
  have hres := res_at m c r
  generalize iblk m c 0 (pt r) = x0 at hsc hres
  generalize res m c = R at hres ⊢
  generalize sc (m ((c : Thread nD τ).loc main_arg0)) = s at hr ha hsc ⊢
  have htop := rowMax_isTop s r
  obtain hbot | ⟨M, hM⟩ := real_or_bot s r hr
  · rw [hbot] at htop
    exact row_bot r x0 R s (fun k => le_bot_iff.1 (htop.1 k)) hsc hres
  rw [hM] at htop
  have hS : ∀ n, row s r n ≤ (M : EReal) := fun n => by
    unfold row
    split_ifs with h
    · exact htop.1 ⟨n, h⟩
    · exact bot_le
  choose e he he0 he1 using fun n => exp_below (row s r n) M (hS n)
  have hpad : ∀ n, 1000000 ≤ n → e n = 0 := fun n hn => by
    have h := he n
    rw [row_of_ge s r n hn, EReal.bot_sub] at h
    exact (EReal.coe_eq_zero.1 h.symm)
  have hex : ∀ k : Fin 1000000, Ideal.exp (s (ix2 (n0 := 32) (n1 := 1000000) r k) - (M : EReal)) = (e k.val : EReal) := fun k => by
    rw [← he k.val, row_fin]
  have hone : ∃ k : Fin 1000000, e k.val = 1 := by
    obtain ⟨k, hk⟩ := htop.2
    refine ⟨k, EReal.coe_eq_one.1 ?_⟩
    have hk' : s (ix2 (n0 := 32) (n1 := 1000000) r k) = (M : EReal) := hk
    rw [← hex k, hk']
    exact exp_self M
  have hex1 : ∀ k : Fin 1000000, ex s (ix2 (n0 := 32) (n1 := 1000000) r k) = (e k.val : EReal) := fun k => by
    rw [ex_at, hM, hex]
  have hex2 : ∀ k : Fin 1000000, ex2 s (ix2 (n0 := 32) (n1 := 1000000) r k) = (e k.val : EReal) := fun k => by
    rw [ex2_at, hM, hex]
  have hz : 0 < ∑ k : Fin 1000000, e k.val := by
    obtain ⟨k, hk⟩ := hone
    have h : e k.val ≤ ∑ k : Fin 1000000, e k.val := Finset.single_le_sum (f := fun k : Fin 1000000 => e k.val) (fun i _ => he0 i.val) (Finset.mem_univ k)
    linarith
  have htopK : IsTop (k0_pay39 x0) (M : EReal) := by
    refine ⟨fun i => ?_, ?_⟩
    · rw [← cell_place i, hsc _ (place_lt i)]
      exact hS _
    · obtain ⟨k, hk⟩ := htop.2
      have hk' := k.isLt
      exact ⟨cell k.val, by rw [hsc _ (by omega), row_fin]; exact hk⟩
  have hpay : k0_pay41 x0 = fun i => ((e (place i) : ℝ) : EReal) := by
    rw [pay41_eq x0 M htopK]
    funext i
    rw [← he (place i), ← hsc _ (place_lt i), cell_place]
  obtain ⟨n, hn, hR⟩ := hres (fun i => e (place i)) hpay
  obtain ⟨i, hi, hP⟩ := pick_at (noisy s) r
  rw [hR, hP]
  obtain ⟨σ, hb, ho, hm⟩ := removed_at s r (fun k => e k.val) hex1 hz
  have hmass : above (fun i => e (place i)) = mass (fun k : Fin 1000000 => e k.val) := by
    funext t
    refine sum_block (fun n => if t < e n then e n else 0) fun n hn => ?_
    rw [hpad n hn, ite_self]
  have htot : ∑ i : S1x1024x1024.Idx, e (place i) = ∑ k : Fin 1000000, e k.val := sum_block e hpad
  obtain ⟨h0, hkept, hsome⟩ := threshold (fun k : Fin 1000000 => e k.val) (fun k => he0 k.val) (fun k => he1 k.val) hone toppR (by norm_num [toppR])
    (by norm_num [toppR]) σ hb ho (fun k => mask (probs s) (ix2 (n0 := 32) (n1 := 1000000) r k) = 1#1) hm
  have hlo : (bisAt (fun i => e (place i)) 26).1 = ((bis (mass fun k : Fin 1000000 => e k.val) (toppR * ∑ k : Fin 1000000, e k.val))^[26] (0, 1)).1 := by
    unfold bisAt
    rw [hmass, htot]
  rw [hlo] at hn
  generalize ((bis (mass fun k : Fin 1000000 => e k.val) (toppR * ∑ k : Fin 1000000, e k.val))^[26] (0, 1)).1 = lo at hn h0 hkept hsome
  refine congrArg (BitVec.ofNat 32) (Eq.symm ?_)
  refine sampled (N := 1000000) (N' := 1048576) (by norm_num) (row s r) (fun n => noise (tfWord (BitVec.ofNat 32 (r.val * 1000000 + n)))) e
    (fun k => mask (probs s) (ix2 (n0 := 32) (n1 := 1000000) r k) = 1#1) lo (cut s (ix2 (n0 := 32) (n1 := 1) r 0)) (best s (ix2 (n0 := 32) (n1 := 1) r 0))
    h0 hkept hsome hpad (fun k hk => ?_) (fun b hb => ?_) (fun k hk hc => ?_) (row (noisy s) r)
    (fun n => if n < 1048576 then cand (lo : EReal) (BitVec.ofNat 32 r.val * 1000000#32) (k0_pay39 x0) (fun i => ((e (place i) : ℝ) : EReal)) n else ⊥)
    (fun k => ⟨fun hk => ?_, fun hk => ?_⟩) (fun n hn' => ?_) (fun n hn' => if_neg (by omega)) i n hi ⟨hn.1, fun j hj => ?_⟩
  · rw [← hex2 k]
    exact cut_le s r k hk
  · refine best_le s r b fun k hk => ?_
    have h := hb k hk
    rw [row_fin, ← gum_at r k] at h
    exact h
  · rw [row_fin, ← gum_at r k]
    refine apart_at s r ha k hk ?_
    rw [hex2 k]
    exact hc
  · rw [row_fin, noisy_at, if_neg hk, row_fin, gum_at, add_comm]
  · rw [row_fin, noisy_at, if_pos hk, EReal.add_bot]
  · rw [if_pos hn']
    have hc : (lo : EReal) < ((e (place (cell n)) : ℝ) : EReal) ↔ lo < e n := by
      rw [place_cell n hn', EReal.coe_lt_coe_iff]
    unfold cand
    rw [hsc n hn', word_row]
    by_cases hl : lo < e n
    · rw [if_pos hl]
      exact if_pos (hc.2 hl)
    · rw [if_neg hl]
      exact if_neg fun h => hl (hc.1 h)
  · dsimp only
    rw [if_pos hj, if_pos hn.1]
    exact hn.2 j hj

/-- The kernel's result is the reference's. -/
theorem same (hr : bounded (sc (m ((c : Thread nD τ).loc main_arg0))) = fun _ => 1#1) (ha : apart (sc (m ((c : Thread nD τ).loc main_arg0))) = fun _ => 1#1) :
    res m c = pick (noisy (sc (m ((c : Thread nD τ).loc main_arg0)))) := by
  have h : ∀ x y : IVec S32x1 32, (∀ r : Fin 32, x (ix2 (n0 := 32) (n1 := 1) r 0) = y (ix2 (n0 := 32) (n1 := 1) r 0)) → x = y := fun x y hxy => by
    funext j
    have h1 : (j 1).val < 1 := (j 1).isLt
    have e : j = ix2 (n0 := 32) (n1 := 1) (j 0) 0 := funext fun b => Fin.ext (by
      match b with
      | ⟨0, _⟩ => rfl
      | ⟨1, _⟩ => show (j 1).val = 0; omega)
    rw [e]
    exact hxy (j 0)
  exact h _ _ fun r => row_same m c r hr ha

end Cert.KernelIdeal.Hand
-- ==== Proof.lean ====
/-
The claim: the kernel, its idealization and the reference each run to completion with their arguments kept, the idealization
is the kernel's, and it samples the reference's columns wherever the cut-off is resolved.
-/
module

public import proofs.«01_k».proof.Defs
public import proofs.«01_k».proof.Proof.Gen.Kernel.Frame
public import proofs.«01_k».proof.Proof.Gen.KernelIdeal.Frame
public import proofs.«01_k».proof.Proof.RefRun
public import proofs.«01_k».proof.Proof.RefValue
public import proofs.«01_k».proof.Proof.RowSame

@[expose] public section

noncomputable section

namespace Cert.Proof

open Idealize.ShloMosaic Idealize.SL.Sem

/-- The reference leaves its arguments alone and every counter at zero. -/
theorem reference_frame : Cert.quiescent_ReferenceIdeal := fun m g _ =>
  (θ_run Cert.ReferenceIdeal.defs _ _).mono
    (fun r h => ⟨fun c =>
        ⟨(h c _).trans (Cert.ReferenceIdeal.Hand.M_arg m c rfl), (h c _).trans (Cert.ReferenceIdeal.Hand.M_arg m c rfl),
          (h c _).trans (Cert.ReferenceIdeal.Hand.M_arg m c rfl), (h c _).trans (Cert.ReferenceIdeal.Hand.M_arg m c rfl)⟩,
      sem_eq_zero_of_no_sems (by decide) r.2⟩)
    (Cert.ReferenceIdeal.Hand.run m g)

/-- Where the cut-off is resolved, the kernel's columns are the reference's. -/
theorem same_columns : Cert.algebraic_KernelIdeal_ReferenceIdeal_pre_cutoff_resolved := by
  intro m g m' g' hpre hagree
  refine ⟨fun c => Cert.KernelIdeal.Hand.res m c, ?_, ?_⟩
  · refine (θ_run Cert.KernelIdeal.defs _ _).mono (fun r h c => ?_)
      (θ_run_and (Cert.KernelIdeal.Hand.run m g) (Cert.KernelIdeal.Gen.unchanged (F := Ideal) m g))
    exact ⟨h.1 c, h.2 c⟩
  · refine (θ_run Cert.ReferenceIdeal.defs _ _).mono (fun r h c => ?_) (Cert.ReferenceIdeal.Hand.run m' g')
    refine ⟨(h c _).trans ?_, (h c _).trans (Cert.ReferenceIdeal.Hand.M_arg m' c rfl), (h c _).trans (Cert.ReferenceIdeal.Hand.M_arg m' c rfl),
      (h c _).trans (Cert.ReferenceIdeal.Hand.M_arg m' c rfl), (h c _).trans (Cert.ReferenceIdeal.Hand.M_arg m' c rfl)⟩
    obtain ⟨h1, h2⟩ := hpre c
    rw [Cert.Hand.pre_eq] at h1 h2
    refine (Cert.ReferenceIdeal.Hand.M_result m' c).trans (Eq.trans ?_ (Cert.KernelIdeal.Hand.same m c h1 h2).symm)
    exact congrArg (fun A => Cert.Hand.pick (Cert.Hand.noisy (Cert.Hand.sc A))) (hagree c).1

theorem claim : Cert.Claim :=
  ⟨Cert.Kernel.Gen.facts, Cert.KernelIdeal.Gen.facts, Cert.ReferenceIdeal.Gen.facts, Cert.Pre_cutoff_resolved.Gen.facts,
    fun m g _ => Cert.Kernel.Gen.frame m g, fun m g _ => Cert.KernelIdeal.Gen.frame m g, fun m g _ => Cert.KernelIdeal.Gen.frame m g,
    reference_frame, fun m g _ => reference_frame m g trivial, trivial, same_columns⟩

end Cert.Proof

end
